-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_gains [hPre_finite_gains : Cert.Pre_finite_gains.Facts] (m : (ℓ : Loc Cert.KernelIdeal.nD Cert.KernelIdeal.τ Cert.KernelIdeal.sig) → Buf (Elt Ideal) ℓ) : Prop :=
  ∀ c : Dev Cert.KernelIdeal.nD,
    (Cert.Pre_finite_gains.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_gains [hPre_finite_gains : Cert.Pre_finite_gains.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_gains.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_ProjS (m : (ℓ : Loc Cert.ProjS.nD Cert.ProjS.τ Cert.ProjS.sig) → Buf (Elt Bits) ℓ) : Prop :=
  True

def Pre_ProjSIdeal (m : (ℓ : Loc Cert.ProjSIdeal.nD Cert.ProjSIdeal.τ Cert.ProjSIdeal.sig) → Buf (Elt Ideal) ℓ) : Prop :=
  True

def Pre_ProjSRefIdeal (m : (ℓ : Loc Cert.ProjSRefIdeal.nD Cert.ProjSRefIdeal.τ Cert.ProjSRefIdeal.sig) → Buf (Elt Ideal) ℓ) : Prop :=
  True

def Pre_AttnS (m : (ℓ : Loc Cert.AttnS.nD Cert.AttnS.τ Cert.AttnS.sig) → Buf (Elt Bits) ℓ) : Prop :=
  True

def Pre_AttnSIdeal (m : (ℓ : Loc Cert.AttnSIdeal.nD Cert.AttnSIdeal.τ Cert.AttnSIdeal.sig) → Buf (Elt Ideal) ℓ) : Prop :=
  True

def Pre_AttnSRefIdeal (m : (ℓ : Loc Cert.AttnSRefIdeal.nD Cert.AttnSRefIdeal.τ Cert.AttnSRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolRefIdeal (m : (ℓ : Loc Cert.PoolRefIdeal.nD Cert.PoolRefIdeal.τ Cert.PoolRefIdeal.sig) → Buf (Elt Ideal) ℓ) : Prop :=
  True

def Pre_PoolS (m : (ℓ : Loc Cert.PoolS.nD Cert.PoolS.τ Cert.PoolS.sig) → Buf (Elt Bits) ℓ) : Prop :=
  True

def Pre_PoolSIdeal (m : (ℓ : Loc Cert.PoolSIdeal.nD Cert.PoolSIdeal.τ Cert.PoolSIdeal.sig) → Buf (Elt Ideal) ℓ) : Prop :=
  True

def Pre_PoolSRefIdeal (m : (ℓ : Loc Cert.PoolSRefIdeal.nD Cert.PoolSRefIdeal.τ Cert.PoolSRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_gains [hKernelIdeal : Cert.KernelIdeal.Facts] [hPre_finite_gains : Cert.Pre_finite_gains.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_gains m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_gains [hReferenceIdeal : Cert.ReferenceIdeal.Facts] [hPre_finite_gains : Cert.Pre_finite_gains.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_gains m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11)
      ∧ r.2.mem ((c.tc : Thread Cert.Mix.nD Cert.Mix.τ).loc Cert.Mix.main_arg12) = m ((c.tc : Thread Cert.Mix.nD Cert.Mix.τ).loc Cert.Mix.main_arg12)
      ∧ r.2.mem ((c.tc : Thread Cert.Mix.nD Cert.Mix.τ).loc Cert.Mix.main_arg13) = m ((c.tc : Thread Cert.Mix.nD Cert.Mix.τ).loc Cert.Mix.main_arg13))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
      ∧ r.2.mem ((c.tc : Thread Cert.MixIdeal.nD Cert.MixIdeal.τ).loc Cert.MixIdeal.main_arg13) = m ((c.tc : Thread Cert.MixIdeal.nD Cert.MixIdeal.τ).loc Cert.MixIdeal.main_arg13))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11)
      ∧ r.2.mem ((c.tc : Thread Cert.MixRefIdeal.nD Cert.MixRefIdeal.τ).loc Cert.MixRefIdeal.main_arg12) = m ((c.tc : Thread Cert.MixRefIdeal.nD Cert.MixRefIdeal.τ).loc Cert.MixRefIdeal.main_arg12)
      ∧ r.2.mem ((c.tc : Thread Cert.MixRefIdeal.nD Cert.MixRefIdeal.τ).loc Cert.MixRefIdeal.main_arg13) = m ((c.tc : Thread Cert.MixRefIdeal.nD Cert.MixRefIdeal.τ).loc Cert.MixRefIdeal.main_arg13))
      ∧ r.2.sem = fun _ => 0)

def quiescent_ProjS [hProjS : Cert.ProjS.Facts] : Prop :=
  ∀ (m : (ℓ : Loc Cert.ProjS.nD Cert.ProjS.τ Cert.ProjS.sig) → Buf (Elt Bits) ℓ) (g : Dev Cert.ProjS.nD → PrngReg), Pre_ProjS m →
    θ_run (Cert.ProjS.defs (F := Bits)) (onTc (τ := Cert.ProjS.τ) (Cert.ProjS.main (F := Bits))) ⟨m, fun _ => 0, g⟩ (fun r => (∀ c : Dev Cert.ProjS.nD,
      r.2.mem ((c.tc : Thread Cert.ProjS.nD Cert.ProjS.τ).loc Cert.ProjS.main_arg0) = m ((c.tc : Thread Cert.ProjS.nD Cert.ProjS.τ).loc Cert.ProjS.main_arg0)
      ∧ r.2.mem ((c.tc : Thread Cert.ProjS.nD Cert.ProjS.τ).loc Cert.ProjS.main_arg1) = m ((c.tc : Thread Cert.ProjS.nD Cert.ProjS.τ).loc Cert.ProjS.main_arg1)
      ∧ r.2.mem ((c.tc : Thread Cert.ProjS.nD Cert.ProjS.τ).loc Cert.ProjS.main_arg2) = m ((c.tc : Thread Cert.ProjS.nD Cert.ProjS.τ).loc Cert.ProjS.main_arg2)
      ∧ r.2.mem ((c.tc : Thread Cert.ProjS.nD Cert.ProjS.τ).loc Cert.ProjS.main_arg3) = m ((c.tc : Thread Cert.ProjS.nD Cert.ProjS.τ).loc Cert.ProjS.main_arg3)
      ∧ r.2.mem ((c.tc : Thread Cert.ProjS.nD Cert.ProjS.τ).loc Cert.ProjS.main_arg4) = m ((c.tc : Thread Cert.ProjS.nD Cert.ProjS.τ).loc Cert.ProjS.main_arg4)
      ∧ r.2.mem ((c.tc : Thread Cert.ProjS.nD Cert.ProjS.τ).loc Cert.ProjS.main_arg5) = m ((c.tc : Thread Cert.ProjS.nD Cert.ProjS.τ).loc Cert.ProjS.main_arg5)
      ∧ r.2.mem ((c.tc : Thread Cert.ProjS.nD Cert.ProjS.τ).loc Cert.ProjS.main_arg6) = m ((c.tc : Thread Cert.ProjS.nD Cert.ProjS.τ).loc Cert.ProjS.main_arg6))
      ∧ r.2.sem = fun _ => 0)

def quiescent_ProjSIdeal [hProjSIdeal : Cert.ProjSIdeal.Facts] : Prop :=
  ∀ (m : (ℓ : Loc Cert.ProjSIdeal.nD Cert.ProjSIdeal.τ Cert.ProjSIdeal.sig) → Buf (Elt Ideal) ℓ) (g : Dev Cert.ProjSIdeal.nD → PrngReg), Pre_ProjSIdeal m →
    θ_run (Cert.ProjSIdeal.defs (F := Ideal)) (onTc (τ := Cert.ProjSIdeal.τ) (Cert.ProjSIdeal.main (F := Ideal))) ⟨m, fun _ => 0, g⟩ (fun r => (∀ c : Dev Cert.ProjSIdeal.nD,
      r.2.mem ((c.tc : Thread Cert.ProjSIdeal.nD Cert.ProjSIdeal.τ).loc Cert.ProjSIdeal.main_arg0) = m ((c.tc : Thread Cert.ProjSIdeal.nD Cert.ProjSIdeal.τ).loc Cert.ProjSIdeal.main_arg0)
      ∧ r.2.mem ((c.tc : Thread Cert.ProjSIdeal.nD Cert.ProjSIdeal.τ).loc Cert.ProjSIdeal.main_arg1) = m ((c.tc : Thread Cert.ProjSIdeal.nD Cert.ProjSIdeal.τ).loc Cert.ProjSIdeal.main_arg1)
      ∧ r.2.mem ((c.tc : Thread Cert.ProjSIdeal.nD Cert.ProjSIdeal.τ).loc Cert.ProjSIdeal.main_arg2) = m ((c.tc : Thread Cert.ProjSIdeal.nD Cert.ProjSIdeal.τ).loc Cert.ProjSIdeal.main_arg2)
      ∧ r.2.mem ((c.tc : Thread Cert.ProjSIdeal.nD Cert.ProjSIdeal.τ).loc Cert.ProjSIdeal.main_arg3) = m ((c.tc : Thread Cert.ProjSIdeal.nD Cert.ProjSIdeal.τ).loc Cert.ProjSIdeal.main_arg3)
      ∧ r.2.mem ((c.tc : Thread Cert.ProjSIdeal.nD Cert.ProjSIdeal.τ).loc Cert.ProjSIdeal.main_arg4) = m ((c.tc : Thread Cert.ProjSIdeal.nD Cert.ProjSIdeal.τ).loc Cert.ProjSIdeal.main_arg4)
      ∧ r.2.mem ((c.tc : Thread Cert.ProjSIdeal.nD Cert.ProjSIdeal.τ).loc Cert.ProjSIdeal.main_arg5) = m ((c.tc : Thread Cert.ProjSIdeal.nD Cert.ProjSIdeal.τ).loc Cert.ProjSIdeal.main_arg5)
      ∧ r.2.mem ((c.tc : Thread Cert.ProjSIdeal.nD Cert.ProjSIdeal.τ).loc Cert.ProjSIdeal.main_arg6) = m ((c.tc : Thread Cert.ProjSIdeal.nD Cert.ProjSIdeal.τ).loc Cert.ProjSIdeal.main_arg6))
      ∧ r.2.sem = fun _ => 0)

def quiescent_ProjSRefIdeal [hProjSRefIdeal : Cert.ProjSRefIdeal.Facts] : Prop :=
  ∀ (m : (ℓ : Loc Cert.ProjSRefIdeal.nD Cert.ProjSRefIdeal.τ Cert.ProjSRefIdeal.sig) → Buf (Elt Ideal) ℓ) (g : Dev Cert.ProjSRefIdeal.nD → PrngReg), Pre_ProjSRefIdeal m →
    θ_run (Cert.ProjSRefIdeal.defs (F := Ideal)) (onTc (τ := Cert.ProjSRefIdeal.τ) (Cert.ProjSRefIdeal.main (F := Ideal))) ⟨m, fun _ => 0, g⟩ (fun r => (∀ c : Dev Cert.ProjSRefIdeal.nD,
      r.2.mem ((c.tc : Thread Cert.ProjSRefIdeal.nD Cert.ProjSRefIdeal.τ).loc Cert.ProjSRefIdeal.main_arg0) = m ((c.tc : Thread Cert.ProjSRefIdeal.nD Cert.ProjSRefIdeal.τ).loc Cert.ProjSRefIdeal.main_arg0)
      ∧ r.2.mem ((c.tc : Thread Cert.ProjSRefIdeal.nD Cert.ProjSRefIdeal.τ).loc Cert.ProjSRefIdeal.main_arg1) = m ((c.tc : Thread Cert.ProjSRefIdeal.nD Cert.ProjSRefIdeal.τ).loc Cert.ProjSRefIdeal.main_arg1)
      ∧ r.2.mem ((c.tc : Thread Cert.ProjSRefIdeal.nD Cert.ProjSRefIdeal.τ).loc Cert.ProjSRefIdeal.main_arg2) = m ((c.tc : Thread Cert.ProjSRefIdeal.nD Cert.ProjSRefIdeal.τ).loc Cert.ProjSRefIdeal.main_arg2)
      ∧ r.2.mem ((c.tc : Thread Cert.ProjSRefIdeal.nD Cert.ProjSRefIdeal.τ).loc Cert.ProjSRefIdeal.main_arg3) = m ((c.tc : Thread Cert.ProjSRefIdeal.nD Cert.ProjSRefIdeal.τ).loc Cert.ProjSRefIdeal.main_arg3)
      ∧ r.2.mem ((c.tc : Thread Cert.ProjSRefIdeal.nD Cert.ProjSRefIdeal.τ).loc Cert.ProjSRefIdeal.main_arg4) = m ((c.tc : Thread Cert.ProjSRefIdeal.nD Cert.ProjSRefIdeal.τ).loc Cert.ProjSRefIdeal.main_arg4)
      ∧ r.2.mem ((c.tc : Thread Cert.ProjSRefIdeal.nD Cert.ProjSRefIdeal.τ).loc Cert.ProjSRefIdeal.main_arg5) = m ((c.tc : Thread Cert.ProjSRefIdeal.nD Cert.ProjSRefIdeal.τ).loc Cert.ProjSRefIdeal.main_arg5)
      ∧ r.2.mem ((c.tc : Thread Cert.ProjSRefIdeal.nD Cert.ProjSRefIdeal.τ).loc Cert.ProjSRefIdeal.main_arg6) = m ((c.tc : Thread Cert.ProjSRefIdeal.nD Cert.ProjSRefIdeal.τ).loc Cert.ProjSRefIdeal.main_arg6))
      ∧ r.2.sem = fun _ => 0)

def quiescent_AttnS [hAttnS : Cert.AttnS.Facts] : Prop :=
  ∀ (m : (ℓ : Loc Cert.AttnS.nD Cert.AttnS.τ Cert.AttnS.sig) → Buf (Elt Bits) ℓ) (g : Dev Cert.AttnS.nD → PrngReg), Pre_AttnS m →
    θ_run (Cert.AttnS.defs (F := Bits)) (onTc (τ := Cert.AttnS.τ) (Cert.AttnS.main (F := Bits))) ⟨m, fun _ => 0, g⟩ (fun r => (∀ c : Dev Cert.AttnS.nD,
      r.2.mem ((c.tc : Thread Cert.AttnS.nD Cert.AttnS.τ).loc Cert.AttnS.main_arg0) = m ((c.tc : Thread Cert.AttnS.nD Cert.AttnS.τ).loc Cert.AttnS.main_arg0)
      ∧ r.2.mem ((c.tc : Thread Cert.AttnS.nD Cert.AttnS.τ).loc Cert.AttnS.main_arg1) = m ((c.tc : Thread Cert.AttnS.nD Cert.AttnS.τ).loc Cert.AttnS.main_arg1)
      ∧ r.2.mem ((c.tc : Thread Cert.AttnS.nD Cert.AttnS.τ).loc Cert.AttnS.main_arg2) = m ((c.tc : Thread Cert.AttnS.nD Cert.AttnS.τ).loc Cert.AttnS.main_arg2)
      ∧ r.2.mem ((c.tc : Thread Cert.AttnS.nD Cert.AttnS.τ).loc Cert.AttnS.main_arg3) = m ((c.tc : Thread Cert.AttnS.nD Cert.AttnS.τ).loc Cert.AttnS.main_arg3)
      ∧ r.2.mem ((c.tc : Thread Cert.AttnS.nD Cert.AttnS.τ).loc Cert.AttnS.main_arg4) = m ((c.tc : Thread Cert.AttnS.nD Cert.AttnS.τ).loc Cert.AttnS.main_arg4)
      ∧ r.2.mem ((c.tc : Thread Cert.AttnS.nD Cert.AttnS.τ).loc Cert.AttnS.main_arg5) = m ((c.tc : Thread Cert.AttnS.nD Cert.AttnS.τ).loc Cert.AttnS.main_arg5)
      ∧ r.2.mem ((c.tc : Thread Cert.AttnS.nD Cert.AttnS.τ).loc Cert.AttnS.main_arg6) = m ((c.tc : Thread Cert.AttnS.nD Cert.AttnS.τ).loc Cert.AttnS.main_arg6)
      ∧ r.2.mem ((c.tc : Thread Cert.AttnS.nD Cert.AttnS.τ).loc Cert.AttnS.main_arg7) = m ((c.tc : Thread Cert.AttnS.nD Cert.AttnS.τ).loc Cert.AttnS.main_arg7))
      ∧ r.2.sem = fun _ => 0)

def quiescent_AttnSIdeal [hAttnSIdeal : Cert.AttnSIdeal.Facts] : Prop :=
  ∀ (m : (ℓ : Loc Cert.AttnSIdeal.nD Cert.AttnSIdeal.τ Cert.AttnSIdeal.sig) → Buf (Elt Ideal) ℓ) (g : Dev Cert.AttnSIdeal.nD → PrngReg), Pre_AttnSIdeal m →
    θ_run (Cert.AttnSIdeal.defs (F := Ideal)) (onTc (τ := Cert.AttnSIdeal.τ) (Cert.AttnSIdeal.main (F := Ideal))) ⟨m, fun _ => 0, g⟩ (fun r => (∀ c : Dev Cert.AttnSIdeal.nD,
      r.2.mem ((c.tc : Thread Cert.AttnSIdeal.nD Cert.AttnSIdeal.τ).loc Cert.AttnSIdeal.main_arg0) = m ((c.tc : Thread Cert.AttnSIdeal.nD Cert.AttnSIdeal.τ).loc Cert.AttnSIdeal.main_arg0)
      ∧ r.2.mem ((c.tc : Thread Cert.AttnSIdeal.nD Cert.AttnSIdeal.τ).loc Cert.AttnSIdeal.main_arg1) = m ((c.tc : Thread Cert.AttnSIdeal.nD Cert.AttnSIdeal.τ).loc Cert.AttnSIdeal.main_arg1)
      ∧ r.2.mem ((c.tc : Thread Cert.AttnSIdeal.nD Cert.AttnSIdeal.τ).loc Cert.AttnSIdeal.main_arg2) = m ((c.tc : Thread Cert.AttnSIdeal.nD Cert.AttnSIdeal.τ).loc Cert.AttnSIdeal.main_arg2)
      ∧ r.2.mem ((c.tc : Thread Cert.AttnSIdeal.nD Cert.AttnSIdeal.τ).loc Cert.AttnSIdeal.main_arg3) = m ((c.tc : Thread Cert.AttnSIdeal.nD Cert.AttnSIdeal.τ).loc Cert.AttnSIdeal.main_arg3)
      ∧ r.2.mem ((c.tc : Thread Cert.AttnSIdeal.nD Cert.AttnSIdeal.τ).loc Cert.AttnSIdeal.main_arg4) = m ((c.tc : Thread Cert.AttnSIdeal.nD Cert.AttnSIdeal.τ).loc Cert.AttnSIdeal.main_arg4)
      ∧ r.2.mem ((c.tc : Thread Cert.AttnSIdeal.nD Cert.AttnSIdeal.τ).loc Cert.AttnSIdeal.main_arg5) = m ((c.tc : Thread Cert.AttnSIdeal.nD Cert.AttnSIdeal.τ).loc Cert.AttnSIdeal.main_arg5)
      ∧ r.2.mem ((c.tc : Thread Cert.AttnSIdeal.nD Cert.AttnSIdeal.τ).loc Cert.AttnSIdeal.main_arg6) = m ((c.tc : Thread Cert.AttnSIdeal.nD Cert.AttnSIdeal.τ).loc Cert.AttnSIdeal.main_arg6)
      ∧ r.2.mem ((c.tc : Thread Cert.AttnSIdeal.nD Cert.AttnSIdeal.τ).loc Cert.AttnSIdeal.main_arg7) = m ((c.tc : Thread Cert.AttnSIdeal.nD Cert.AttnSIdeal.τ).loc Cert.AttnSIdeal.main_arg7))
      ∧ r.2.sem = fun _ => 0)

def quiescent_AttnSRefIdeal [hAttnSRefIdeal : Cert.AttnSRefIdeal.Facts] : Prop :=
  ∀ (m : (ℓ : Loc Cert.AttnSRefIdeal.nD Cert.AttnSRefIdeal.τ Cert.AttnSRefIdeal.sig) → Buf (Elt Ideal) ℓ) (g : Dev Cert.AttnSRefIdeal.nD → PrngReg), Pre_AttnSRefIdeal m →
    θ_run (Cert.AttnSRefIdeal.defs (F := Ideal)) (onTc (τ := Cert.AttnSRefIdeal.τ) (Cert.AttnSRefIdeal.main (F := Ideal))) ⟨m, fun _ => 0, g⟩ (fun r => (∀ c : Dev Cert.AttnSRefIdeal.nD,
      r.2.mem ((c.tc : Thread Cert.AttnSRefIdeal.nD Cert.AttnSRefIdeal.τ).loc Cert.AttnSRefIdeal.main_arg0) = m ((c.tc : Thread Cert.AttnSRefIdeal.nD Cert.AttnSRefIdeal.τ).loc Cert.AttnSRefIdeal.main_arg0)
      ∧ r.2.mem ((c.tc : Thread Cert.AttnSRefIdeal.nD Cert.AttnSRefIdeal.τ).loc Cert.AttnSRefIdeal.main_arg1) = m ((c.tc : Thread Cert.AttnSRefIdeal.nD Cert.AttnSRefIdeal.τ).loc Cert.AttnSRefIdeal.main_arg1)
      ∧ r.2.mem ((c.tc : Thread Cert.AttnSRefIdeal.nD Cert.AttnSRefIdeal.τ).loc Cert.AttnSRefIdeal.main_arg2) = m ((c.tc : Thread Cert.AttnSRefIdeal.nD Cert.AttnSRefIdeal.τ).loc Cert.AttnSRefIdeal.main_arg2)
      ∧ r.2.mem ((c.tc : Thread Cert.AttnSRefIdeal.nD Cert.AttnSRefIdeal.τ).loc Cert.AttnSRefIdeal.main_arg3) = m ((c.tc : Thread Cert.AttnSRefIdeal.nD Cert.AttnSRefIdeal.τ).loc Cert.AttnSRefIdeal.main_arg3)
      ∧ r.2.mem ((c.tc : Thread Cert.AttnSRefIdeal.nD Cert.AttnSRefIdeal.τ).loc Cert.AttnSRefIdeal.main_arg4) = m ((c.tc : Thread Cert.AttnSRefIdeal.nD Cert.AttnSRefIdeal.τ).loc Cert.AttnSRefIdeal.main_arg4)
      ∧ r.2.mem ((c.tc : Thread Cert.AttnSRefIdeal.nD Cert.AttnSRefIdeal.τ).loc Cert.AttnSRefIdeal.main_arg5) = m ((c.tc : Thread Cert.AttnSRefIdeal.nD Cert.AttnSRefIdeal.τ).loc Cert.AttnSRefIdeal.main_arg5)
      ∧ r.2.mem ((c.tc : Thread Cert.AttnSRefIdeal.nD Cert.AttnSRefIdeal.τ).loc Cert.AttnSRefIdeal.main_arg6) = m ((c.tc : Thread Cert.AttnSRefIdeal.nD Cert.AttnSRefIdeal.τ).loc Cert.AttnSRefIdeal.main_arg6)
      ∧ r.2.mem ((c.tc : Thread Cert.AttnSRefIdeal.nD Cert.AttnSRefIdeal.τ).loc Cert.AttnSRefIdeal.main_arg7) = m ((c.tc : Thread Cert.AttnSRefIdeal.nD Cert.AttnSRefIdeal.τ).loc Cert.AttnSRefIdeal.main_arg7))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2)
      ∧ r.2.mem ((c.tc : Thread Cert.Ada.nD Cert.Ada.τ).loc Cert.Ada.main_arg3) = m ((c.tc : Thread Cert.Ada.nD Cert.Ada.τ).loc Cert.Ada.main_arg3))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
      ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2)
      ∧ r.2.mem ((c.tc : Thread Cert.AdaRefIdeal.nD Cert.AdaRefIdeal.τ).loc Cert.AdaRefIdeal.main_arg3) = m ((c.tc : Thread Cert.AdaRefIdeal.nD Cert.AdaRefIdeal.τ).loc Cert.AdaRefIdeal.main_arg3))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0))
      ∧ r.2.sem = fun _ => 0)

def quiescent_PoolS [hPoolS : Cert.PoolS.Facts] : Prop :=
  ∀ (m : (ℓ : Loc Cert.PoolS.nD Cert.PoolS.τ Cert.PoolS.sig) → Buf (Elt Bits) ℓ) (g : Dev Cert.PoolS.nD → PrngReg), Pre_PoolS m →
    θ_run (Cert.PoolS.defs (F := Bits)) (onTc (τ := Cert.PoolS.τ) (Cert.PoolS.main (F := Bits))) ⟨m, fun _ => 0, g⟩ (fun r => (∀ c : Dev Cert.PoolS.nD,
      r.2.mem ((c.tc : Thread Cert.PoolS.nD Cert.PoolS.τ).loc Cert.PoolS.main_arg0) = m ((c.tc : Thread Cert.PoolS.nD Cert.PoolS.τ).loc Cert.PoolS.main_arg0)
      ∧ r.2.mem ((c.tc : Thread Cert.PoolS.nD Cert.PoolS.τ).loc Cert.PoolS.main_arg1) = m ((c.tc : Thread Cert.PoolS.nD Cert.PoolS.τ).loc Cert.PoolS.main_arg1))
      ∧ r.2.sem = fun _ => 0)

def quiescent_PoolSIdeal [hPoolSIdeal : Cert.PoolSIdeal.Facts] : Prop :=
  ∀ (m : (ℓ : Loc Cert.PoolSIdeal.nD Cert.PoolSIdeal.τ Cert.PoolSIdeal.sig) → Buf (Elt Ideal) ℓ) (g : Dev Cert.PoolSIdeal.nD → PrngReg), Pre_PoolSIdeal m →
    θ_run (Cert.PoolSIdeal.defs (F := Ideal)) (onTc (τ := Cert.PoolSIdeal.τ) (Cert.PoolSIdeal.main (F := Ideal))) ⟨m, fun _ => 0, g⟩ (fun r => (∀ c : Dev Cert.PoolSIdeal.nD,
      r.2.mem ((c.tc : Thread Cert.PoolSIdeal.nD Cert.PoolSIdeal.τ).loc Cert.PoolSIdeal.main_arg0) = m ((c.tc : Thread Cert.PoolSIdeal.nD Cert.PoolSIdeal.τ).loc Cert.PoolSIdeal.main_arg0)
      ∧ r.2.mem ((c.tc : Thread Cert.PoolSIdeal.nD Cert.PoolSIdeal.τ).loc Cert.PoolSIdeal.main_arg1) = m ((c.tc : Thread Cert.PoolSIdeal.nD Cert.PoolSIdeal.τ).loc Cert.PoolSIdeal.main_arg1))
      ∧ r.2.sem = fun _ => 0)

def quiescent_PoolSRefIdeal [hPoolSRefIdeal : Cert.PoolSRefIdeal.Facts] : Prop :=
  ∀ (m : (ℓ : Loc Cert.PoolSRefIdeal.nD Cert.PoolSRefIdeal.τ Cert.PoolSRefIdeal.sig) → Buf (Elt Ideal) ℓ) (g : Dev Cert.PoolSRefIdeal.nD → PrngReg), Pre_PoolSRefIdeal m →
    θ_run (Cert.PoolSRefIdeal.defs (F := Ideal)) (onTc (τ := Cert.PoolSRefIdeal.τ) (Cert.PoolSRefIdeal.main (F := Ideal))) ⟨m, fun _ => 0, g⟩ (fun r => (∀ c : Dev Cert.PoolSRefIdeal.nD,
      r.2.mem ((c.tc : Thread Cert.PoolSRefIdeal.nD Cert.PoolSRefIdeal.τ).loc Cert.PoolSRefIdeal.main_arg0) = m ((c.tc : Thread Cert.PoolSRefIdeal.nD Cert.PoolSRefIdeal.τ).loc Cert.PoolSRefIdeal.main_arg0)
      ∧ r.2.mem ((c.tc : Thread Cert.PoolSRefIdeal.nD Cert.PoolSRefIdeal.τ).loc Cert.PoolSRefIdeal.main_arg1) = m ((c.tc : Thread Cert.PoolSRefIdeal.nD Cert.PoolSRefIdeal.τ).loc Cert.PoolSRefIdeal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_gains [hKernelIdeal : Cert.KernelIdeal.Facts] [hReferenceIdeal : Cert.ReferenceIdeal.Facts] [hPre_finite_gains : Cert.Pre_finite_gains.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_gains m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_v115) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)) →
    ∃ (v0 : (c : Dev Cert.ProjIdeal.nD) → Buf (Elt Ideal) ((c.tc : Thread Cert.ProjIdeal.nD Cert.ProjIdeal.τ).loc Cert.ProjIdeal.main_v4_0)) (v1 : (c : Dev Cert.ProjIdeal.nD) → Buf (Elt Ideal) ((c.tc : Thread Cert.ProjIdeal.nD Cert.ProjIdeal.τ).loc Cert.ProjIdeal.main_v4_1)) (v2 : (c : Dev Cert.ProjIdeal.nD) → Buf (Elt Ideal) ((c.tc : Thread Cert.ProjIdeal.nD Cert.ProjIdeal.τ).loc Cert.ProjIdeal.main_v4_2)) (v3 : (c : Dev Cert.ProjIdeal.nD) → Buf (Elt Ideal) ((c.tc : Thread Cert.ProjIdeal.nD Cert.ProjIdeal.τ).loc Cert.ProjIdeal.main_v4_3)) (v4 : (c : Dev Cert.ProjIdeal.nD) → Buf (Elt Ideal) ((c.tc : Thread Cert.ProjIdeal.nD Cert.ProjIdeal.τ).loc Cert.ProjIdeal.main_v4_4)) (v5 : (c : Dev Cert.ProjIdeal.nD) → Buf (Elt Ideal) ((c.tc : Thread Cert.ProjIdeal.nD Cert.ProjIdeal.τ).loc Cert.ProjIdeal.main_v4_5)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v4_0) = v0 c
          ∧ r.2.mem ((c.tc : Thread Cert.ProjIdeal.nD Cert.ProjIdeal.τ).loc Cert.ProjIdeal.main_v4_1) = v1 c
          ∧ r.2.mem ((c.tc : Thread Cert.ProjIdeal.nD Cert.ProjIdeal.τ).loc Cert.ProjIdeal.main_v4_2) = v2 c
          ∧ r.2.mem ((c.tc : Thread Cert.ProjIdeal.nD Cert.ProjIdeal.τ).loc Cert.ProjIdeal.main_v4_3) = v3 c
          ∧ r.2.mem ((c.tc : Thread Cert.ProjIdeal.nD Cert.ProjIdeal.τ).loc Cert.ProjIdeal.main_v4_4) = v4 c
          ∧ r.2.mem ((c.tc : Thread Cert.ProjIdeal.nD Cert.ProjIdeal.τ).loc Cert.ProjIdeal.main_v4_5) = v5 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v22) = v0 c
          ∧ r.2.mem ((c.tc : Thread Cert.ProjRefIdeal.nD Cert.ProjRefIdeal.τ).loc Cert.ProjRefIdeal.main_v23) = v1 c
          ∧ r.2.mem ((c.tc : Thread Cert.ProjRefIdeal.nD Cert.ProjRefIdeal.τ).loc Cert.ProjRefIdeal.main_v24) = v2 c
          ∧ r.2.mem ((c.tc : Thread Cert.ProjRefIdeal.nD Cert.ProjRefIdeal.τ).loc Cert.ProjRefIdeal.main_v25) = v3 c
          ∧ r.2.mem ((c.tc : Thread Cert.ProjRefIdeal.nD Cert.ProjRefIdeal.τ).loc Cert.ProjRefIdeal.main_v26) = v4 c
          ∧ r.2.mem ((c.tc : Thread Cert.ProjRefIdeal.nD Cert.ProjRefIdeal.τ).loc Cert.ProjRefIdeal.main_v27) = v5 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)
      ∧ m' ((c.tc : Thread Cert.MixRefIdeal.nD Cert.MixRefIdeal.τ).loc Cert.MixRefIdeal.main_arg10) = m ((c.tc : Thread Cert.MixIdeal.nD Cert.MixIdeal.τ).loc Cert.MixIdeal.main_arg10)
      ∧ m' ((c.tc : Thread Cert.MixRefIdeal.nD Cert.MixRefIdeal.τ).loc Cert.MixRefIdeal.main_arg11) = m ((c.tc : Thread Cert.MixIdeal.nD Cert.MixIdeal.τ).loc Cert.MixIdeal.main_arg11)
      ∧ m' ((c.tc : Thread Cert.MixRefIdeal.nD Cert.MixRefIdeal.τ).loc Cert.MixRefIdeal.main_arg12) = m ((c.tc : Thread Cert.MixIdeal.nD Cert.MixIdeal.τ).loc Cert.MixIdeal.main_arg12)
      ∧ m' ((c.tc : Thread Cert.MixRefIdeal.nD Cert.MixRefIdeal.τ).loc Cert.MixRefIdeal.main_arg13) = m ((c.tc : Thread Cert.MixIdeal.nD Cert.MixIdeal.τ).loc Cert.MixIdeal.main_arg13)) →
    ∃ (v0 : (c : Dev Cert.MixIdeal.nD) → Buf (Elt Ideal) ((c.tc : Thread Cert.MixIdeal.nD Cert.MixIdeal.τ).loc Cert.MixIdeal.main_v12_0)) (v1 : (c : Dev Cert.MixIdeal.nD) → Buf (Elt Ideal) ((c.tc : Thread Cert.MixIdeal.nD Cert.MixIdeal.τ).loc Cert.MixIdeal.main_v12_1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v12_0) = v0 c
          ∧ r.2.mem ((c.tc : Thread Cert.MixIdeal.nD Cert.MixIdeal.τ).loc Cert.MixIdeal.main_v12_1) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
          ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
          ∧ r.2.mem ((c.tc : Thread Cert.MixIdeal.nD Cert.MixIdeal.τ).loc Cert.MixIdeal.main_arg13) = m ((c.tc : Thread Cert.MixIdeal.nD Cert.MixIdeal.τ).loc Cert.MixIdeal.main_arg13))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v33) = v0 c
          ∧ r.2.mem ((c.tc : Thread Cert.MixRefIdeal.nD Cert.MixRefIdeal.τ).loc Cert.MixRefIdeal.main_v53) = v1 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9)
          ∧ r.2.mem ((c.tc : Thread Cert.MixRefIdeal.nD Cert.MixRefIdeal.τ).loc Cert.MixRefIdeal.main_arg10) = m' ((c.tc : Thread Cert.MixRefIdeal.nD Cert.MixRefIdeal.τ).loc Cert.MixRefIdeal.main_arg10)
          ∧ r.2.mem ((c.tc : Thread Cert.MixRefIdeal.nD Cert.MixRefIdeal.τ).loc Cert.MixRefIdeal.main_arg11) = m' ((c.tc : Thread Cert.MixRefIdeal.nD Cert.MixRefIdeal.τ).loc Cert.MixRefIdeal.main_arg11)
          ∧ r.2.mem ((c.tc : Thread Cert.MixRefIdeal.nD Cert.MixRefIdeal.τ).loc Cert.MixRefIdeal.main_arg12) = m' ((c.tc : Thread Cert.MixRefIdeal.nD Cert.MixRefIdeal.τ).loc Cert.MixRefIdeal.main_arg12)
          ∧ r.2.mem ((c.tc : Thread Cert.MixRefIdeal.nD Cert.MixRefIdeal.τ).loc Cert.MixRefIdeal.main_arg13) = m' ((c.tc : Thread Cert.MixRefIdeal.nD Cert.MixRefIdeal.τ).loc Cert.MixRefIdeal.main_arg13))

def preserves_ProjS_ProjSIdeal : Prop :=
  True

def algebraic_ProjSIdeal_ProjSRefIdeal [hProjSIdeal : Cert.ProjSIdeal.Facts] [hProjSRefIdeal : Cert.ProjSRefIdeal.Facts] : Prop :=
  ∀ (m : (ℓ : Loc Cert.ProjSIdeal.nD Cert.ProjSIdeal.τ Cert.ProjSIdeal.sig) → Buf (Elt Ideal) ℓ) (g : Dev Cert.ProjSIdeal.nD → PrngReg)
    (m' : (ℓ : Loc Cert.ProjSRefIdeal.nD Cert.ProjSRefIdeal.τ Cert.ProjSRefIdeal.sig) → Buf (Elt Ideal) ℓ) (g' : Dev Cert.ProjSRefIdeal.nD → PrngReg), Pre_ProjSIdeal m →
    (∀ c : Dev Cert.ProjSIdeal.nD,
      m' ((c.tc : Thread Cert.ProjSRefIdeal.nD Cert.ProjSRefIdeal.τ).loc Cert.ProjSRefIdeal.main_arg0) = m ((c.tc : Thread Cert.ProjSIdeal.nD Cert.ProjSIdeal.τ).loc Cert.ProjSIdeal.main_arg0)
      ∧ m' ((c.tc : Thread Cert.ProjSRefIdeal.nD Cert.ProjSRefIdeal.τ).loc Cert.ProjSRefIdeal.main_arg1) = m ((c.tc : Thread Cert.ProjSIdeal.nD Cert.ProjSIdeal.τ).loc Cert.ProjSIdeal.main_arg1)
      ∧ m' ((c.tc : Thread Cert.ProjSRefIdeal.nD Cert.ProjSRefIdeal.τ).loc Cert.ProjSRefIdeal.main_arg2) = m ((c.tc : Thread Cert.ProjSIdeal.nD Cert.ProjSIdeal.τ).loc Cert.ProjSIdeal.main_arg2)
      ∧ m' ((c.tc : Thread Cert.ProjSRefIdeal.nD Cert.ProjSRefIdeal.τ).loc Cert.ProjSRefIdeal.main_arg3) = m ((c.tc : Thread Cert.ProjSIdeal.nD Cert.ProjSIdeal.τ).loc Cert.ProjSIdeal.main_arg3)
      ∧ m' ((c.tc : Thread Cert.ProjSRefIdeal.nD Cert.ProjSRefIdeal.τ).loc Cert.ProjSRefIdeal.main_arg4) = m ((c.tc : Thread Cert.ProjSIdeal.nD Cert.ProjSIdeal.τ).loc Cert.ProjSIdeal.main_arg4)
      ∧ m' ((c.tc : Thread Cert.ProjSRefIdeal.nD Cert.ProjSRefIdeal.τ).loc Cert.ProjSRefIdeal.main_arg5) = m ((c.tc : Thread Cert.ProjSIdeal.nD Cert.ProjSIdeal.τ).loc Cert.ProjSIdeal.main_arg5)
      ∧ m' ((c.tc : Thread Cert.ProjSRefIdeal.nD Cert.ProjSRefIdeal.τ).loc Cert.ProjSRefIdeal.main_arg6) = m ((c.tc : Thread Cert.ProjSIdeal.nD Cert.ProjSIdeal.τ).loc Cert.ProjSIdeal.main_arg6)) →
    ∃ (v0 : (c : Dev Cert.ProjSIdeal.nD) → Buf (Elt Ideal) ((c.tc : Thread Cert.ProjSIdeal.nD Cert.ProjSIdeal.τ).loc Cert.ProjSIdeal.main_v7_0)) (v1 : (c : Dev Cert.ProjSIdeal.nD) → Buf (Elt Ideal) ((c.tc : Thread Cert.ProjSIdeal.nD Cert.ProjSIdeal.τ).loc Cert.ProjSIdeal.main_v7_1)) (v2 : (c : Dev Cert.ProjSIdeal.nD) → Buf (Elt Ideal) ((c.tc : Thread Cert.ProjSIdeal.nD Cert.ProjSIdeal.τ).loc Cert.ProjSIdeal.main_v7_4)) (v3 : (c : Dev Cert.ProjSIdeal.nD) → Buf (Elt Ideal) ((c.tc : Thread Cert.ProjSIdeal.nD Cert.ProjSIdeal.τ).loc Cert.ProjSIdeal.main_v7_5)) (v4 : (c : Dev Cert.ProjSIdeal.nD) → Buf (Elt Ideal) ((c.tc : Thread Cert.ProjSIdeal.nD Cert.ProjSIdeal.τ).loc Cert.ProjSIdeal.main_v16)) (v5 : (c : Dev Cert.ProjSIdeal.nD) → Buf (Elt Ideal) ((c.tc : Thread Cert.ProjSIdeal.nD Cert.ProjSIdeal.τ).loc Cert.ProjSIdeal.main_v17)),
      θ_run (Cert.ProjSIdeal.defs (F := Ideal)) (onTc (τ := Cert.ProjSIdeal.τ) (Cert.ProjSIdeal.main (F := Ideal))) ⟨m, fun _ => 0, g⟩ (fun r => ∀ c : Dev Cert.ProjSIdeal.nD,
          r.2.mem ((c.tc : Thread Cert.ProjSIdeal.nD Cert.ProjSIdeal.τ).loc Cert.ProjSIdeal.main_v7_0) = v0 c
          ∧ r.2.mem ((c.tc : Thread Cert.ProjSIdeal.nD Cert.ProjSIdeal.τ).loc Cert.ProjSIdeal.main_v7_1) = v1 c
          ∧ r.2.mem ((c.tc : Thread Cert.ProjSIdeal.nD Cert.ProjSIdeal.τ).loc Cert.ProjSIdeal.main_v7_4) = v2 c
          ∧ r.2.mem ((c.tc : Thread Cert.ProjSIdeal.nD Cert.ProjSIdeal.τ).loc Cert.ProjSIdeal.main_v7_5) = v3 c
          ∧ r.2.mem ((c.tc : Thread Cert.ProjSIdeal.nD Cert.ProjSIdeal.τ).loc Cert.ProjSIdeal.main_v16) = v4 c
          ∧ r.2.mem ((c.tc : Thread Cert.ProjSIdeal.nD Cert.ProjSIdeal.τ).loc Cert.ProjSIdeal.main_v17) = v5 c
          ∧ r.2.mem ((c.tc : Thread Cert.ProjSIdeal.nD Cert.ProjSIdeal.τ).loc Cert.ProjSIdeal.main_arg0) = m ((c.tc : Thread Cert.ProjSIdeal.nD Cert.ProjSIdeal.τ).loc Cert.ProjSIdeal.main_arg0)
          ∧ r.2.mem ((c.tc : Thread Cert.ProjSIdeal.nD Cert.ProjSIdeal.τ).loc Cert.ProjSIdeal.main_arg1) = m ((c.tc : Thread Cert.ProjSIdeal.nD Cert.ProjSIdeal.τ).loc Cert.ProjSIdeal.main_arg1)
          ∧ r.2.mem ((c.tc : Thread Cert.ProjSIdeal.nD Cert.ProjSIdeal.τ).loc Cert.ProjSIdeal.main_arg2) = m ((c.tc : Thread Cert.ProjSIdeal.nD Cert.ProjSIdeal.τ).loc Cert.ProjSIdeal.main_arg2)
          ∧ r.2.mem ((c.tc : Thread Cert.ProjSIdeal.nD Cert.ProjSIdeal.τ).loc Cert.ProjSIdeal.main_arg3) = m ((c.tc : Thread Cert.ProjSIdeal.nD Cert.ProjSIdeal.τ).loc Cert.ProjSIdeal.main_arg3)
          ∧ r.2.mem ((c.tc : Thread Cert.ProjSIdeal.nD Cert.ProjSIdeal.τ).loc Cert.ProjSIdeal.main_arg4) = m ((c.tc : Thread Cert.ProjSIdeal.nD Cert.ProjSIdeal.τ).loc Cert.ProjSIdeal.main_arg4)
          ∧ r.2.mem ((c.tc : Thread Cert.ProjSIdeal.nD Cert.ProjSIdeal.τ).loc Cert.ProjSIdeal.main_arg5) = m ((c.tc : Thread Cert.ProjSIdeal.nD Cert.ProjSIdeal.τ).loc Cert.ProjSIdeal.main_arg5)
          ∧ r.2.mem ((c.tc : Thread Cert.ProjSIdeal.nD Cert.ProjSIdeal.τ).loc Cert.ProjSIdeal.main_arg6) = m ((c.tc : Thread Cert.ProjSIdeal.nD Cert.ProjSIdeal.τ).loc Cert.ProjSIdeal.main_arg6))
      ∧ θ_run (Cert.ProjSRefIdeal.defs (F := Ideal)) (onTc (τ := Cert.ProjSRefIdeal.τ) (Cert.ProjSRefIdeal.main (F := Ideal))) ⟨m', fun _ => 0, g'⟩ (fun r => ∀ c : Dev Cert.ProjSRefIdeal.nD,
          r.2.mem ((c.tc : Thread Cert.ProjSRefIdeal.nD Cert.ProjSRefIdeal.τ).loc Cert.ProjSRefIdeal.main_v31) = v0 c
          ∧ r.2.mem ((c.tc : Thread Cert.ProjSRefIdeal.nD Cert.ProjSRefIdeal.τ).loc Cert.ProjSRefIdeal.main_v32) = v1 c
          ∧ r.2.mem ((c.tc : Thread Cert.ProjSRefIdeal.nD Cert.ProjSRefIdeal.τ).loc Cert.ProjSRefIdeal.main_v33) = v2 c
          ∧ r.2.mem ((c.tc : Thread Cert.ProjSRefIdeal.nD Cert.ProjSRefIdeal.τ).loc Cert.ProjSRefIdeal.main_v34) = v3 c
          ∧ r.2.mem ((c.tc : Thread Cert.ProjSRefIdeal.nD Cert.ProjSRefIdeal.τ).loc Cert.ProjSRefIdeal.main_v36) = v4 c
          ∧ r.2.mem ((c.tc : Thread Cert.ProjSRefIdeal.nD Cert.ProjSRefIdeal.τ).loc Cert.ProjSRefIdeal.main_v38) = v5 c
          ∧ r.2.mem ((c.tc : Thread Cert.ProjSRefIdeal.nD Cert.ProjSRefIdeal.τ).loc Cert.ProjSRefIdeal.main_arg0) = m' ((c.tc : Thread Cert.ProjSRefIdeal.nD Cert.ProjSRefIdeal.τ).loc Cert.ProjSRefIdeal.main_arg0)
          ∧ r.2.mem ((c.tc : Thread Cert.ProjSRefIdeal.nD Cert.ProjSRefIdeal.τ).loc Cert.ProjSRefIdeal.main_arg1) = m' ((c.tc : Thread Cert.ProjSRefIdeal.nD Cert.ProjSRefIdeal.τ).loc Cert.ProjSRefIdeal.main_arg1)
          ∧ r.2.mem ((c.tc : Thread Cert.ProjSRefIdeal.nD Cert.ProjSRefIdeal.τ).loc Cert.ProjSRefIdeal.main_arg2) = m' ((c.tc : Thread Cert.ProjSRefIdeal.nD Cert.ProjSRefIdeal.τ).loc Cert.ProjSRefIdeal.main_arg2)
          ∧ r.2.mem ((c.tc : Thread Cert.ProjSRefIdeal.nD Cert.ProjSRefIdeal.τ).loc Cert.ProjSRefIdeal.main_arg3) = m' ((c.tc : Thread Cert.ProjSRefIdeal.nD Cert.ProjSRefIdeal.τ).loc Cert.ProjSRefIdeal.main_arg3)
          ∧ r.2.mem ((c.tc : Thread Cert.ProjSRefIdeal.nD Cert.ProjSRefIdeal.τ).loc Cert.ProjSRefIdeal.main_arg4) = m' ((c.tc : Thread Cert.ProjSRefIdeal.nD Cert.ProjSRefIdeal.τ).loc Cert.ProjSRefIdeal.main_arg4)
          ∧ r.2.mem ((c.tc : Thread Cert.ProjSRefIdeal.nD Cert.ProjSRefIdeal.τ).loc Cert.ProjSRefIdeal.main_arg5) = m' ((c.tc : Thread Cert.ProjSRefIdeal.nD Cert.ProjSRefIdeal.τ).loc Cert.ProjSRefIdeal.main_arg5)
          ∧ r.2.mem ((c.tc : Thread Cert.ProjSRefIdeal.nD Cert.ProjSRefIdeal.τ).loc Cert.ProjSRefIdeal.main_arg6) = m' ((c.tc : Thread Cert.ProjSRefIdeal.nD Cert.ProjSRefIdeal.τ).loc Cert.ProjSRefIdeal.main_arg6))

def preserves_AttnS_AttnSIdeal : Prop :=
  True

def algebraic_AttnSIdeal_AttnSRefIdeal [hAttnSIdeal : Cert.AttnSIdeal.Facts] [hAttnSRefIdeal : Cert.AttnSRefIdeal.Facts] : Prop :=
  ∀ (m : (ℓ : Loc Cert.AttnSIdeal.nD Cert.AttnSIdeal.τ Cert.AttnSIdeal.sig) → Buf (Elt Ideal) ℓ) (g : Dev Cert.AttnSIdeal.nD → PrngReg)
    (m' : (ℓ : Loc Cert.AttnSRefIdeal.nD Cert.AttnSRefIdeal.τ Cert.AttnSRefIdeal.sig) → Buf (Elt Ideal) ℓ) (g' : Dev Cert.AttnSRefIdeal.nD → PrngReg), Pre_AttnSIdeal m →
    (∀ c : Dev Cert.AttnSIdeal.nD,
      m' ((c.tc : Thread Cert.AttnSRefIdeal.nD Cert.AttnSRefIdeal.τ).loc Cert.AttnSRefIdeal.main_arg0) = m ((c.tc : Thread Cert.AttnSIdeal.nD Cert.AttnSIdeal.τ).loc Cert.AttnSIdeal.main_arg0)
      ∧ m' ((c.tc : Thread Cert.AttnSRefIdeal.nD Cert.AttnSRefIdeal.τ).loc Cert.AttnSRefIdeal.main_arg1) = m ((c.tc : Thread Cert.AttnSIdeal.nD Cert.AttnSIdeal.τ).loc Cert.AttnSIdeal.main_arg1)
      ∧ m' ((c.tc : Thread Cert.AttnSRefIdeal.nD Cert.AttnSRefIdeal.τ).loc Cert.AttnSRefIdeal.main_arg2) = m ((c.tc : Thread Cert.AttnSIdeal.nD Cert.AttnSIdeal.τ).loc Cert.AttnSIdeal.main_arg2)
      ∧ m' ((c.tc : Thread Cert.AttnSRefIdeal.nD Cert.AttnSRefIdeal.τ).loc Cert.AttnSRefIdeal.main_arg3) = m ((c.tc : Thread Cert.AttnSIdeal.nD Cert.AttnSIdeal.τ).loc Cert.AttnSIdeal.main_arg3)
      ∧ m' ((c.tc : Thread Cert.AttnSRefIdeal.nD Cert.AttnSRefIdeal.τ).loc Cert.AttnSRefIdeal.main_arg4) = m ((c.tc : Thread Cert.AttnSIdeal.nD Cert.AttnSIdeal.τ).loc Cert.AttnSIdeal.main_arg4)
      ∧ m' ((c.tc : Thread Cert.AttnSRefIdeal.nD Cert.AttnSRefIdeal.τ).loc Cert.AttnSRefIdeal.main_arg5) = m ((c.tc : Thread Cert.AttnSIdeal.nD Cert.AttnSIdeal.τ).loc Cert.AttnSIdeal.main_arg5)
      ∧ m' ((c.tc : Thread Cert.AttnSRefIdeal.nD Cert.AttnSRefIdeal.τ).loc Cert.AttnSRefIdeal.main_arg6) = m ((c.tc : Thread Cert.AttnSIdeal.nD Cert.AttnSIdeal.τ).loc Cert.AttnSIdeal.main_arg6)
      ∧ m' ((c.tc : Thread Cert.AttnSRefIdeal.nD Cert.AttnSRefIdeal.τ).loc Cert.AttnSRefIdeal.main_arg7) = m ((c.tc : Thread Cert.AttnSIdeal.nD Cert.AttnSIdeal.τ).loc Cert.AttnSIdeal.main_arg7)) →
    ∃ (v0 : (c : Dev Cert.AttnSIdeal.nD) → Buf (Elt Ideal) ((c.tc : Thread Cert.AttnSIdeal.nD Cert.AttnSIdeal.τ).loc Cert.AttnSIdeal.main_v12_0)) (v1 : (c : Dev Cert.AttnSIdeal.nD) → Buf (Elt Ideal) ((c.tc : Thread Cert.AttnSIdeal.nD Cert.AttnSIdeal.τ).loc Cert.AttnSIdeal.main_v16)),
      θ_run (Cert.AttnSIdeal.defs (F := Ideal)) (onTc (τ := Cert.AttnSIdeal.τ) (Cert.AttnSIdeal.main (F := Ideal))) ⟨m, fun _ => 0, g⟩ (fun r => ∀ c : Dev Cert.AttnSIdeal.nD,
          r.2.mem ((c.tc : Thread Cert.AttnSIdeal.nD Cert.AttnSIdeal.τ).loc Cert.AttnSIdeal.main_v12_0) = v0 c
          ∧ r.2.mem ((c.tc : Thread Cert.AttnSIdeal.nD Cert.AttnSIdeal.τ).loc Cert.AttnSIdeal.main_v16) = v1 c
          ∧ r.2.mem ((c.tc : Thread Cert.AttnSIdeal.nD Cert.AttnSIdeal.τ).loc Cert.AttnSIdeal.main_arg0) = m ((c.tc : Thread Cert.AttnSIdeal.nD Cert.AttnSIdeal.τ).loc Cert.AttnSIdeal.main_arg0)
          ∧ r.2.mem ((c.tc : Thread Cert.AttnSIdeal.nD Cert.AttnSIdeal.τ).loc Cert.AttnSIdeal.main_arg1) = m ((c.tc : Thread Cert.AttnSIdeal.nD Cert.AttnSIdeal.τ).loc Cert.AttnSIdeal.main_arg1)
          ∧ r.2.mem ((c.tc : Thread Cert.AttnSIdeal.nD Cert.AttnSIdeal.τ).loc Cert.AttnSIdeal.main_arg2) = m ((c.tc : Thread Cert.AttnSIdeal.nD Cert.AttnSIdeal.τ).loc Cert.AttnSIdeal.main_arg2)
          ∧ r.2.mem ((c.tc : Thread Cert.AttnSIdeal.nD Cert.AttnSIdeal.τ).loc Cert.AttnSIdeal.main_arg3) = m ((c.tc : Thread Cert.AttnSIdeal.nD Cert.AttnSIdeal.τ).loc Cert.AttnSIdeal.main_arg3)
          ∧ r.2.mem ((c.tc : Thread Cert.AttnSIdeal.nD Cert.AttnSIdeal.τ).loc Cert.AttnSIdeal.main_arg4) = m ((c.tc : Thread Cert.AttnSIdeal.nD Cert.AttnSIdeal.τ).loc Cert.AttnSIdeal.main_arg4)
          ∧ r.2.mem ((c.tc : Thread Cert.AttnSIdeal.nD Cert.AttnSIdeal.τ).loc Cert.AttnSIdeal.main_arg5) = m ((c.tc : Thread Cert.AttnSIdeal.nD Cert.AttnSIdeal.τ).loc Cert.AttnSIdeal.main_arg5)
          ∧ r.2.mem ((c.tc : Thread Cert.AttnSIdeal.nD Cert.AttnSIdeal.τ).loc Cert.AttnSIdeal.main_arg6) = m ((c.tc : Thread Cert.AttnSIdeal.nD Cert.AttnSIdeal.τ).loc Cert.AttnSIdeal.main_arg6)
          ∧ r.2.mem ((c.tc : Thread Cert.AttnSIdeal.nD Cert.AttnSIdeal.τ).loc Cert.AttnSIdeal.main_arg7) = m ((c.tc : Thread Cert.AttnSIdeal.nD Cert.AttnSIdeal.τ).loc Cert.AttnSIdeal.main_arg7))
      ∧ θ_run (Cert.AttnSRefIdeal.defs (F := Ideal)) (onTc (τ := Cert.AttnSRefIdeal.τ) (Cert.AttnSRefIdeal.main (F := Ideal))) ⟨m', fun _ => 0, g'⟩ (fun r => ∀ c : Dev Cert.AttnSRefIdeal.nD,
          r.2.mem ((c.tc : Thread Cert.AttnSRefIdeal.nD Cert.AttnSRefIdeal.τ).loc Cert.AttnSRefIdeal.main_v91) = v0 c
          ∧ r.2.mem ((c.tc : Thread Cert.AttnSRefIdeal.nD Cert.AttnSRefIdeal.τ).loc Cert.AttnSRefIdeal.main_v93) = v1 c
          ∧ r.2.mem ((c.tc : Thread Cert.AttnSRefIdeal.nD Cert.AttnSRefIdeal.τ).loc Cert.AttnSRefIdeal.main_arg0) = m' ((c.tc : Thread Cert.AttnSRefIdeal.nD Cert.AttnSRefIdeal.τ).loc Cert.AttnSRefIdeal.main_arg0)
          ∧ r.2.mem ((c.tc : Thread Cert.AttnSRefIdeal.nD Cert.AttnSRefIdeal.τ).loc Cert.AttnSRefIdeal.main_arg1) = m' ((c.tc : Thread Cert.AttnSRefIdeal.nD Cert.AttnSRefIdeal.τ).loc Cert.AttnSRefIdeal.main_arg1)
          ∧ r.2.mem ((c.tc : Thread Cert.AttnSRefIdeal.nD Cert.AttnSRefIdeal.τ).loc Cert.AttnSRefIdeal.main_arg2) = m' ((c.tc : Thread Cert.AttnSRefIdeal.nD Cert.AttnSRefIdeal.τ).loc Cert.AttnSRefIdeal.main_arg2)
          ∧ r.2.mem ((c.tc : Thread Cert.AttnSRefIdeal.nD Cert.AttnSRefIdeal.τ).loc Cert.AttnSRefIdeal.main_arg3) = m' ((c.tc : Thread Cert.AttnSRefIdeal.nD Cert.AttnSRefIdeal.τ).loc Cert.AttnSRefIdeal.main_arg3)
          ∧ r.2.mem ((c.tc : Thread Cert.AttnSRefIdeal.nD Cert.AttnSRefIdeal.τ).loc Cert.AttnSRefIdeal.main_arg4) = m' ((c.tc : Thread Cert.AttnSRefIdeal.nD Cert.AttnSRefIdeal.τ).loc Cert.AttnSRefIdeal.main_arg4)
          ∧ r.2.mem ((c.tc : Thread Cert.AttnSRefIdeal.nD Cert.AttnSRefIdeal.τ).loc Cert.AttnSRefIdeal.main_arg5) = m' ((c.tc : Thread Cert.AttnSRefIdeal.nD Cert.AttnSRefIdeal.τ).loc Cert.AttnSRefIdeal.main_arg5)
          ∧ r.2.mem ((c.tc : Thread Cert.AttnSRefIdeal.nD Cert.AttnSRefIdeal.τ).loc Cert.AttnSRefIdeal.main_arg6) = m' ((c.tc : Thread Cert.AttnSRefIdeal.nD Cert.AttnSRefIdeal.τ).loc Cert.AttnSRefIdeal.main_arg6)
          ∧ r.2.mem ((c.tc : Thread Cert.AttnSRefIdeal.nD Cert.AttnSRefIdeal.τ).loc Cert.AttnSRefIdeal.main_arg7) = m' ((c.tc : Thread Cert.AttnSRefIdeal.nD Cert.AttnSRefIdeal.τ).loc Cert.AttnSRefIdeal.main_arg7))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)
      ∧ m' ((c.tc : Thread Cert.AdaRefIdeal.nD Cert.AdaRefIdeal.τ).loc Cert.AdaRefIdeal.main_arg3) = m ((c.tc : Thread Cert.AdaIdeal.nD Cert.AdaIdeal.τ).loc Cert.AdaIdeal.main_arg3)) →
    ∃ (v0 : (c : Dev Cert.AdaIdeal.nD) → Buf (Elt Ideal) ((c.tc : Thread Cert.AdaIdeal.nD Cert.AdaIdeal.τ).loc Cert.AdaIdeal.main_v5)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v5) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
          ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v14) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2)
          ∧ r.2.mem ((c.tc : Thread Cert.AdaRefIdeal.nD Cert.AdaRefIdeal.τ).loc Cert.AdaRefIdeal.main_arg3) = m' ((c.tc : Thread Cert.AdaRefIdeal.nD Cert.AdaRefIdeal.τ).loc Cert.AdaRefIdeal.main_arg3))

def preserves_Pool_PoolIdeal : Prop :=
  True

def algebraic_PoolIdeal_PoolRefIdeal [hPoolIdeal : Cert.PoolIdeal.Facts] [hPoolRefIdeal : Cert.PoolRefIdeal.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)) →
    ∃ (v0 : (c : Dev Cert.PoolIdeal.nD) → Buf (Elt Ideal) ((c.tc : Thread Cert.PoolIdeal.nD Cert.PoolIdeal.τ).loc Cert.PoolIdeal.main_v5)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v5) = v0 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v52) = v0 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0))

def preserves_PoolS_PoolSIdeal : Prop :=
  True

def algebraic_PoolSIdeal_PoolSRefIdeal [hPoolSIdeal : Cert.PoolSIdeal.Facts] [hPoolSRefIdeal : Cert.PoolSRefIdeal.Facts] : Prop :=
  ∀ (m : (ℓ : Loc Cert.PoolSIdeal.nD Cert.PoolSIdeal.τ Cert.PoolSIdeal.sig) → Buf (Elt Ideal) ℓ) (g : Dev Cert.PoolSIdeal.nD → PrngReg)
    (m' : (ℓ : Loc Cert.PoolSRefIdeal.nD Cert.PoolSRefIdeal.τ Cert.PoolSRefIdeal.sig) → Buf (Elt Ideal) ℓ) (g' : Dev Cert.PoolSRefIdeal.nD → PrngReg), Pre_PoolSIdeal m →
    (∀ c : Dev Cert.PoolSIdeal.nD,
      m' ((c.tc : Thread Cert.PoolSRefIdeal.nD Cert.PoolSRefIdeal.τ).loc Cert.PoolSRefIdeal.main_arg0) = m ((c.tc : Thread Cert.PoolSIdeal.nD Cert.PoolSIdeal.τ).loc Cert.PoolSIdeal.main_arg0)
      ∧ m' ((c.tc : Thread Cert.PoolSRefIdeal.nD Cert.PoolSRefIdeal.τ).loc Cert.PoolSRefIdeal.main_arg1) = m ((c.tc : Thread Cert.PoolSIdeal.nD Cert.PoolSIdeal.τ).loc Cert.PoolSIdeal.main_arg1)) →
    ∃ (v0 : (c : Dev Cert.PoolSIdeal.nD) → Buf (Elt Ideal) ((c.tc : Thread Cert.PoolSIdeal.nD Cert.PoolSIdeal.τ).loc Cert.PoolSIdeal.main_v2)),
      θ_run (Cert.PoolSIdeal.defs (F := Ideal)) (onTc (τ := Cert.PoolSIdeal.τ) (Cert.PoolSIdeal.main (F := Ideal))) ⟨m, fun _ => 0, g⟩ (fun r => ∀ c : Dev Cert.PoolSIdeal.nD,
          r.2.mem ((c.tc : Thread Cert.PoolSIdeal.nD Cert.PoolSIdeal.τ).loc Cert.PoolSIdeal.main_v2) = v0 c
          ∧ r.2.mem ((c.tc : Thread Cert.PoolSIdeal.nD Cert.PoolSIdeal.τ).loc Cert.PoolSIdeal.main_arg0) = m ((c.tc : Thread Cert.PoolSIdeal.nD Cert.PoolSIdeal.τ).loc Cert.PoolSIdeal.main_arg0)
          ∧ r.2.mem ((c.tc : Thread Cert.PoolSIdeal.nD Cert.PoolSIdeal.τ).loc Cert.PoolSIdeal.main_arg1) = m ((c.tc : Thread Cert.PoolSIdeal.nD Cert.PoolSIdeal.τ).loc Cert.PoolSIdeal.main_arg1))
      ∧ θ_run (Cert.PoolSRefIdeal.defs (F := Ideal)) (onTc (τ := Cert.PoolSRefIdeal.τ) (Cert.PoolSRefIdeal.main (F := Ideal))) ⟨m', fun _ => 0, g'⟩ (fun r => ∀ c : Dev Cert.PoolSRefIdeal.nD,
          r.2.mem ((c.tc : Thread Cert.PoolSRefIdeal.nD Cert.PoolSRefIdeal.τ).loc Cert.PoolSRefIdeal.main_v33) = v0 c
          ∧ r.2.mem ((c.tc : Thread Cert.PoolSRefIdeal.nD Cert.PoolSRefIdeal.τ).loc Cert.PoolSRefIdeal.main_arg0) = m' ((c.tc : Thread Cert.PoolSRefIdeal.nD Cert.PoolSRefIdeal.τ).loc Cert.PoolSRefIdeal.main_arg0)
          ∧ r.2.mem ((c.tc : Thread Cert.PoolSRefIdeal.nD Cert.PoolSRefIdeal.τ).loc Cert.PoolSRefIdeal.main_arg1) = m' ((c.tc : Thread Cert.PoolSRefIdeal.nD Cert.PoolSRefIdeal.τ).loc Cert.PoolSRefIdeal.main_arg1))

def Claim : Prop :=
  ∃ (hKernel : Cert.Kernel.Facts) (hKernelIdeal : Cert.KernelIdeal.Facts) (hReferenceIdeal : Cert.ReferenceIdeal.Facts) (hProj : Cert.Proj.Facts) (hProjIdeal : Cert.ProjIdeal.Facts) (hProjRefIdeal : Cert.ProjRefIdeal.Facts) (hMix : Cert.Mix.Facts) (hMixIdeal : Cert.MixIdeal.Facts) (hMixRefIdeal : Cert.MixRefIdeal.Facts) (hProjS : Cert.ProjS.Facts) (hProjSIdeal : Cert.ProjSIdeal.Facts) (hProjSRefIdeal : Cert.ProjSRefIdeal.Facts) (hAttnS : Cert.AttnS.Facts) (hAttnSIdeal : Cert.AttnSIdeal.Facts) (hAttnSRefIdeal : Cert.AttnSRefIdeal.Facts) (hAda : Cert.Ada.Facts) (hAdaIdeal : Cert.AdaIdeal.Facts) (hAdaRefIdeal : Cert.AdaRefIdeal.Facts) (hPool : Cert.Pool.Facts) (hPoolIdeal : Cert.PoolIdeal.Facts) (hPoolRefIdeal : Cert.PoolRefIdeal.Facts) (hPoolS : Cert.PoolS.Facts) (hPoolSIdeal : Cert.PoolSIdeal.Facts) (hPoolSRefIdeal : Cert.PoolSRefIdeal.Facts) (hPre_finite_gains : Cert.Pre_finite_gains.Facts),
    quiescent_Kernel (hKernel := hKernel)
    ∧ quiescent_KernelIdeal (hKernelIdeal := hKernelIdeal)
    ∧ quiescent_KernelIdeal_pre_finite_gains (hKernelIdeal := hKernelIdeal) (hPre_finite_gains := hPre_finite_gains)
    ∧ quiescent_ReferenceIdeal (hReferenceIdeal := hReferenceIdeal)
    ∧ quiescent_ReferenceIdeal_pre_finite_gains (hReferenceIdeal := hReferenceIdeal) (hPre_finite_gains := hPre_finite_gains)
    ∧ quiescent_Proj (hProj := hProj)
    ∧ quiescent_ProjIdeal (hProjIdeal := hProjIdeal)
    ∧ quiescent_ProjRefIdeal (hProjRefIdeal := hProjRefIdeal)
    ∧ quiescent_Mix (hMix := hMix)
    ∧ quiescent_MixIdeal (hMixIdeal := hMixIdeal)
    ∧ quiescent_MixRefIdeal (hMixRefIdeal := hMixRefIdeal)
    ∧ quiescent_ProjS (hProjS := hProjS)
    ∧ quiescent_ProjSIdeal (hProjSIdeal := hProjSIdeal)
    ∧ quiescent_ProjSRefIdeal (hProjSRefIdeal := hProjSRefIdeal)
    ∧ quiescent_AttnS (hAttnS := hAttnS)
    ∧ quiescent_AttnSIdeal (hAttnSIdeal := hAttnSIdeal)
    ∧ quiescent_AttnSRefIdeal (hAttnSRefIdeal := hAttnSRefIdeal)
    ∧ quiescent_Ada (hAda := hAda)
    ∧ quiescent_AdaIdeal (hAdaIdeal := hAdaIdeal)
    ∧ quiescent_AdaRefIdeal (hAdaRefIdeal := hAdaRefIdeal)
    ∧ quiescent_Pool (hPool := hPool)
    ∧ quiescent_PoolIdeal (hPoolIdeal := hPoolIdeal)
    ∧ quiescent_PoolRefIdeal (hPoolRefIdeal := hPoolRefIdeal)
    ∧ quiescent_PoolS (hPoolS := hPoolS)
    ∧ quiescent_PoolSIdeal (hPoolSIdeal := hPoolSIdeal)
    ∧ quiescent_PoolSRefIdeal (hPoolSRefIdeal := hPoolSRefIdeal)
    ∧ preserves_Kernel_KernelIdeal
    ∧ algebraic_KernelIdeal_ReferenceIdeal_pre_finite_gains (hKernelIdeal := hKernelIdeal) (hReferenceIdeal := hReferenceIdeal) (hPre_finite_gains := hPre_finite_gains)
    ∧ preserves_Proj_ProjIdeal
    ∧ algebraic_ProjIdeal_ProjRefIdeal (hProjIdeal := hProjIdeal) (hProjRefIdeal := hProjRefIdeal)
    ∧ preserves_Mix_MixIdeal
    ∧ algebraic_MixIdeal_MixRefIdeal (hMixIdeal := hMixIdeal) (hMixRefIdeal := hMixRefIdeal)
    ∧ preserves_ProjS_ProjSIdeal
    ∧ algebraic_ProjSIdeal_ProjSRefIdeal (hProjSIdeal := hProjSIdeal) (hProjSRefIdeal := hProjSRefIdeal)
    ∧ preserves_AttnS_AttnSIdeal
    ∧ algebraic_AttnSIdeal_AttnSRefIdeal (hAttnSIdeal := hAttnSIdeal) (hAttnSRefIdeal := hAttnSRefIdeal)
    ∧ preserves_Ada_AdaIdeal
    ∧ algebraic_AdaIdeal_AdaRefIdeal (hAdaIdeal := hAdaIdeal) (hAdaRefIdeal := hAdaRefIdeal)
    ∧ preserves_Pool_PoolIdeal
    ∧ algebraic_PoolIdeal_PoolRefIdeal (hPoolIdeal := hPoolIdeal) (hPoolRefIdeal := hPoolRefIdeal)
    ∧ preserves_PoolS_PoolSIdeal
    ∧ algebraic_PoolSIdeal_PoolSRefIdeal (hPoolSIdeal := hPoolSIdeal) (hPoolSRefIdeal := hPoolSRefIdeal)
-- ==== Pre_finite_gains.lean ====
abbrev S16x2048x512 : Shape := ⟨3, ![16, 2048, 512]⟩
abbrev S16x2048x128 : Shape := ⟨3, ![16, 2048, 128]⟩
abbrev S1x64 : Shape := ⟨2, ![1, 64]⟩
abbrev S1x8 : Shape := ⟨2, ![1, 8]⟩
abbrev S_ : Shape := ⟨0, ![]⟩

class Facts : Prop where
  bcast_S_S1x64 : S_.BroadcastsInDim S1x64 (![] : Fin 0 → Fin S1x64.rank)
  reducesTo_S1x64_S_d0_1 : S1x64.ReducesTo [0, 1] S_
  h_S_ : 0 < S_.numel
  bcast_S_S1x8 : S_.BroadcastsInDim S1x8 (![] : Fin 0 → Fin S1x8.rank)
  reducesTo_S1x8_S_d0_1 : S1x8.ReducesTo [0, 1] S_

variable [Facts]

def fn {F : FTy → Type} [FloatOps F] (main_arg0 : FVec F S16x2048x512 .f32) (main_arg1 : FVec F S16x2048x128 .f32) (main_arg2 : FVec F S16x2048x128 .f32) (main_arg3 : FVec F S1x64 .f32) (main_arg4 : FVec F S1x64 .f32) (main_arg5 : FVec F S1x8 .f32) : IVec S_ 1 :=
  let main_v0 : FVec F S1x64 .f32 := Host.absf main_arg3
  let main_cst : FVec F S_ .f32 := constant S_ .f32 0x7F800000#32
  let main_v1 : FVec F S1x64 .f32 := broadcastInDim S1x64 ![] bcast_S_S1x64 main_cst
  let main_v2 : IVec S1x64 1 := cmpf .olt main_v0 main_v1
  let main_c : IVec S_ 1 := constantI S_ 1 1#1
  let main_v3 : IVec S_ 1 := (fun x v => Host.reduce IntOp.andi x v reducesTo_S1x64_S_d0_1 h_S_) main_v2 main_c
  let main_v4 : FVec F S1x64 .f32 := Host.absf main_arg4
  let main_cst_0 : FVec F S_ .f32 := constant S_ .f32 0x7F800000#32
  let main_v5 : FVec F S1x64 .f32 := broadcastInDim S1x64 ![] bcast_S_S1x64 main_cst_0
  let main_v6 : IVec S1x64 1 := cmpf .olt main_v4 main_v5
  let main_c_1 : IVec S_ 1 := constantI S_ 1 1#1
  let main_v7 : IVec S_ 1 := (fun x v => Host.reduce IntOp.andi x v reducesTo_S1x64_S_d0_1 h_S_) main_v6 main_c_1
  let main_v8 : IVec S_ 1 := andi main_v3 main_v7
  let main_v9 : FVec F S1x8 .f32 := Host.absf main_arg5
  let main_cst_2 : FVec F S_ .f32 := constant S_ .f32 0x7F800000#32
  let main_v10 : FVec F S1x8 .f32 := broadcastInDim S1x8 ![] bcast_S_S1x8 main_cst_2
  let main_v11 : IVec S1x8 1 := cmpf .olt main_v9 main_v10
  let main_c_3 : IVec S_ 1 := constantI S_ 1 1#1
  let main_v12 : IVec S_ 1 := (fun x v => Host.reduce IntOp.andi x v reducesTo_S1x8_S_d0_1 h_S_) main_v11 main_c_3
  let main_v13 : IVec S_ 1 := andi main_v8 main_v12
  main_v13
-- ==== Kernel.lean ====
abbrev S16x2048x512 : Shape := ⟨3, ![16, 2048, 512]⟩
abbrev S16x2048x128 : Shape := ⟨3, ![16, 2048, 128]⟩
abbrev S1x64 : Shape := ⟨2, ![1, 64]⟩
abbrev S1x8 : Shape := ⟨2, ![1, 8]⟩
abbrev S64 : Shape := ⟨1, ![64]⟩
abbrev S8 : Shape := ⟨1, ![8]⟩
abbrev S1x128x512 : Shape := ⟨3, ![1, 128, 512]⟩
abbrev S1x128x128 : Shape := ⟨3, ![1, 128, 128]⟩
abbrev S128x256 : Shape := ⟨2, ![128, 256]⟩
abbrev S1x128x64 : Shape := ⟨3, ![1, 128, 64]⟩
abbrev S128x64 : Shape := ⟨2, ![128, 64]⟩
abbrev S128 : Shape := ⟨1, ![128]⟩
abbrev S128x1 : Shape := ⟨2, ![128, 1]⟩
abbrev S256x64 : Shape := ⟨2, ![256, 64]⟩
abbrev S1 : Shape := ⟨1, ![1]⟩

abbrev nBuf : Space → Nat
  | .hbm => 13
  | .vmem => 16
  | .smem => 1
  | _ => 0

abbrev bufTy : (tb : Table) → Fin (tcTables nBuf tb) → BufTy
  | .hbm, ⟨0, _⟩ => ⟨S16x2048x512, .f32⟩
  | .hbm, ⟨1, _⟩ => ⟨S16x2048x128, .f32⟩
  | .hbm, ⟨2, _⟩ => ⟨S16x2048x128, .f32⟩
  | .hbm, ⟨3, _⟩ => ⟨S1x64, .f32⟩
  | .hbm, ⟨4, _⟩ => ⟨S1x64, .f32⟩
  | .hbm, ⟨5, _⟩ => ⟨S1x8, .f32⟩
  | .hbm, ⟨6, _⟩ => ⟨S64, .f32⟩
  | .hbm, ⟨7, _⟩ => ⟨S64, .f32⟩
  | .hbm, ⟨8, _⟩ => ⟨S8, .f32⟩
  | .hbm, ⟨9, _⟩ => ⟨S1x64, .f32⟩
  | .hbm, ⟨10, _⟩ => ⟨S1x64, .f32⟩
  | .hbm, ⟨11, _⟩ => ⟨S16x2048x512, .f32⟩
  | .hbm, ⟨12, _⟩ => ⟨S16x2048x128, .f32⟩
  | .local _ .vmem, ⟨0, _⟩ => ⟨S1x128x512, .f32⟩
  | .local _ .vmem, ⟨1, _⟩ => ⟨S1x128x512, .f32⟩
  | .local _ .vmem, ⟨2, _⟩ => ⟨S1x128x128, .f32⟩
  | .local _ .vmem, ⟨3, _⟩ => ⟨S1x128x128, .f32⟩
  | .local _ .vmem, ⟨4, _⟩ => ⟨S1x128x128, .f32⟩
  | .local _ .vmem, ⟨5, _⟩ => ⟨S1x128x128, .f32⟩
  | .local _ .vmem, ⟨6, _⟩ => ⟨S1x128x128, .f32⟩
  | .local _ .vmem, ⟨7, _⟩ => ⟨S1x128x128, .f32⟩
  | .local _ .vmem, ⟨8, _⟩ => ⟨S1x128x128, .f32⟩
  | .local _ .vmem, ⟨9, _⟩ => ⟨S1x128x128, .f32⟩
  | .local _ .vmem, ⟨10, _⟩ => ⟨S1x64, .f32⟩
  | .local _ .vmem, ⟨11, _⟩ => ⟨S1x64, .f32⟩
  | .local _ .vmem, ⟨12, _⟩ => ⟨S1x128x512, .f32⟩
  | .local _ .vmem, ⟨13, _⟩ => ⟨S1x128x512, .f32⟩
  | .local _ .vmem, ⟨14, _⟩ => ⟨S1x128x128, .f32⟩
  | .local _ .vmem, ⟨15, _⟩ => ⟨S1x128x128, .f32⟩
  | .local _ .smem, ⟨0, _⟩ => ⟨S8, .f32⟩
  | _, _ => ⟨S16x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![16, 16], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S16x2048x512 : Shape := ⟨3, ![16, 2048, 512]⟩
abbrev S16x2048x128 : Shape := ⟨3, ![16, 2048, 128]⟩
abbrev S1x64 : Shape := ⟨2, ![1, 64]⟩
abbrev S1x8 : Shape := ⟨2, ![1, 8]⟩
abbrev S16x2048x8x64 : Shape := ⟨4, ![16, 2048, 8, 64]⟩
abbrev S64 : Shape := ⟨1, ![64]⟩
abbrev S_ : Shape := ⟨0, ![]⟩
abbrev S16x2048x8 : Shape := ⟨3, ![16, 2048, 8]⟩
abbrev S16x2048x8x1 : Shape := ⟨4, ![16, 2048, 8, 1]⟩
abbrev S1x1x1x64 : Shape := ⟨4, ![1, 1, 1, 64]⟩
abbrev S16x2048x2x64 : Shape := ⟨4, ![16, 2048, 2, 64]⟩
abbrev S16x2048x2 : Shape := ⟨3, ![16, 2048, 2]⟩
abbrev S16x2048x2x1 : Shape := ⟨4, ![16, 2048, 2, 1]⟩
abbrev S16x16x128x2x4x64 : Shape := ⟨6, ![16, 16, 128, 2, 4, 64]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16 : Shape := ⟨1, ![16]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S8 : Shape := ⟨1, ![8]⟩
abbrev S2x4x1x1 : Shape := ⟨4, ![2, 4, 1, 1]⟩
abbrev S16x2176x2x64 : Shape := ⟨4, ![16, 2176, 2, 64]⟩
abbrev S16x17x128x2x64 : Shape := ⟨5, ![16, 17, 128, 2, 64]⟩
abbrev S16x16x128x2x64 : Shape := ⟨5, ![16, 16, 128, 2, 64]⟩
abbrev S16x16x256x2x64 : Shape := ⟨5, ![16, 16, 256, 2, 64]⟩
abbrev S16x16x2x256x128x4 : Shape := ⟨6, ![16, 16, 2, 256, 128, 4]⟩
abbrev S16x16x2x4x128x256 : Shape := ⟨6, ![16, 16, 2, 4, 128, 256]⟩
abbrev S1x1x128x256 : Shape := ⟨4, ![1, 1, 128, 256]⟩
abbrev S2x4x128x256 : Shape := ⟨4, ![2, 4, 128, 256]⟩
abbrev S1x1x2x4x128x256 : Shape := ⟨6, ![1, 1, 2, 4, 128, 256]⟩
abbrev S16x1x1x128x256 : Shape := ⟨5, ![16, 1, 1, 128, 256]⟩
abbrev S16x16x2x4x128x1 : Shape := ⟨6, ![16, 16, 2, 4, 128, 1]⟩
abbrev S16x16x2x4x128x257 : Shape := ⟨6, ![16, 16, 2, 4, 128, 257]⟩
abbrev S16x16x2x4x128 : Shape := ⟨5, ![16, 16, 2, 4, 128]⟩
abbrev S16x16x2x64x4x128 : Shape := ⟨6, ![16, 16, 2, 64, 4, 128]⟩

abbrev nBuf : Space → Nat
  | .hbm => 150
  | .vmem => 0
  | .smem => 0
  | _ => 0

abbrev hbmTy0_0 (i : Nat) : BufTy := match i % 128 with
  | 0 => ⟨S16x2048x512, .f32⟩
  | 1 => ⟨S16x2048x128, .f32⟩
  | 2 => ⟨S16x2048x128, .f32⟩
  | 3 => ⟨S1x64, .f32⟩
  | 4 => ⟨S1x64, .f32⟩
  | 5 => ⟨S1x8, .f32⟩
  | 6 => ⟨S16x2048x8x64, .f32⟩
  | 7 => ⟨S64, .f32⟩
  | 8 => ⟨S16x2048x8x64, .f32⟩
  | 9 => ⟨S_, .f32⟩
  | 10 => ⟨S16x2048x8, .f32⟩
  | 11 => ⟨S16x2048x8x1, .f32⟩
  | 12 => ⟨S_, .f32⟩
  | 13 => ⟨S16x2048x8x1, .f32⟩
  | 14 => ⟨S16x2048x8x1, .f32⟩
  | 15 => ⟨S_, .f32⟩
  | 16 => ⟨S16x2048x8x1, .f32⟩
  | 17 => ⟨S16x2048x8x1, .f32⟩
  | 18 => ⟨S16x2048x8x1, .f32⟩
  | 19 => ⟨S16x2048x8x64, .f32⟩
  | 20 => ⟨S16x2048x8x64, .f32⟩
  | 21 => ⟨S1x1x1x64, .f32⟩
  | 22 => ⟨S16x2048x8x64, .f32⟩
  | 23 => ⟨S16x2048x8x64, .f32⟩
  | 24 => ⟨S16x2048x2x64, .f32⟩
  | 25 => ⟨S64, .f32⟩
  | 26 => ⟨S16x2048x2x64, .f32⟩
  | 27 => ⟨S_, .f32⟩
  | 28 => ⟨S16x2048x2, .f32⟩
  | 29 => ⟨S16x2048x2x1, .f32⟩
  | 30 => ⟨S_, .f32⟩
  | 31 => ⟨S16x2048x2x1, .f32⟩
  | 32 => ⟨S16x2048x2x1, .f32⟩
  | 33 => ⟨S_, .f32⟩
  | 34 => ⟨S16x2048x2x1, .f32⟩
  | 35 => ⟨S16x2048x2x1, .f32⟩
  | 36 => ⟨S16x2048x2x1, .f32⟩
  | 37 => ⟨S16x2048x2x64, .f32⟩
  | 38 => ⟨S16x2048x2x64, .f32⟩
  | 39 => ⟨S1x1x1x64, .f32⟩
  | 40 => ⟨S16x2048x2x64, .f32⟩
  | 41 => ⟨S16x2048x2x64, .f32⟩
  | 42 => ⟨S16x2048x2x64, .f32⟩
  | 43 => ⟨S16x16x128x2x4x64, .f32⟩
  | 44 => ⟨S128, .i32⟩
  | 45 => ⟨S128x1, .i32⟩
  | 46 => ⟨S256, .i32⟩
  | 47 => ⟨S1x256, .i32⟩
  | 48 => ⟨S_, .i32⟩
  | 49 => ⟨S128x1, .i32⟩
  | 50 => ⟨S128x1, .i32⟩
  | 51 => ⟨S128x256, .i32⟩
  | 52 => ⟨S128x256, .i32⟩
  | 53 => ⟨S128x256, .i32⟩
  | 54 => ⟨S16, .i32⟩
  | 55 => ⟨S16x1x1, .i32⟩
  | 56 => ⟨S_, .i32⟩
  | 57 => ⟨S16x1x1, .i32⟩
  | 58 => ⟨S16x1x1, .i32⟩
  | 59 => ⟨S_, .i32⟩
  | 60 => ⟨S16x1x1, .i32⟩
  | 61 => ⟨S16x1x1, .i32⟩
  | 62 => ⟨S1x1x256, .i32⟩
  | 63 => ⟨S16x1x256, .i32⟩
  | 64 => ⟨S16x1x256, .i32⟩
  | 65 => ⟨S16x1x256, .i32⟩
  | 66 => ⟨S_, .i32⟩
  | 67 => ⟨S128x256, .i32⟩
  | 68 => ⟨S128x256, .i1⟩
  | 69 => ⟨S_, .i32⟩
  | 70 => ⟨S128x256, .i32⟩
  | 71 => ⟨S128x256, .i1⟩
  | 72 => ⟨S128x256, .i1⟩
  | 73 => ⟨S_, .i32⟩
  | 74 => ⟨S16x1x256, .i32⟩
  | 75 => ⟨S16x1x256, .i1⟩
  | 76 => ⟨S1x128x256, .i1⟩
  | 77 => ⟨S16x128x256, .i1⟩
  | 78 => ⟨S16x128x256, .i1⟩
  | 79 => ⟨S16x128x256, .i1⟩
  | 80 => ⟨S8, .f32⟩
  | 81 => ⟨S_, .f32⟩
  | 82 => ⟨S8, .f32⟩
  | 83 => ⟨S8, .f32⟩
  | 84 => ⟨S_, .f32⟩
  | 85 => ⟨S8, .f32⟩
  | 86 => ⟨S8, .f32⟩
  | 87 => ⟨S_, .f32⟩
  | 88 => ⟨S8, .f32⟩
  | 89 => ⟨S8, .f32⟩
  | 90 => ⟨S_, .f32⟩
  | 91 => ⟨S8, .f32⟩
  | 92 => ⟨S8, .f32⟩
  | 93 => ⟨S2x4x1x1, .f32⟩
  | 94 => ⟨S_, .i32⟩
  | 95 => ⟨S_, .f32⟩
  | 96 => ⟨S16x2176x2x64, .f32⟩
  | 97 => ⟨S16x17x128x2x64, .f32⟩
  | 98 => ⟨S16x16x128x2x64, .f32⟩
  | 99 => ⟨S16x16x128x2x64, .f32⟩
  | 100 => ⟨S16x16x256x2x64, .f32⟩
  | 101 => ⟨S16x16x2x256x128x4, .f32⟩
  | 102 => ⟨S16x16x2x4x128x256, .f32⟩
  | 103 => ⟨S_, .f32⟩
  | 104 => ⟨S16x16x2x4x128x256, .f32⟩
  | 105 => ⟨S16x16x2x4x128x256, .f32⟩
  | 106 => ⟨S128x256, .f32⟩
  | 107 => ⟨S1x1x128x256, .f32⟩
  | 108 => ⟨S2x4x128x256, .f32⟩
  | 109 => ⟨S2x4x128x256, .f32⟩
  | 110 => ⟨S2x4x128x256, .f32⟩
  | 111 => ⟨S1x1x2x4x128x256, .f32⟩
  | 112 => ⟨S16x16x2x4x128x256, .f32⟩
  | 113 => ⟨S16x16x2x4x128x256, .f32⟩
  | 114 => ⟨S16x1x1x128x256, .i1⟩
  | 115 => ⟨S_, .f32⟩
  | 116 => ⟨S_, .f32⟩
  | 117 => ⟨S16x16x2x4x128x256, .i1⟩
  | 118 => ⟨S16x16x2x4x128x256, .f32⟩
  | 119 => ⟨S16x16x2x4x128x256, .f32⟩
  | 120 => ⟨S8, .f32⟩
  | 121 => ⟨S2x4x1x1, .f32⟩
  | 122 => ⟨S16x16x2x4x128x1, .f32⟩
  | 123 => ⟨S16x16x2x4x128x257, .f32⟩
  | 124 => ⟨S_, .f32⟩
  | 125 => ⟨S16x16x2x4x128, .f32⟩
  | 126 => ⟨S_, .f32⟩
  | 127 => ⟨S16x16x2x4x128, .f32⟩
  | _ => ⟨S16x2048x512, .f32⟩

abbrev hbmTy0_1 (i : Nat) : BufTy := match i % 128 with
  | 0 => ⟨S16x16x2x4x128, .f32⟩
  | 1 => ⟨S16x16x2x4x128x1, .f32⟩
  | 2 => ⟨S16x16x2x4x128x257, .f32⟩
  | 3 => ⟨S16x16x2x4x128x257, .f32⟩
  | 4 => ⟨S16x16x2x4x128x257, .f32⟩
  | 5 => ⟨S_, .f32⟩
  | 6 => ⟨S16x16x2x4x128, .f32⟩
  | 7 => ⟨S16x16x2x4x128x1, .f32⟩
  | 8 => ⟨S16x16x2x4x128x257, .f32⟩
  | 9 => ⟨S16x16x2x4x128x257, .f32⟩
  | 10 => ⟨S16x16x2x4x128x256, .f32⟩
  | 11 => ⟨S_, .i32⟩
  | 12 => ⟨S_, .f32⟩
  | 13 => ⟨S16x2176x2x64, .f32⟩
  | 14 => ⟨S16x17x128x2x64, .f32⟩
  | 15 => ⟨S16x16x128x2x64, .f32⟩
  | 16 => ⟨S16x16x128x2x64, .f32⟩
  | 17 => ⟨S16x16x256x2x64, .f32⟩
  | 18 => ⟨S16x16x2x64x4x128, .f32⟩
  | 19 => ⟨S16x16x128x2x4x64, .f32⟩
  | 20 => ⟨S16x2048x512, .f32⟩
  | 21 => ⟨S16x2048x128, .f32⟩
  | _ => ⟨S16x2048x512, .f32⟩

abbrev hbmTy (i : Nat) : BufTy := match i / 128 with
  | 0 => hbmTy0_0 i
  | 1 => hbmTy0_1 i
  | _ => ⟨S16x2048x512, .f32⟩

abbrev bufTy : (tb : Table) → Fin (tcTables nBuf tb) → BufTy
  | .hbm, ⟨i, _⟩ => hbmTy i
  | _, _ => ⟨S16x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_c : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_c_5 : Ref sig .tc := ⟨.hbm, 56, rfl⟩
abbrev main_v43 : Ref sig .tc := ⟨.hbm, 57, rfl⟩
abbrev main_v44 : Ref sig .tc := ⟨.hbm, 58, rfl⟩
abbrev main_c_6 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_c_7 : Ref sig .tc := ⟨.hbm, 66, rfl⟩
abbrev main_v51 : Ref sig .tc := ⟨.hbm, 67, rfl⟩
abbrev main_v52 : Ref sig .tc := ⟨.hbm, 68, rfl⟩
abbrev main_c_8 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_c_9 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_10 : Ref sig .tc := ⟨.hbm, 81, rfl⟩
abbrev main_v63 : Ref sig .tc := ⟨.hbm, 82, rfl⟩
abbrev main_v64 : Ref sig .tc := ⟨.hbm, 83, rfl⟩
abbrev main_cst_11 : Ref sig .tc := ⟨.hbm, 84, rfl⟩
abbrev main_v65 : Ref sig .tc := ⟨.hbm, 85, rfl⟩
abbrev main_v66 : Ref sig .tc := ⟨.hbm, 86, rfl⟩
abbrev main_cst_12 : Ref sig .tc := ⟨.hbm, 87, rfl⟩
abbrev main_v67 : Ref sig .tc := ⟨.hbm, 88, rfl⟩
abbrev main_v68 : Ref sig .tc := ⟨.hbm, 89, rfl⟩
abbrev main_cst_13 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_c_14 : Ref sig .tc := ⟨.hbm, 94, rfl⟩
abbrev main_call0_v0 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_cst_15 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_cst_16 : Ref sig .tc := ⟨.hbm, 115, rfl⟩
abbrev main_call1_v0 : Ref sig .tc := ⟨.hbm, 116, rfl⟩
abbrev main_call1_v1 : Ref sig .tc := ⟨.hbm, 117, rfl⟩
abbrev main_call1_v2 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_cst_17 : Ref sig .tc := ⟨.hbm, 124, rfl⟩
abbrev main_v95 : Ref sig .tc := ⟨.hbm, 125, rfl⟩
abbrev main_cst_18 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_cst_19 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_c_20 : Ref sig .tc := ⟨.hbm, 139, rfl⟩
abbrev main_call2_v0 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩

abbrev nD : Nat := 1
abbrev τ : Topo := Topo.v7x

variable {F : FTy → Type} [FloatOps F]
-- ==== Proj.lean ====
abbrev S16x2048x1024 : Shape := ⟨3, ![16, 2048, 1024]⟩
abbrev S16x1x1024 : Shape := ⟨3, ![16, 1, 1024]⟩
abbrev S1x1024 : Shape := ⟨2, ![1, 1024]⟩
abbrev S1x1024x3328 : Shape := ⟨3, ![1, 1024, 3328]⟩
abbrev S1024 : Shape := ⟨1, ![1024]⟩
abbrev S1024x3328 : Shape := ⟨2, ![1024, 3328]⟩
abbrev S16x2048x512 : Shape := ⟨3, ![16, 2048, 512]⟩
abbrev S16x2048x128 : Shape := ⟨3, ![16, 2048, 128]⟩
abbrev S1x256x1024 : Shape := ⟨3, ![1, 256, 1024]⟩
abbrev S1x1x1024 : Shape := ⟨3, ![1, 1, 1024]⟩
abbrev S1x256x512 : Shape := ⟨3, ![1, 256, 512]⟩
abbrev S1x256x128 : Shape := ⟨3, ![1, 256, 128]⟩
abbrev S256x1024 : Shape := ⟨2, ![256, 1024]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩
abbrev S1024x128 : Shape := ⟨2, ![1024, 128]⟩
abbrev S256x128 : Shape := ⟨2, ![256, 128]⟩
abbrev S1024x1024 : Shape := ⟨2, ![1024, 1024]⟩

abbrev nBuf : Space → Nat
  | .hbm => 15
  | .vmem => 20
  | .smem => 0
  | _ => 0

abbrev bufTy : (tb : Table) → Fin (tcTables nBuf tb) → BufTy
  | .hbm, ⟨0, _⟩ => ⟨S16x2048x1024, .f32⟩
  | .hbm, ⟨1, _⟩ => ⟨S16x1x1024, .f32⟩
  | .hbm, ⟨2, _⟩ => ⟨S16x1x1024, .f32⟩
  | .hbm, ⟨3, _⟩ => ⟨S1x1024, .f32⟩
  | .hbm, ⟨4, _⟩ => ⟨S1x1024x3328, .f32⟩
  | .hbm, ⟨5, _⟩ => ⟨S1024, .f32⟩
  | .hbm, ⟨6, _⟩ => ⟨S1024x3328, .f32⟩
  | .hbm, ⟨7, _⟩ => ⟨S1024x3328, .bf16⟩
  | .hbm, ⟨8, _⟩ => ⟨S1x1024, .f32⟩
  | .hbm, ⟨9, _⟩ => ⟨S16x2048x512, .f32⟩
  | .hbm, ⟨10, _⟩ => ⟨S16x2048x128, .f32⟩
  | .hbm, ⟨11, _⟩ => ⟨S16x2048x128, .f32⟩
  | .hbm, ⟨12, _⟩ => ⟨S16x2048x512, .f32⟩
  | .hbm, ⟨13, _⟩ => ⟨S16x2048x1024, .f32⟩
  | .hbm, ⟨14, _⟩ => ⟨S16x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x3328, .bf16⟩
  | .local _ .vmem, ⟨8, _⟩ => ⟨S1x256x512, .f32⟩
  | .local _ .vmem, ⟨9, _⟩ => ⟨S1x256x512, .f32⟩
  | .local _ .vmem, ⟨10, _⟩ => ⟨S1x256x128, .f32⟩
  | .local _ .vmem, ⟨11, _⟩ => ⟨S1x256x128, .f32⟩
  | .local _ .vmem, ⟨12, _⟩ => ⟨S1x256x128, .f32⟩
  | .local _ .vmem, ⟨13, _⟩ => ⟨S1x256x128, .f32⟩
  | .local _ .vmem, ⟨14, _⟩ => ⟨S1x256x512, .f32⟩
  | .local _ .vmem, ⟨15, _⟩ => ⟨S1x256x512, .f32⟩
  | .local _ .vmem, ⟨16, _⟩ => ⟨S1x256x1024, .f32⟩
  | .local _ .vmem, ⟨17, _⟩ => ⟨S1x256x1024, .f32⟩
  | .local _ .vmem, ⟨18, _⟩ => ⟨S1x256x1024, .f32⟩
  | .local _ .vmem, ⟨19, _⟩ => ⟨S1x256x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev main_v4_4 : Ref sig .tc := ⟨.hbm, 13, rfl⟩
abbrev main_v4_5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x3328 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ProjRefIdeal.lean ====
abbrev S16x2048x1024 : Shape := ⟨3, ![16, 2048, 1024]⟩
abbrev S16x1x1024 : Shape := ⟨3, ![16, 1, 1024]⟩
abbrev S1x1024 : Shape := ⟨2, ![1, 1024]⟩
abbrev S1x1024x3328 : Shape := ⟨3, ![1, 1024, 3328]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1024x3328 : Shape := ⟨2, ![1024, 3328]⟩
abbrev S16x2048x3328 : Shape := ⟨3, ![16, 2048, 3328]⟩
abbrev S16x2048x512 : Shape := ⟨3, ![16, 2048, 512]⟩
abbrev S16x2048x128 : Shape := ⟨3, ![16, 2048, 128]⟩

abbrev nBuf : Space → Nat
  | .hbm => 37
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x1x1024, .f32⟩
  | .hbm, ⟨2, _⟩ => ⟨S16x1x1024, .f32⟩
  | .hbm, ⟨3, _⟩ => ⟨S1x1024, .f32⟩
  | .hbm, ⟨4, _⟩ => ⟨S1x1024x3328, .f32⟩
  | .hbm, ⟨5, _⟩ => ⟨S1024, .f32⟩
  | .hbm, ⟨6, _⟩ => ⟨S16x2048x1024, .f32⟩
  | .hbm, ⟨7, _⟩ => ⟨S_, .f32⟩
  | .hbm, ⟨8, _⟩ => ⟨S16x2048, .f32⟩
  | .hbm, ⟨9, _⟩ => ⟨S16x2048x1, .f32⟩
  | .hbm, ⟨10, _⟩ => ⟨S_, .f32⟩
  | .hbm, ⟨11, _⟩ => ⟨S16x2048x1, .f32⟩
  | .hbm, ⟨12, _⟩ => ⟨S16x2048x1, .f32⟩
  | .hbm, ⟨13, _⟩ => ⟨S_, .f32⟩
  | .hbm, ⟨14, _⟩ => ⟨S16x2048x1, .f32⟩
  | .hbm, ⟨15, _⟩ => ⟨S16x2048x1, .f32⟩
  | .hbm, ⟨16, _⟩ => ⟨S16x2048x1, .f32⟩
  | .hbm, ⟨17, _⟩ => ⟨S16x2048x1024, .f32⟩
  | .hbm, ⟨18, _⟩ => ⟨S16x2048x1024, .f32⟩
  | .hbm, ⟨19, _⟩ => ⟨S1x1x1024, .f32⟩
  | .hbm, ⟨20, _⟩ => ⟨S16x2048x1024, .f32⟩
  | .hbm, ⟨21, _⟩ => ⟨S16x2048x1024, .f32⟩
  | .hbm, ⟨22, _⟩ => ⟨S_, .f32⟩
  | .hbm, ⟨23, _⟩ => ⟨S16x1x1024, .f32⟩
  | .hbm, ⟨24, _⟩ => ⟨S16x1x1024, .f32⟩
  | .hbm, ⟨25, _⟩ => ⟨S16x2048x1024, .f32⟩
  | .hbm, ⟨26, _⟩ => ⟨S16x2048x1024, .f32⟩
  | .hbm, ⟨27, _⟩ => ⟨S16x2048x1024, .f32⟩
  | .hbm, ⟨28, _⟩ => ⟨S16x2048x1024, .f32⟩
  | .hbm, ⟨29, _⟩ => ⟨S1024x3328, .f32⟩
  | .hbm, ⟨30, _⟩ => ⟨S16x2048x3328, .f32⟩
  | .hbm, ⟨31, _⟩ => ⟨S16x2048x512, .f32⟩
  | .hbm, ⟨32, _⟩ => ⟨S16x2048x128, .f32⟩
  | .hbm, ⟨33, _⟩ => ⟨S16x2048x128, .f32⟩
  | .hbm, ⟨34, _⟩ => ⟨S16x2048x512, .f32⟩
  | .hbm, ⟨35, _⟩ => ⟨S16x2048x1024, .f32⟩
  | .hbm, ⟨36, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== Mix.lean ====
abbrev S16x2048x1024 : Shape := ⟨3, ![16, 2048, 1024]⟩
abbrev S16x2048x512 : Shape := ⟨3, ![16, 2048, 512]⟩
abbrev S16x1x1024 : Shape := ⟨3, ![16, 1, 1024]⟩
abbrev S1x1024 : Shape := ⟨2, ![1, 1024]⟩
abbrev S1x4x128x128 : Shape := ⟨4, ![1, 4, 128, 128]⟩
abbrev S1x512 : Shape := ⟨2, ![1, 512]⟩
abbrev S1x512x1024 : Shape := ⟨3, ![1, 512, 1024]⟩
abbrev S1x1024x1024 : Shape := ⟨3, ![1, 1024, 1024]⟩
abbrev S1024 : Shape := ⟨1, ![1024]⟩
abbrev S4x128x128 : Shape := ⟨3, ![4, 128, 128]⟩
abbrev S512 : Shape := ⟨1, ![512]⟩
abbrev S512x1024 : Shape := ⟨2, ![512, 1024]⟩
abbrev S1024x1024 : Shape := ⟨2, ![1024, 1024]⟩
abbrev S1x256x1024 : Shape := ⟨3, ![1, 256, 1024]⟩
abbrev S1x256x512 : Shape := ⟨3, ![1, 256, 512]⟩
abbrev S1x1x1024 : Shape := ⟨3, ![1, 1, 1024]⟩
abbrev S256x512 : Shape := ⟨2, ![256, 512]⟩
abbrev S256x128 : Shape := ⟨2, ![256, 128]⟩
abbrev S1x128x128 : Shape := ⟨3, ![1, 128, 128]⟩
abbrev S128x128 : Shape := ⟨2, ![128, 128]⟩
abbrev S256x1024 : Shape := ⟨2, ![256, 1024]⟩
abbrev S256 : Shape := ⟨1, ![256]⟩
abbrev S256x1 : Shape := ⟨2, ![256, 1]⟩

abbrev nBuf : Space → Nat
  | .hbm => 28
  | .vmem => 26
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .f32⟩
  | .hbm, ⟨2, _⟩ => ⟨S16x2048x512, .f32⟩
  | .hbm, ⟨3, _⟩ => ⟨S16x2048x1024, .f32⟩
  | .hbm, ⟨4, _⟩ => ⟨S16x2048x1024, .f32⟩
  | .hbm, ⟨5, _⟩ => ⟨S16x1x1024, .f32⟩
  | .hbm, ⟨6, _⟩ => ⟨S16x1x1024, .f32⟩
  | .hbm, ⟨7, _⟩ => ⟨S16x1x1024, .f32⟩
  | .hbm, ⟨8, _⟩ => ⟨S1x1024, .f32⟩
  | .hbm, ⟨9, _⟩ => ⟨S1x4x128x128, .f32⟩
  | .hbm, ⟨10, _⟩ => ⟨S1x512, .f32⟩
  | .hbm, ⟨11, _⟩ => ⟨S1x512x1024, .f32⟩
  | .hbm, ⟨12, _⟩ => ⟨S1x512x1024, .f32⟩
  | .hbm, ⟨13, _⟩ => ⟨S1x1024x1024, .f32⟩
  | .hbm, ⟨14, _⟩ => ⟨S1024, .f32⟩
  | .hbm, ⟨15, _⟩ => ⟨S4x128x128, .f32⟩
  | .hbm, ⟨16, _⟩ => ⟨S4x128x128, .bf16⟩
  | .hbm, ⟨17, _⟩ => ⟨S512, .f32⟩
  | .hbm, ⟨18, _⟩ => ⟨S512x1024, .f32⟩
  | .hbm, ⟨19, _⟩ => ⟨S512x1024, .bf16⟩
  | .hbm, ⟨20, _⟩ => ⟨S512x1024, .f32⟩
  | .hbm, ⟨21, _⟩ => ⟨S512x1024, .bf16⟩
  | .hbm, ⟨22, _⟩ => ⟨S1024x1024, .f32⟩
  | .hbm, ⟨23, _⟩ => ⟨S1024x1024, .bf16⟩
  | .hbm, ⟨24, _⟩ => ⟨S1x1024, .f32⟩
  | .hbm, ⟨25, _⟩ => ⟨S1x512, .f32⟩
  | .hbm, ⟨26, _⟩ => ⟨S16x2048x1024, .f32⟩
  | .hbm, ⟨27, _⟩ => ⟨S16x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1024, .f32⟩
  | .local _ .vmem, ⟨17, _⟩ => ⟨S4x128x128, .bf16⟩
  | .local _ .vmem, ⟨18, _⟩ => ⟨S1x512, .f32⟩
  | .local _ .vmem, ⟨19, _⟩ => ⟨S512x1024, .bf16⟩
  | .local _ .vmem, ⟨20, _⟩ => ⟨S512x1024, .bf16⟩
  | .local _ .vmem, ⟨21, _⟩ => ⟨S1024x1024, .bf16⟩
  | .local _ .vmem, ⟨22, _⟩ => ⟨S1x256x1024, .f32⟩
  | .local _ .vmem, ⟨23, _⟩ => ⟨S1x256x1024, .f32⟩
  | .local _ .vmem, ⟨24, _⟩ => ⟨S1x256x1024, .f32⟩
  | .local _ .vmem, ⟨25, _⟩ => ⟨S1x256x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12_0 : Ref sig .tc := ⟨.hbm, 26, rfl⟩
abbrev main_v12_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4x128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== MixRefIdeal.lean ====
abbrev S16x2048x1024 : Shape := ⟨3, ![16, 2048, 1024]⟩
abbrev S16x2048x512 : Shape := ⟨3, ![16, 2048, 512]⟩
abbrev S16x1x1024 : Shape := ⟨3, ![16, 1, 1024]⟩
abbrev S1x1024 : Shape := ⟨2, ![1, 1024]⟩
abbrev S1x4x128x128 : Shape := ⟨4, ![1, 4, 128, 128]⟩
abbrev S1x512 : Shape := ⟨2, ![1, 512]⟩
abbrev S1x512x1024 : Shape := ⟨3, ![1, 512, 1024]⟩
abbrev S1x1024x1024 : Shape := ⟨3, ![1, 1024, 1024]⟩
abbrev S16x2048x4x128 : Shape := ⟨4, ![16, 2048, 4, 128]⟩
abbrev S4x128x128 : Shape := ⟨3, ![4, 128, 128]⟩
abbrev S4x128x16x2048 : Shape := ⟨4, ![4, 128, 16, 2048]⟩
abbrev S512 : Shape := ⟨1, ![512]⟩
abbrev S4x128 : Shape := ⟨2, ![4, 128]⟩
abbrev S1x1x4x128 : Shape := ⟨4, ![1, 1, 4, 128]⟩
abbrev S_ : Shape := ⟨0, ![]⟩
abbrev S512x1024 : Shape := ⟨2, ![512, 1024]⟩
abbrev S1024x1024 : Shape := ⟨2, ![1024, 1024]⟩
abbrev S1024 : Shape := ⟨1, ![1024]⟩
abbrev S16x2048 : Shape := ⟨2, ![16, 2048]⟩
abbrev S16x2048x1 : Shape := ⟨3, ![16, 2048, 1]⟩
abbrev S1x1x1024 : Shape := ⟨3, ![1, 1, 1024]⟩

abbrev nBuf : Space → Nat
  | .hbm => 76
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .f32⟩
  | .hbm, ⟨2, _⟩ => ⟨S16x2048x512, .f32⟩
  | .hbm, ⟨3, _⟩ => ⟨S16x2048x1024, .f32⟩
  | .hbm, ⟨4, _⟩ => ⟨S16x2048x1024, .f32⟩
  | .hbm, ⟨5, _⟩ => ⟨S16x1x1024, .f32⟩
  | .hbm, ⟨6, _⟩ => ⟨S16x1x1024, .f32⟩
  | .hbm, ⟨7, _⟩ => ⟨S16x1x1024, .f32⟩
  | .hbm, ⟨8, _⟩ => ⟨S1x1024, .f32⟩
  | .hbm, ⟨9, _⟩ => ⟨S1x4x128x128, .f32⟩
  | .hbm, ⟨10, _⟩ => ⟨S1x512, .f32⟩
  | .hbm, ⟨11, _⟩ => ⟨S1x512x1024, .f32⟩
  | .hbm, ⟨12, _⟩ => ⟨S1x512x1024, .f32⟩
  | .hbm, ⟨13, _⟩ => ⟨S1x1024x1024, .f32⟩
  | .hbm, ⟨14, _⟩ => ⟨S16x2048x4x128, .f32⟩
  | .hbm, ⟨15, _⟩ => ⟨S4x128x128, .f32⟩
  | .hbm, ⟨16, _⟩ => ⟨S4x128x16x2048, .f32⟩
  | .hbm, ⟨17, _⟩ => ⟨S16x2048x4x128, .f32⟩
  | .hbm, ⟨18, _⟩ => ⟨S512, .f32⟩
  | .hbm, ⟨19, _⟩ => ⟨S4x128, .f32⟩
  | .hbm, ⟨20, _⟩ => ⟨S1x1x4x128, .f32⟩
  | .hbm, ⟨21, _⟩ => ⟨S16x2048x4x128, .f32⟩
  | .hbm, ⟨22, _⟩ => ⟨S16x2048x4x128, .f32⟩
  | .hbm, ⟨23, _⟩ => ⟨S16x2048x512, .f32⟩
  | .hbm, ⟨24, _⟩ => ⟨S16x2048x1024, .f32⟩
  | .hbm, ⟨25, _⟩ => ⟨S16x2048x1024, .f32⟩
  | .hbm, ⟨26, _⟩ => ⟨S_, .f32⟩
  | .hbm, ⟨27, _⟩ => ⟨S16x2048x1024, .f32⟩
  | .hbm, ⟨28, _⟩ => ⟨S16x2048x1024, .f32⟩
  | .hbm, ⟨29, _⟩ => ⟨S_, .f32⟩
  | .hbm, ⟨30, _⟩ => ⟨S16x2048x1024, .f32⟩
  | .hbm, ⟨31, _⟩ => ⟨S16x2048x1024, .f32⟩
  | .hbm, ⟨32, _⟩ => ⟨S512x1024, .f32⟩
  | .hbm, ⟨33, _⟩ => ⟨S16x2048x1024, .f32⟩
  | .hbm, ⟨34, _⟩ => ⟨S16x2048x1024, .f32⟩
  | .hbm, ⟨35, _⟩ => ⟨S16x2048x1024, .f32⟩
  | .hbm, ⟨36, _⟩ => ⟨S16x2048x1024, .f32⟩
  | .hbm, ⟨37, _⟩ => ⟨S_, .f32⟩
  | .hbm, ⟨38, _⟩ => ⟨S16x2048x1024, .f32⟩
  | .hbm, ⟨39, _⟩ => ⟨S16x2048x1024, .f32⟩
  | .hbm, ⟨40, _⟩ => ⟨S_, .f32⟩
  | .hbm, ⟨41, _⟩ => ⟨S16x2048x1024, .f32⟩
  | .hbm, ⟨42, _⟩ => ⟨S16x2048x1024, .f32⟩
  | .hbm, ⟨43, _⟩ => ⟨S512x1024, .f32⟩
  | .hbm, ⟨44, _⟩ => ⟨S16x2048x1024, .f32⟩
  | .hbm, ⟨45, _⟩ => ⟨S16x2048x1024, .f32⟩
  | .hbm, ⟨46, _⟩ => ⟨S16x2048x1024, .f32⟩
  | .hbm, ⟨47, _⟩ => ⟨S1024x1024, .f32⟩
  | .hbm, ⟨48, _⟩ => ⟨S16x2048x1024, .f32⟩
  | .hbm, ⟨49, _⟩ => ⟨S16x2048x1024, .f32⟩
  | .hbm, ⟨50, _⟩ => ⟨S16x2048x1024, .f32⟩
  | .hbm, ⟨51, _⟩ => ⟨S16x2048x1024, .f32⟩
  | .hbm, ⟨52, _⟩ => ⟨S1024, .f32⟩
  | .hbm, ⟨53, _⟩ => ⟨S16x2048x1024, .f32⟩
  | .hbm, ⟨54, _⟩ => ⟨S_, .f32⟩
  | .hbm, ⟨55, _⟩ => ⟨S16x2048, .f32⟩
  | .hbm, ⟨56, _⟩ => ⟨S16x2048x1, .f32⟩
  | .hbm, ⟨57, _⟩ => ⟨S_, .f32⟩
  | .hbm, ⟨58, _⟩ => ⟨S16x2048x1, .f32⟩
  | .hbm, ⟨59, _⟩ => ⟨S16x2048x1, .f32⟩
  | .hbm, ⟨60, _⟩ => ⟨S_, .f32⟩
  | .hbm, ⟨61, _⟩ => ⟨S16x2048x1, .f32⟩
  | .hbm, ⟨62, _⟩ => ⟨S16x2048x1, .f32⟩
  | .hbm, ⟨63, _⟩ => ⟨S16x2048x1, .f32⟩
  | .hbm, ⟨64, _⟩ => ⟨S16x2048x1024, .f32⟩
  | .hbm, ⟨65, _⟩ => ⟨S16x2048x1024, .f32⟩
  | .hbm, ⟨66, _⟩ => ⟨S1x1x1024, .f32⟩
  | .hbm, ⟨67, _⟩ => ⟨S16x2048x1024, .f32⟩
  | .hbm, ⟨68, _⟩ => ⟨S16x2048x1024, .f32⟩
  | .hbm, ⟨69, _⟩ => ⟨S_, .f32⟩
  | .hbm, ⟨70, _⟩ => ⟨S16x1x1024, .f32⟩
  | .hbm, ⟨71, _⟩ => ⟨S16x1x1024, .f32⟩
  | .hbm, ⟨72, _⟩ => ⟨S16x2048x1024, .f32⟩
  | .hbm, ⟨73, _⟩ => ⟨S16x2048x1024, .f32⟩
  | .hbm, ⟨74, _⟩ => ⟨S16x2048x1024, .f32⟩
  | .hbm, ⟨75, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_v13 : Ref sig .tc := ⟨.hbm, 28, rfl⟩
abbrev main_cst_0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_1 : Ref sig .tc := ⟨.hbm, 37, rfl⟩
abbrev main_v21 : Ref sig .tc := ⟨.hbm, 38, rfl⟩
abbrev main_v22 : Ref sig .tc := ⟨.hbm, 39, rfl⟩
abbrev main_cst_2 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_3 : Ref sig .tc := ⟨.hbm, 54, rfl⟩
abbrev main_v36 : Ref sig .tc := ⟨.hbm, 55, rfl⟩
abbrev main_v37 : Ref sig .tc := ⟨.hbm, 56, rfl⟩
abbrev main_cst_4 : Ref sig .tc := ⟨.hbm, 57, rfl⟩
abbrev main_v38 : Ref sig .tc := ⟨.hbm, 58, rfl⟩
abbrev main_v39 : Ref sig .tc := ⟨.hbm, 59, rfl⟩
abbrev main_cst_5 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_6 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩

abbrev nD : Nat := 1
abbrev τ : Topo := Topo.v7x

variable {F : FTy → Type} [FloatOps F]
-- ==== ProjS.lean ====
abbrev S128x1x1024 : Shape := ⟨3, ![128, 1, 1024]⟩
abbrev S1x1024 : Shape := ⟨2, ![1, 1024]⟩
abbrev S1x1024x3328 : Shape := ⟨3, ![1, 1024, 3328]⟩
abbrev S1x128x128x2x64 : Shape := ⟨5, ![1, 128, 128, 2, 64]⟩
abbrev S1x128x15x512 : Shape := ⟨4, ![1, 128, 15, 512]⟩
abbrev S1x128x1024 : Shape := ⟨3, ![1, 128, 1024]⟩
abbrev S1024 : Shape := ⟨1, ![1024]⟩
abbrev S1024x3328 : Shape := ⟨2, ![1024, 3328]⟩
abbrev S1x128x512 : Shape := ⟨3, ![1, 128, 512]⟩
abbrev S1x128x128 : Shape := ⟨3, ![1, 128, 128]⟩
abbrev S128x1024 : Shape := ⟨2, ![128, 1024]⟩
abbrev S128 : Shape := ⟨1, ![128]⟩
abbrev S128x1 : Shape := ⟨2, ![128, 1]⟩
abbrev S1024x512 : Shape := ⟨2, ![1024, 512]⟩
abbrev S128x512 : Shape := ⟨2, ![128, 512]⟩
abbrev S1024x128 : Shape := ⟨2, ![1024, 128]⟩
abbrev S128x128 : Shape := ⟨2, ![128, 128]⟩
abbrev S1024x1024 : Shape := ⟨2, ![1024, 1024]⟩
abbrev S128x128x2x64 : Shape := ⟨4, ![128, 128, 2, 64]⟩
abbrev S128x15x512 : Shape := ⟨3, ![128, 15, 512]⟩
abbrev S128x1x2x64 : Shape := ⟨4, ![128, 1, 2, 64]⟩
abbrev S128x129x2x64 : Shape := ⟨4, ![128, 129, 2, 64]⟩
abbrev S128x1x512 : Shape := ⟨3, ![128, 1, 512]⟩
abbrev S128x16x512 : Shape := ⟨3, ![128, 16, 512]⟩

abbrev nBuf : Space → Nat
  | .hbm => 30
  | .vmem => 11
  | .smem => 0
  | _ => 0

abbrev bufTy : (tb : Table) → Fin (tcTables nBuf tb) → BufTy
  | .hbm, ⟨0, _⟩ => ⟨S128x1x1024, .f32⟩
  | .hbm, ⟨1, _⟩ => ⟨S128x1x1024, .f32⟩
  | .hbm, ⟨2, _⟩ => ⟨S128x1x1024, .f32⟩
  | .hbm, ⟨3, _⟩ => ⟨S1x1024, .f32⟩
  | .hbm, ⟨4, _⟩ => ⟨S1x1024x3328, .f32⟩
  | .hbm, ⟨5, _⟩ => ⟨S1x128x128x2x64, .f32⟩
  | .hbm, ⟨6, _⟩ => ⟨S1x128x15x512, .f32⟩
  | .hbm, ⟨7, _⟩ => ⟨S1x128x1024, .f32⟩
  | .hbm, ⟨8, _⟩ => ⟨S1x128x1024, .f32⟩
  | .hbm, ⟨9, _⟩ => ⟨S1x128x1024, .f32⟩
  | .hbm, ⟨10, _⟩ => ⟨S1024, .f32⟩
  | .hbm, ⟨11, _⟩ => ⟨S1024x3328, .f32⟩
  | .hbm, ⟨12, _⟩ => ⟨S1024x3328, .bf16⟩
  | .hbm, ⟨13, _⟩ => ⟨S1x1024, .f32⟩
  | .hbm, ⟨14, _⟩ => ⟨S1x128x512, .f32⟩
  | .hbm, ⟨15, _⟩ => ⟨S1x128x128, .f32⟩
  | .hbm, ⟨16, _⟩ => ⟨S1x128x128, .f32⟩
  | .hbm, ⟨17, _⟩ => ⟨S1x128x512, .f32⟩
  | .hbm, ⟨18, _⟩ => ⟨S1x128x1024, .f32⟩
  | .hbm, ⟨19, _⟩ => ⟨S1x128x1024, .f32⟩
  | .hbm, ⟨20, _⟩ => ⟨S128x128x2x64, .f32⟩
  | .hbm, ⟨21, _⟩ => ⟨S128x15x512, .f32⟩
  | .hbm, ⟨22, _⟩ => ⟨S128x1x2x64, .f32⟩
  | .hbm, ⟨23, _⟩ => ⟨S128x129x2x64, .f32⟩
  | .hbm, ⟨24, _⟩ => ⟨S128x128x2x64, .f32⟩
  | .hbm, ⟨25, _⟩ => ⟨S128x1x512, .f32⟩
  | .hbm, ⟨26, _⟩ => ⟨S128x16x512, .f32⟩
  | .hbm, ⟨27, _⟩ => ⟨S128x15x512, .f32⟩
  | .hbm, ⟨28, _⟩ => ⟨S1x128x128x2x64, .f32⟩
  | .hbm, ⟨29, _⟩ => ⟨S1x128x15x512, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x1024, .f32⟩
  | .local _ .vmem, ⟨4, _⟩ => ⟨S1024x3328, .bf16⟩
  | .local _ .vmem, ⟨5, _⟩ => ⟨S1x128x512, .f32⟩
  | .local _ .vmem, ⟨6, _⟩ => ⟨S1x128x128, .f32⟩
  | .local _ .vmem, ⟨7, _⟩ => ⟨S1x128x128, .f32⟩
  | .local _ .vmem, ⟨8, _⟩ => ⟨S1x128x512, .f32⟩
  | .local _ .vmem, ⟨9, _⟩ => ⟨S1x128x1024, .f32⟩
  | .local _ .vmem, ⟨10, _⟩ => ⟨S1x128x1024, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev main_v7_4 : Ref sig .tc := ⟨.hbm, 18, rfl⟩
abbrev main_v7_5 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x3328 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S1x128x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]

abbrev stage0_9 : Fin 1 → Memref sig .tc .vmem S1x128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, true]

abbrev stage0_10 : Fin 1 → Memref sig .tc .vmem S1x128x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, true]
-- ==== ProjSRefIdeal.lean ====
abbrev S128x1x1024 : Shape := ⟨3, ![128, 1, 1024]⟩
abbrev S1x1024 : Shape := ⟨2, ![1, 1024]⟩
abbrev S1x1024x3328 : Shape := ⟨3, ![1, 1024, 3328]⟩
abbrev S1x128x128x2x64 : Shape := ⟨5, ![1, 128, 128, 2, 64]⟩
abbrev S1x128x15x512 : Shape := ⟨4, ![1, 128, 15, 512]⟩
abbrev S1024 : Shape := ⟨1, ![1024]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩
abbrev S1024x3328 : Shape := ⟨2, ![1024, 3328]⟩
abbrev S128x1x3328 : Shape := ⟨3, ![128, 1, 3328]⟩
abbrev S128x1x512 : Shape := ⟨3, ![128, 1, 512]⟩
abbrev S128x1x128 : Shape := ⟨3, ![128, 1, 128]⟩
abbrev S128x128x2x64 : Shape := ⟨4, ![128, 128, 2, 64]⟩
abbrev S128x1x2x64 : Shape := ⟨4, ![128, 1, 2, 64]⟩
abbrev S128x129x2x64 : Shape := ⟨4, ![128, 129, 2, 64]⟩
abbrev S128x15x512 : Shape := ⟨3, ![128, 15, 512]⟩
abbrev S128x16x512 : Shape := ⟨3, ![128, 16, 512]⟩
abbrev S1x128x512 : Shape := ⟨3, ![1, 128, 512]⟩
abbrev S1x128x128 : Shape := ⟨3, ![1, 128, 128]⟩
abbrev S1x128x1024 : Shape := ⟨3, ![1, 128, 1024]⟩

abbrev nBuf : Space → Nat
  | .hbm => 50
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S128x1x1024, .f32⟩
  | .hbm, ⟨2, _⟩ => ⟨S128x1x1024, .f32⟩
  | .hbm, ⟨3, _⟩ => ⟨S1x1024, .f32⟩
  | .hbm, ⟨4, _⟩ => ⟨S1x1024x3328, .f32⟩
  | .hbm, ⟨5, _⟩ => ⟨S1x128x128x2x64, .f32⟩
  | .hbm, ⟨6, _⟩ => ⟨S1x128x15x512, .f32⟩
  | .hbm, ⟨7, _⟩ => ⟨S1024, .f32⟩
  | .hbm, ⟨8, _⟩ => ⟨S128x1x1024, .f32⟩
  | .hbm, ⟨9, _⟩ => ⟨S_, .f32⟩
  | .hbm, ⟨10, _⟩ => ⟨S128x1, .f32⟩
  | .hbm, ⟨11, _⟩ => ⟨S128x1x1, .f32⟩
  | .hbm, ⟨12, _⟩ => ⟨S_, .f32⟩
  | .hbm, ⟨13, _⟩ => ⟨S128x1x1, .f32⟩
  | .hbm, ⟨14, _⟩ => ⟨S128x1x1, .f32⟩
  | .hbm, ⟨15, _⟩ => ⟨S_, .f32⟩
  | .hbm, ⟨16, _⟩ => ⟨S128x1x1, .f32⟩
  | .hbm, ⟨17, _⟩ => ⟨S128x1x1, .f32⟩
  | .hbm, ⟨18, _⟩ => ⟨S128x1x1, .f32⟩
  | .hbm, ⟨19, _⟩ => ⟨S128x1x1024, .f32⟩
  | .hbm, ⟨20, _⟩ => ⟨S128x1x1024, .f32⟩
  | .hbm, ⟨21, _⟩ => ⟨S1x1x1024, .f32⟩
  | .hbm, ⟨22, _⟩ => ⟨S128x1x1024, .f32⟩
  | .hbm, ⟨23, _⟩ => ⟨S128x1x1024, .f32⟩
  | .hbm, ⟨24, _⟩ => ⟨S_, .f32⟩
  | .hbm, ⟨25, _⟩ => ⟨S128x1x1024, .f32⟩
  | .hbm, ⟨26, _⟩ => ⟨S128x1x1024, .f32⟩
  | .hbm, ⟨27, _⟩ => ⟨S128x1x1024, .f32⟩
  | .hbm, ⟨28, _⟩ => ⟨S128x1x1024, .f32⟩
  | .hbm, ⟨29, _⟩ => ⟨S1024x3328, .f32⟩
  | .hbm, ⟨30, _⟩ => ⟨S128x1x3328, .f32⟩
  | .hbm, ⟨31, _⟩ => ⟨S128x1x512, .f32⟩
  | .hbm, ⟨32, _⟩ => ⟨S128x1x128, .f32⟩
  | .hbm, ⟨33, _⟩ => ⟨S128x1x128, .f32⟩
  | .hbm, ⟨34, _⟩ => ⟨S128x1x512, .f32⟩
  | .hbm, ⟨35, _⟩ => ⟨S128x1x1024, .f32⟩
  | .hbm, ⟨36, _⟩ => ⟨S128x1x1024, .f32⟩
  | .hbm, ⟨37, _⟩ => ⟨S128x128x2x64, .f32⟩
  | .hbm, ⟨38, _⟩ => ⟨S128x1x2x64, .f32⟩
  | .hbm, ⟨39, _⟩ => ⟨S128x129x2x64, .f32⟩
  | .hbm, ⟨40, _⟩ => ⟨S128x15x512, .f32⟩
  | .hbm, ⟨41, _⟩ => ⟨S128x16x512, .f32⟩
  | .hbm, ⟨42, _⟩ => ⟨S1x128x512, .f32⟩
  | .hbm, ⟨43, _⟩ => ⟨S1x128x128, .f32⟩
  | .hbm, ⟨44, _⟩ => ⟨S1x128x1024, .f32⟩
  | .hbm, ⟨45, _⟩ => ⟨S1x128x1024, .f32⟩
  | .hbm, ⟨46, _⟩ => ⟨S128x128x2x64, .f32⟩
  | .hbm, ⟨47, _⟩ => ⟨S1x128x128x2x64, .f32⟩
  | .hbm, ⟨48, _⟩ => ⟨S128x15x512, .f32⟩
  | .hbm, ⟨49, _⟩ => ⟨S1x128x15x512, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]
-- ==== AttnS.lean ====
abbrev S128x1x512 : Shape := ⟨3, ![128, 1, 512]⟩
abbrev S128x1x128 : Shape := ⟨3, ![128, 1, 128]⟩
abbrev S1x128x128x2x64 : Shape := ⟨5, ![1, 128, 128, 2, 64]⟩
abbrev S1x64 : Shape := ⟨2, ![1, 64]⟩
abbrev S1x8 : Shape := ⟨2, ![1, 8]⟩
abbrev S128x128x2x64 : Shape := ⟨4, ![128, 128, 2, 64]⟩
abbrev S128x8x64 : Shape := ⟨3, ![128, 8, 64]⟩
abbrev S128x2x64 : Shape := ⟨3, ![128, 2, 64]⟩
abbrev S128x128x128 : Shape := ⟨3, ![128, 128, 128]⟩
abbrev S64 : Shape := ⟨1, ![64]⟩
abbrev S8 : Shape := ⟨1, ![8]⟩
abbrev S8x8x64 : Shape := ⟨3, ![8, 8, 64]⟩
abbrev S8x2x64 : Shape := ⟨3, ![8, 2, 64]⟩
abbrev S8x128x128 : Shape := ⟨3, ![8, 128, 128]⟩
abbrev S8x1 : Shape := ⟨2, ![8, 1]⟩
abbrev S1 : Shape := ⟨1, ![1]⟩
abbrev S1x128 : Shape := ⟨2, ![1, 128]⟩
abbrev S1x8x64 : Shape := ⟨3, ![1, 8, 64]⟩
abbrev S8x64 : Shape := ⟨2, ![8, 64]⟩
abbrev S1x2x64 : Shape := ⟨3, ![1, 2, 64]⟩
abbrev S2x64 : Shape := ⟨2, ![2, 64]⟩
abbrev S2 : Shape := ⟨1, ![2]⟩
abbrev S2x1 : Shape := ⟨2, ![2, 1]⟩
abbrev S1x128x128 : Shape := ⟨3, ![1, 128, 128]⟩
abbrev S128x128 : Shape := ⟨2, ![128, 128]⟩
abbrev S128x64 : Shape := ⟨2, ![128, 64]⟩
abbrev S8x128 : Shape := ⟨2, ![8, 128]⟩
abbrev S128x1x2x64 : Shape := ⟨4, ![128, 1, 2, 64]⟩
abbrev S128x129x2x64 : Shape := ⟨4, ![128, 129, 2, 64]⟩

abbrev nBuf : Space → Nat
  | .hbm => 26
  | .vmem => 16
  | .smem => 1
  | _ => 0

abbrev bufTy : (tb : Table) → Fin (tcTables nBuf tb) → BufTy
  | .hbm, ⟨0, _⟩ => ⟨S128x1x512, .f32⟩
  | .hbm, ⟨1, _⟩ => ⟨S128x1x128, .f32⟩
  | .hbm, ⟨2, _⟩ => ⟨S128x1x128, .f32⟩
  | .hbm, ⟨3, _⟩ => ⟨S1x128x128x2x64, .f32⟩
  | .hbm, ⟨4, _⟩ => ⟨S1x128x128x2x64, .f32⟩
  | .hbm, ⟨5, _⟩ => ⟨S1x64, .f32⟩
  | .hbm, ⟨6, _⟩ => ⟨S1x64, .f32⟩
  | .hbm, ⟨7, _⟩ => ⟨S1x8, .f32⟩
  | .hbm, ⟨8, _⟩ => ⟨S128x128x2x64, .f32⟩
  | .hbm, ⟨9, _⟩ => ⟨S128x128x2x64, .f32⟩
  | .hbm, ⟨10, _⟩ => ⟨S128x8x64, .f32⟩
  | .hbm, ⟨11, _⟩ => ⟨S128x2x64, .f32⟩
  | .hbm, ⟨12, _⟩ => ⟨S128x2x64, .f32⟩
  | .hbm, ⟨13, _⟩ => ⟨S128x128x128, .f32⟩
  | .hbm, ⟨14, _⟩ => ⟨S128x128x128, .f32⟩
  | .hbm, ⟨15, _⟩ => ⟨S64, .f32⟩
  | .hbm, ⟨16, _⟩ => ⟨S64, .f32⟩
  | .hbm, ⟨17, _⟩ => ⟨S8, .f32⟩
  | .hbm, ⟨18, _⟩ => ⟨S1x64, .f32⟩
  | .hbm, ⟨19, _⟩ => ⟨S1x64, .f32⟩
  | .hbm, ⟨20, _⟩ => ⟨S128x8x64, .f32⟩
  | .hbm, ⟨21, _⟩ => ⟨S128x2x64, .f32⟩
  | .hbm, ⟨22, _⟩ => ⟨S128x1x2x64, .f32⟩
  | .hbm, ⟨23, _⟩ => ⟨S128x129x2x64, .f32⟩
  | .hbm, ⟨24, _⟩ => ⟨S128x128x2x64, .f32⟩
  | .hbm, ⟨25, _⟩ => ⟨S1x128x128x2x64, .f32⟩
  | .local _ .vmem, ⟨0, _⟩ => ⟨S8x8x64, .f32⟩
  | .local _ .vmem, ⟨1, _⟩ => ⟨S8x8x64, .f32⟩
  | .local _ .vmem, ⟨2, _⟩ => ⟨S8x2x64, .f32⟩
  | .local _ .vmem, ⟨3, _⟩ => ⟨S8x2x64, .f32⟩
  | .local _ .vmem, ⟨4, _⟩ => ⟨S8x2x64, .f32⟩
  | .local _ .vmem, ⟨5, _⟩ => ⟨S8x2x64, .f32⟩
  | .local _ .vmem, ⟨6, _⟩ => ⟨S8x128x128, .f32⟩
  | .local _ .vmem, ⟨7, _⟩ => ⟨S8x128x128, .f32⟩
  | .local _ .vmem, ⟨8, _⟩ => ⟨S8x128x128, .f32⟩
  | .local _ .vmem, ⟨9, _⟩ => ⟨S8x128x128, .f32⟩
  | .local _ .vmem, ⟨10, _⟩ => ⟨S1x64, .f32⟩
  | .local _ .vmem, ⟨11, _⟩ => ⟨S1x64, .f32⟩
  | .local _ .vmem, ⟨12, _⟩ => ⟨S8x8x64, .f32⟩
  | .local _ .vmem, ⟨13, _⟩ => ⟨S8x8x64, .f32⟩
  | .local _ .vmem, ⟨14, _⟩ => ⟨S8x2x64, .f32⟩
  | .local _ .vmem, ⟨15, _⟩ => ⟨S8x2x64, .f32⟩
  | .local _ .smem, ⟨0, _⟩ => ⟨S8, .f32⟩
  | _, _ => ⟨S128x1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12_0 : Ref sig .tc := ⟨.hbm, 20, rfl⟩
abbrev main_v12_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8x8x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x2x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x2x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S8x8x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x2x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== AttnSRefIdeal.lean ====
abbrev S128x1x512 : Shape := ⟨3, ![128, 1, 512]⟩
abbrev S128x1x128 : Shape := ⟨3, ![128, 1, 128]⟩
abbrev S1x128x128x2x64 : Shape := ⟨5, ![1, 128, 128, 2, 64]⟩
abbrev S1x64 : Shape := ⟨2, ![1, 64]⟩
abbrev S1x8 : Shape := ⟨2, ![1, 8]⟩
abbrev S128x1x8x64 : Shape := ⟨4, ![128, 1, 8, 64]⟩
abbrev S64 : Shape := ⟨1, ![64]⟩
abbrev S_ : Shape := ⟨0, ![]⟩
abbrev S128x1x8 : Shape := ⟨3, ![128, 1, 8]⟩
abbrev S128x1x8x1 : Shape := ⟨4, ![128, 1, 8, 1]⟩
abbrev S1x1x1x64 : Shape := ⟨4, ![1, 1, 1, 64]⟩
abbrev S128x1x2x64 : Shape := ⟨4, ![128, 1, 2, 64]⟩
abbrev S128x1x2 : Shape := ⟨3, ![128, 1, 2]⟩
abbrev S128x1x2x1 : Shape := ⟨4, ![128, 1, 2, 1]⟩
abbrev S128x128x2x64 : Shape := ⟨4, ![128, 128, 2, 64]⟩
abbrev S128x129x2x64 : Shape := ⟨4, ![128, 129, 2, 64]⟩
abbrev S129 : Shape := ⟨1, ![129]⟩
abbrev S1x129 : Shape := ⟨2, ![1, 129]⟩
abbrev S1 : Shape := ⟨1, ![1]⟩
abbrev S1x1 : Shape := ⟨2, ![1, 1]⟩
abbrev S8 : Shape := ⟨1, ![8]⟩
abbrev S2x4x1x1 : Shape := ⟨4, ![2, 4, 1, 1]⟩
abbrev S128x1x2x4x64 : Shape := ⟨5, ![128, 1, 2, 4, 64]⟩
abbrev S128x2x129x1x4 : Shape := ⟨5, ![128, 2, 129, 1, 4]⟩
abbrev S128x2x4x1x129 : Shape := ⟨5, ![128, 2, 4, 1, 129]⟩
abbrev S1x1x1x129 : Shape := ⟨4, ![1, 1, 1, 129]⟩
abbrev S2x4x1x129 : Shape := ⟨4, ![2, 4, 1, 129]⟩
abbrev S1x2x4x1x129 : Shape := ⟨5, ![1, 2, 4, 1, 129]⟩
abbrev S128x2x4x1x1 : Shape := ⟨5, ![128, 2, 4, 1, 1]⟩
abbrev S128x2x4x1x130 : Shape := ⟨5, ![128, 2, 4, 1, 130]⟩
abbrev S128x2x4x1 : Shape := ⟨4, ![128, 2, 4, 1]⟩
abbrev S128x2x64x4x1 : Shape := ⟨5, ![128, 2, 64, 4, 1]⟩
abbrev S128x8x64 : Shape := ⟨3, ![128, 8, 64]⟩

abbrev nBuf : Space → Nat
  | .hbm => 123
  | .vmem => 0
  | .smem => 0
  | _ => 0

abbrev bufTy : (tb : Table) → Fin (tcTables nBuf tb) → BufTy
  | .hbm, ⟨0, _⟩ => ⟨S128x1x512, .f32⟩
  | .hbm, ⟨1, _⟩ => ⟨S128x1x128, .f32⟩
  | .hbm, ⟨2, _⟩ => ⟨S128x1x128, .f32⟩
  | .hbm, ⟨3, _⟩ => ⟨S1x128x128x2x64, .f32⟩
  | .hbm, ⟨4, _⟩ => ⟨S1x128x128x2x64, .f32⟩
  | .hbm, ⟨5, _⟩ => ⟨S1x64, .f32⟩
  | .hbm, ⟨6, _⟩ => ⟨S1x64, .f32⟩
  | .hbm, ⟨7, _⟩ => ⟨S1x8, .f32⟩
  | .hbm, ⟨8, _⟩ => ⟨S128x1x8x64, .f32⟩
  | .hbm, ⟨9, _⟩ => ⟨S64, .f32⟩
  | .hbm, ⟨10, _⟩ => ⟨S128x1x8x64, .f32⟩
  | .hbm, ⟨11, _⟩ => ⟨S_, .f32⟩
  | .hbm, ⟨12, _⟩ => ⟨S128x1x8, .f32⟩
  | .hbm, ⟨13, _⟩ => ⟨S128x1x8x1, .f32⟩
  | .hbm, ⟨14, _⟩ => ⟨S_, .f32⟩
  | .hbm, ⟨15, _⟩ => ⟨S128x1x8x1, .f32⟩
  | .hbm, ⟨16, _⟩ => ⟨S128x1x8x1, .f32⟩
  | .hbm, ⟨17, _⟩ => ⟨S_, .f32⟩
  | .hbm, ⟨18, _⟩ => ⟨S128x1x8x1, .f32⟩
  | .hbm, ⟨19, _⟩ => ⟨S128x1x8x1, .f32⟩
  | .hbm, ⟨20, _⟩ => ⟨S128x1x8x1, .f32⟩
  | .hbm, ⟨21, _⟩ => ⟨S128x1x8x64, .f32⟩
  | .hbm, ⟨22, _⟩ => ⟨S128x1x8x64, .f32⟩
  | .hbm, ⟨23, _⟩ => ⟨S1x1x1x64, .f32⟩
  | .hbm, ⟨24, _⟩ => ⟨S128x1x8x64, .f32⟩
  | .hbm, ⟨25, _⟩ => ⟨S128x1x8x64, .f32⟩
  | .hbm, ⟨26, _⟩ => ⟨S128x1x2x64, .f32⟩
  | .hbm, ⟨27, _⟩ => ⟨S64, .f32⟩
  | .hbm, ⟨28, _⟩ => ⟨S128x1x2x64, .f32⟩
  | .hbm, ⟨29, _⟩ => ⟨S_, .f32⟩
  | .hbm, ⟨30, _⟩ => ⟨S128x1x2, .f32⟩
  | .hbm, ⟨31, _⟩ => ⟨S128x1x2x1, .f32⟩
  | .hbm, ⟨32, _⟩ => ⟨S_, .f32⟩
  | .hbm, ⟨33, _⟩ => ⟨S128x1x2x1, .f32⟩
  | .hbm, ⟨34, _⟩ => ⟨S128x1x2x1, .f32⟩
  | .hbm, ⟨35, _⟩ => ⟨S_, .f32⟩
  | .hbm, ⟨36, _⟩ => ⟨S128x1x2x1, .f32⟩
  | .hbm, ⟨37, _⟩ => ⟨S128x1x2x1, .f32⟩
  | .hbm, ⟨38, _⟩ => ⟨S128x1x2x1, .f32⟩
  | .hbm, ⟨39, _⟩ => ⟨S128x1x2x64, .f32⟩
  | .hbm, ⟨40, _⟩ => ⟨S128x1x2x64, .f32⟩
  | .hbm, ⟨41, _⟩ => ⟨S1x1x1x64, .f32⟩
  | .hbm, ⟨42, _⟩ => ⟨S128x1x2x64, .f32⟩
  | .hbm, ⟨43, _⟩ => ⟨S128x1x2x64, .f32⟩
  | .hbm, ⟨44, _⟩ => ⟨S128x1x2x64, .f32⟩
  | .hbm, ⟨45, _⟩ => ⟨S128x128x2x64, .f32⟩
  | .hbm, ⟨46, _⟩ => ⟨S128x129x2x64, .f32⟩
  | .hbm, ⟨47, _⟩ => ⟨S128x128x2x64, .f32⟩
  | .hbm, ⟨48, _⟩ => ⟨S128x129x2x64, .f32⟩
  | .hbm, ⟨49, _⟩ => ⟨S129, .i32⟩
  | .hbm, ⟨50, _⟩ => ⟨S1x129, .i32⟩
  | .hbm, ⟨51, _⟩ => ⟨S_, .i32⟩
  | .hbm, ⟨52, _⟩ => ⟨S1x129, .i32⟩
  | .hbm, ⟨53, _⟩ => ⟨S1x129, .i32⟩
  | .hbm, ⟨54, _⟩ => ⟨S1, .i32⟩
  | .hbm, ⟨55, _⟩ => ⟨S1x1, .i32⟩
  | .hbm, ⟨56, _⟩ => ⟨S1x129, .i32⟩
  | .hbm, ⟨57, _⟩ => ⟨S1x129, .i32⟩
  | .hbm, ⟨58, _⟩ => ⟨S_, .i32⟩
  | .hbm, ⟨59, _⟩ => ⟨S1x129, .i32⟩
  | .hbm, ⟨60, _⟩ => ⟨S1x129, .i1⟩
  | .hbm, ⟨61, _⟩ => ⟨S_, .i32⟩
  | .hbm, ⟨62, _⟩ => ⟨S1x129, .i32⟩
  | .hbm, ⟨63, _⟩ => ⟨S1x129, .i1⟩
  | .hbm, ⟨64, _⟩ => ⟨S1x129, .i1⟩
  | .hbm, ⟨65, _⟩ => ⟨S8, .f32⟩
  | .hbm, ⟨66, _⟩ => ⟨S_, .f32⟩
  | .hbm, ⟨67, _⟩ => ⟨S8, .f32⟩
  | .hbm, ⟨68, _⟩ => ⟨S8, .f32⟩
  | .hbm, ⟨69, _⟩ => ⟨S_, .f32⟩
  | .hbm, ⟨70, _⟩ => ⟨S8, .f32⟩
  | .hbm, ⟨71, _⟩ => ⟨S8, .f32⟩
  | .hbm, ⟨72, _⟩ => ⟨S_, .f32⟩
  | .hbm, ⟨73, _⟩ => ⟨S8, .f32⟩
  | .hbm, ⟨74, _⟩ => ⟨S8, .f32⟩
  | .hbm, ⟨75, _⟩ => ⟨S_, .f32⟩
  | .hbm, ⟨76, _⟩ => ⟨S8, .f32⟩
  | .hbm, ⟨77, _⟩ => ⟨S8, .f32⟩
  | .hbm, ⟨78, _⟩ => ⟨S2x4x1x1, .f32⟩
  | .hbm, ⟨79, _⟩ => ⟨S128x1x2x4x64, .f32⟩
  | .hbm, ⟨80, _⟩ => ⟨S128x2x129x1x4, .f32⟩
  | .hbm, ⟨81, _⟩ => ⟨S128x2x4x1x129, .f32⟩
  | .hbm, ⟨82, _⟩ => ⟨S_, .f32⟩
  | .hbm, ⟨83, _⟩ => ⟨S128x2x4x1x129, .f32⟩
  | .hbm, ⟨84, _⟩ => ⟨S128x2x4x1x129, .f32⟩
  | .hbm, ⟨85, _⟩ => ⟨S1x1x1x129, .i32⟩
  | .hbm, ⟨86, _⟩ => ⟨S1x1x1x129, .f32⟩
  | .hbm, ⟨87, _⟩ => ⟨S2x4x1x129, .f32⟩
  | .hbm, ⟨88, _⟩ => ⟨S2x4x1x129, .f32⟩
  | .hbm, ⟨89, _⟩ => ⟨S2x4x1x129, .f32⟩
  | .hbm, ⟨90, _⟩ => ⟨S1x2x4x1x129, .f32⟩
  | .hbm, ⟨91, _⟩ => ⟨S128x2x4x1x129, .f32⟩
  | .hbm, ⟨92, _⟩ => ⟨S128x2x4x1x129, .f32⟩
  | .hbm, ⟨93, _⟩ => ⟨S1x1x1x129, .i1⟩
  | .hbm, ⟨94, _⟩ => ⟨S_, .f32⟩
  | .hbm, ⟨95, _⟩ => ⟨S_, .f32⟩
  | .hbm, ⟨96, _⟩ => ⟨S128x2x4x1x129, .i1⟩
  | .hbm, ⟨97, _⟩ => ⟨S128x2x4x1x129, .f32⟩
  | .hbm, ⟨98, _⟩ => ⟨S128x2x4x1x129, .f32⟩
  | .hbm, ⟨99, _⟩ => ⟨S8, .f32⟩
  | .hbm, ⟨100, _⟩ => ⟨S2x4x1x1, .f32⟩
  | .hbm, ⟨101, _⟩ => ⟨S128x2x4x1x1, .f32⟩
  | .hbm, ⟨102, _⟩ => ⟨S128x2x4x1x130, .f32⟩
  | .hbm, ⟨103, _⟩ => ⟨S_, .f32⟩
  | .hbm, ⟨104, _⟩ => ⟨S128x2x4x1, .f32⟩
  | .hbm, ⟨105, _⟩ => ⟨S_, .f32⟩
  | .hbm, ⟨106, _⟩ => ⟨S128x2x4x1, .f32⟩
  | .hbm, ⟨107, _⟩ => ⟨S128x2x4x1, .f32⟩
  | .hbm, ⟨108, _⟩ => ⟨S128x2x4x1x1, .f32⟩
  | .hbm, ⟨109, _⟩ => ⟨S128x2x4x1x130, .f32⟩
  | .hbm, ⟨110, _⟩ => ⟨S128x2x4x1x130, .f32⟩
  | .hbm, ⟨111, _⟩ => ⟨S128x2x4x1x130, .f32⟩
  | .hbm, ⟨112, _⟩ => ⟨S_, .f32⟩
  | .hbm, ⟨113, _⟩ => ⟨S128x2x4x1, .f32⟩
  | .hbm, ⟨114, _⟩ => ⟨S128x2x4x1x1, .f32⟩
  | .hbm, ⟨115, _⟩ => ⟨S128x2x4x1x130, .f32⟩
  | .hbm, ⟨116, _⟩ => ⟨S128x2x4x1x130, .f32⟩
  | .hbm, ⟨117, _⟩ => ⟨S128x2x4x1x129, .f32⟩
  | .hbm, ⟨118, _⟩ => ⟨S128x2x64x4x1, .f32⟩
  | .hbm, ⟨119, _⟩ => ⟨S128x1x2x4x64, .f32⟩
  | .hbm, ⟨120, _⟩ => ⟨S128x8x64, .f32⟩
  | .hbm, ⟨121, _⟩ => ⟨S128x128x2x64, .f32⟩
  | .hbm, ⟨122, _⟩ => ⟨S1x128x128x2x64, .f32⟩
  | _, _ => ⟨S128x1x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_c : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_c_5 : Ref sig .tc := ⟨.hbm, 58, rfl⟩
abbrev main_v43 : Ref sig .tc := ⟨.hbm, 59, rfl⟩
abbrev main_v44 : Ref sig .tc := ⟨.hbm, 60, rfl⟩
abbrev main_c_6 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_7 : Ref sig .tc := ⟨.hbm, 66, rfl⟩
abbrev main_v49 : Ref sig .tc := ⟨.hbm, 67, rfl⟩
abbrev main_v50 : Ref sig .tc := ⟨.hbm, 68, rfl⟩
abbrev main_cst_8 : Ref sig .tc := ⟨.hbm, 69, rfl⟩
abbrev main_v51 : Ref sig .tc := ⟨.hbm, 70, rfl⟩
abbrev main_v52 : Ref sig .tc := ⟨.hbm, 71, rfl⟩
abbrev main_cst_9 : Ref sig .tc := ⟨.hbm, 72, rfl⟩
abbrev main_v53 : Ref sig .tc := ⟨.hbm, 73, rfl⟩
abbrev main_v54 : Ref sig .tc := ⟨.hbm, 74, rfl⟩
abbrev main_cst_10 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_11 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_12 : Ref sig .tc := ⟨.hbm, 94, rfl⟩
abbrev main_call0_v0 : Ref sig .tc := ⟨.hbm, 95, rfl⟩
abbrev main_call0_v1 : Ref sig .tc := ⟨.hbm, 96, rfl⟩
abbrev main_call0_v2 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_cst_13 : Ref sig .tc := ⟨.hbm, 103, rfl⟩
abbrev main_v77 : Ref sig .tc := ⟨.hbm, 104, rfl⟩
abbrev main_cst_14 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_cst_15 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩

abbrev nD : Nat := 1
abbrev τ : Topo := Topo.v7x

variable {F : FTy → Type} [FloatOps F]
-- ==== Ada.lean ====
abbrev S16x1024 : Shape := ⟨2, ![16, 1024]⟩
abbrev S128x1024 : Shape := ⟨2, ![128, 1024]⟩
abbrev S1x1024x6144 : Shape := ⟨3, ![1, 1024, 6144]⟩
abbrev S1x6144 : Shape := ⟨2, ![1, 6144]⟩
abbrev S144x1024 : Shape := ⟨2, ![144, 1024]⟩
abbrev S1024x6144 : Shape := ⟨2, ![1024, 6144]⟩
abbrev S6144 : Shape := ⟨1, ![6144]⟩
abbrev S144x6144 : Shape := ⟨2, ![144, 6144]⟩
abbrev S1024x1536 : Shape := ⟨2, ![1024, 1536]⟩
abbrev S1x1536 : Shape := ⟨2, ![1, 1536]⟩
abbrev S144x1536 : Shape := ⟨2, ![144, 1536]⟩

abbrev nBuf : Space → Nat
  | .hbm => 10
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S128x1024, .f32⟩
  | .hbm, ⟨2, _⟩ => ⟨S1x1024x6144, .f32⟩
  | .hbm, ⟨3, _⟩ => ⟨S1x6144, .f32⟩
  | .hbm, ⟨4, _⟩ => ⟨S144x1024, .f32⟩
  | .hbm, ⟨5, _⟩ => ⟨S1024x6144, .f32⟩
  | .hbm, ⟨6, _⟩ => ⟨S1024x6144, .bf16⟩
  | .hbm, ⟨7, _⟩ => ⟨S6144, .f32⟩
  | .hbm, ⟨8, _⟩ => ⟨S1x6144, .f32⟩
  | .hbm, ⟨9, _⟩ => ⟨S144x6144, .f32⟩
  | .local _ .vmem, ⟨0, _⟩ => ⟨S144x1024, .f32⟩
  | .local _ .vmem, ⟨1, _⟩ => ⟨S1024x1536, .bf16⟩
  | .local _ .vmem, ⟨2, _⟩ => ⟨S1024x1536, .bf16⟩
  | .local _ .vmem, ⟨3, _⟩ => ⟨S1x1536, .f32⟩
  | .local _ .vmem, ⟨4, _⟩ => ⟨S1x1536, .f32⟩
  | .local _ .vmem, ⟨5, _⟩ => ⟨S144x1536, .f32⟩
  | .local _ .vmem, ⟨6, _⟩ => ⟨S144x1536, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S144x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S144x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaRefIdeal.lean ====
abbrev S16x1024 : Shape := ⟨2, ![16, 1024]⟩
abbrev S128x1024 : Shape := ⟨2, ![128, 1024]⟩
abbrev S1x1024x6144 : Shape := ⟨3, ![1, 1024, 6144]⟩
abbrev S1x6144 : Shape := ⟨2, ![1, 6144]⟩
abbrev S_ : Shape := ⟨0, ![]⟩
abbrev S1024x6144 : Shape := ⟨2, ![1024, 6144]⟩
abbrev S16x6144 : Shape := ⟨2, ![16, 6144]⟩
abbrev S6144 : Shape := ⟨1, ![6144]⟩
abbrev S128x6144 : Shape := ⟨2, ![128, 6144]⟩
abbrev S144x6144 : Shape := ⟨2, ![144, 6144]⟩

abbrev nBuf : Space → Nat
  | .hbm => 35
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S128x1024, .f32⟩
  | .hbm, ⟨2, _⟩ => ⟨S1x1024x6144, .f32⟩
  | .hbm, ⟨3, _⟩ => ⟨S1x6144, .f32⟩
  | .hbm, ⟨4, _⟩ => ⟨S16x1024, .f32⟩
  | .hbm, ⟨5, _⟩ => ⟨S16x1024, .f32⟩
  | .hbm, ⟨6, _⟩ => ⟨S_, .f32⟩
  | .hbm, ⟨7, _⟩ => ⟨S16x1024, .f32⟩
  | .hbm, ⟨8, _⟩ => ⟨S16x1024, .f32⟩
  | .hbm, ⟨9, _⟩ => ⟨S_, .f32⟩
  | .hbm, ⟨10, _⟩ => ⟨S16x1024, .f32⟩
  | .hbm, ⟨11, _⟩ => ⟨S16x1024, .f32⟩
  | .hbm, ⟨12, _⟩ => ⟨S16x1024, .f32⟩
  | .hbm, ⟨13, _⟩ => ⟨S1024x6144, .f32⟩
  | .hbm, ⟨14, _⟩ => ⟨S16x6144, .f32⟩
  | .hbm, ⟨15, _⟩ => ⟨S6144, .f32⟩
  | .hbm, ⟨16, _⟩ => ⟨S1x6144, .f32⟩
  | .hbm, ⟨17, _⟩ => ⟨S16x6144, .f32⟩
  | .hbm, ⟨18, _⟩ => ⟨S16x6144, .f32⟩
  | .hbm, ⟨19, _⟩ => ⟨S128x1024, .f32⟩
  | .hbm, ⟨20, _⟩ => ⟨S128x1024, .f32⟩
  | .hbm, ⟨21, _⟩ => ⟨S_, .f32⟩
  | .hbm, ⟨22, _⟩ => ⟨S128x1024, .f32⟩
  | .hbm, ⟨23, _⟩ => ⟨S128x1024, .f32⟩
  | .hbm, ⟨24, _⟩ => ⟨S_, .f32⟩
  | .hbm, ⟨25, _⟩ => ⟨S128x1024, .f32⟩
  | .hbm, ⟨26, _⟩ => ⟨S128x1024, .f32⟩
  | .hbm, ⟨27, _⟩ => ⟨S128x1024, .f32⟩
  | .hbm, ⟨28, _⟩ => ⟨S1024x6144, .f32⟩
  | .hbm, ⟨29, _⟩ => ⟨S128x6144, .f32⟩
  | .hbm, ⟨30, _⟩ => ⟨S6144, .f32⟩
  | .hbm, ⟨31, _⟩ => ⟨S1x6144, .f32⟩
  | .hbm, ⟨32, _⟩ => ⟨S128x6144, .f32⟩
  | .hbm, ⟨33, _⟩ => ⟨S128x6144, .f32⟩
  | .hbm, ⟨34, _⟩ => ⟨S144x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_call1_v0 : Ref sig .tc := ⟨.hbm, 19, rfl⟩
abbrev main_call1_v1 : Ref sig .tc := ⟨.hbm, 20, rfl⟩
abbrev main_call1_cst : Ref sig .tc := ⟨.hbm, 21, rfl⟩
abbrev main_call1_v2 : Ref sig .tc := ⟨.hbm, 22, rfl⟩
abbrev main_call1_v3 : Ref sig .tc := ⟨.hbm, 23, rfl⟩
abbrev main_call1_cst_0 : Ref sig .tc := ⟨.hbm, 24, rfl⟩
abbrev main_call1_v4 : Ref sig .tc := ⟨.hbm, 25, rfl⟩
abbrev main_call1_v5 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩

abbrev nD : Nat := 1
abbrev τ : Topo := Topo.v7x

variable {F : FTy → Type} [FloatOps F]
-- ==== Pool.lean ====
abbrev S16x2048x512 : Shape := ⟨3, ![16, 2048, 512]⟩
abbrev S16x8x256x512 : Shape := ⟨4, ![16, 8, 256, 512]⟩
abbrev S16x8x16x512 : Shape := ⟨4, ![16, 8, 16, 512]⟩
abbrev S_ : Shape := ⟨0, ![]⟩
abbrev S16x1x16x512 : Shape := ⟨4, ![16, 1, 16, 512]⟩
abbrev S16x7x16x512 : Shape := ⟨4, ![16, 7, 16, 512]⟩
abbrev S1x256x512 : Shape := ⟨3, ![1, 256, 512]⟩
abbrev S1x1x16x512 : Shape := ⟨4, ![1, 1, 16, 512]⟩
abbrev S272x512 : Shape := ⟨2, ![272, 512]⟩
abbrev S256x512 : Shape := ⟨2, ![256, 512]⟩
abbrev S16x512 : Shape := ⟨2, ![16, 512]⟩
abbrev S256x1 : Shape := ⟨2, ![256, 1]⟩
abbrev S256x128 : Shape := ⟨2, ![256, 128]⟩
abbrev S1x256x128 : Shape := ⟨3, ![1, 256, 128]⟩

abbrev nBuf : Space → Nat
  | .hbm => 8
  | .vmem => 7
  | .smem => 0
  | _ => 0

abbrev bufTy : (tb : Table) → Fin (tcTables nBuf tb) → BufTy
  | .hbm, ⟨0, _⟩ => ⟨S16x2048x512, .f32⟩
  | .hbm, ⟨1, _⟩ => ⟨S16x8x256x512, .f32⟩
  | .hbm, ⟨2, _⟩ => ⟨S16x8x16x512, .f32⟩
  | .hbm, ⟨3, _⟩ => ⟨S_, .f32⟩
  | .hbm, ⟨4, _⟩ => ⟨S16x1x16x512, .f32⟩
  | .hbm, ⟨5, _⟩ => ⟨S16x7x16x512, .f32⟩
  | .hbm, ⟨6, _⟩ => ⟨S16x8x16x512, .f32⟩
  | .hbm, ⟨7, _⟩ => ⟨S16x2048x512, .f32⟩
  | .local _ .vmem, ⟨0, _⟩ => ⟨S1x256x512, .f32⟩
  | .local _ .vmem, ⟨1, _⟩ => ⟨S1x256x512, .f32⟩
  | .local _ .vmem, ⟨2, _⟩ => ⟨S1x1x16x512, .f32⟩
  | .local _ .vmem, ⟨3, _⟩ => ⟨S1x1x16x512, .f32⟩
  | .local _ .vmem, ⟨4, _⟩ => ⟨S1x256x512, .f32⟩
  | .local _ .vmem, ⟨5, _⟩ => ⟨S1x256x512, .f32⟩
  | .local _ .vmem, ⟨6, _⟩ => ⟨S272x512, .f32⟩
  | _, _ => ⟨S16x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PoolRefIdeal.lean ====
abbrev S16x2048x512 : Shape := ⟨3, ![16, 2048, 512]⟩
abbrev S16x2048x128 : Shape := ⟨3, ![16, 2048, 128]⟩
abbrev S_ : Shape := ⟨0, ![]⟩
abbrev S2048 : Shape := ⟨1, ![2048]⟩
abbrev S1x2048x1 : Shape := ⟨3, ![1, 2048, 1]⟩

abbrev nBuf : Space → Nat
  | .hbm => 66
  | .vmem => 0
  | .smem => 0
  | _ => 0

abbrev bufTy : (tb : Table) → Fin (tcTables nBuf tb) → BufTy
  | .hbm, ⟨0, _⟩ => ⟨S16x2048x512, .f32⟩
  | .hbm, ⟨1, _⟩ => ⟨S16x2048x128, .f32⟩
  | .hbm, ⟨2, _⟩ => ⟨S_, .f32⟩
  | .hbm, ⟨3, _⟩ => ⟨S_, .f32⟩
  | .hbm, ⟨4, _⟩ => ⟨S16x2048x128, .f32⟩
  | .hbm, ⟨5, _⟩ => ⟨S2048, .i32⟩
  | .hbm, ⟨6, _⟩ => ⟨S_, .i32⟩
  | .hbm, ⟨7, _⟩ => ⟨S2048, .i32⟩
  | .hbm, ⟨8, _⟩ => ⟨S2048, .i32⟩
  | .hbm, ⟨9, _⟩ => ⟨S_, .i32⟩
  | .hbm, ⟨10, _⟩ => ⟨S2048, .i32⟩
  | .hbm, ⟨11, _⟩ => ⟨S2048, .i32⟩
  | .hbm, ⟨12, _⟩ => ⟨S2048, .f32⟩
  | .hbm, ⟨13, _⟩ => ⟨S1x2048x1, .f32⟩
  | .hbm, ⟨14, _⟩ => ⟨S16x2048x128, .f32⟩
  | .hbm, ⟨15, _⟩ => ⟨S16x2048x128, .f32⟩
  | .hbm, ⟨16, _⟩ => ⟨S16x2048x128, .f32⟩
  | .hbm, ⟨17, _⟩ => ⟨S16x2048x128, .f32⟩
  | .hbm, ⟨18, _⟩ => ⟨S_, .f32⟩
  | .hbm, ⟨19, _⟩ => ⟨S_, .f32⟩
  | .hbm, ⟨20, _⟩ => ⟨S16x2048x128, .f32⟩
  | .hbm, ⟨21, _⟩ => ⟨S2048, .i32⟩
  | .hbm, ⟨22, _⟩ => ⟨S_, .i32⟩
  | .hbm, ⟨23, _⟩ => ⟨S2048, .i32⟩
  | .hbm, ⟨24, _⟩ => ⟨S2048, .i32⟩
  | .hbm, ⟨25, _⟩ => ⟨S_, .i32⟩
  | .hbm, ⟨26, _⟩ => ⟨S2048, .i32⟩
  | .hbm, ⟨27, _⟩ => ⟨S2048, .i32⟩
  | .hbm, ⟨28, _⟩ => ⟨S2048, .f32⟩
  | .hbm, ⟨29, _⟩ => ⟨S1x2048x1, .f32⟩
  | .hbm, ⟨30, _⟩ => ⟨S16x2048x128, .f32⟩
  | .hbm, ⟨31, _⟩ => ⟨S16x2048x128, .f32⟩
  | .hbm, ⟨32, _⟩ => ⟨S16x2048x128, .f32⟩
  | .hbm, ⟨33, _⟩ => ⟨S16x2048x128, .f32⟩
  | .hbm, ⟨34, _⟩ => ⟨S_, .f32⟩
  | .hbm, ⟨35, _⟩ => ⟨S_, .f32⟩
  | .hbm, ⟨36, _⟩ => ⟨S16x2048x128, .f32⟩
  | .hbm, ⟨37, _⟩ => ⟨S2048, .i32⟩
  | .hbm, ⟨38, _⟩ => ⟨S_, .i32⟩
  | .hbm, ⟨39, _⟩ => ⟨S2048, .i32⟩
  | .hbm, ⟨40, _⟩ => ⟨S2048, .i32⟩
  | .hbm, ⟨41, _⟩ => ⟨S_, .i32⟩
  | .hbm, ⟨42, _⟩ => ⟨S2048, .i32⟩
  | .hbm, ⟨43, _⟩ => ⟨S2048, .i32⟩
  | .hbm, ⟨44, _⟩ => ⟨S2048, .f32⟩
  | .hbm, ⟨45, _⟩ => ⟨S1x2048x1, .f32⟩
  | .hbm, ⟨46, _⟩ => ⟨S16x2048x128, .f32⟩
  | .hbm, ⟨47, _⟩ => ⟨S16x2048x128, .f32⟩
  | .hbm, ⟨48, _⟩ => ⟨S16x2048x128, .f32⟩
  | .hbm, ⟨49, _⟩ => ⟨S16x2048x128, .f32⟩
  | .hbm, ⟨50, _⟩ => ⟨S_, .f32⟩
  | .hbm, ⟨51, _⟩ => ⟨S_, .f32⟩
  | .hbm, ⟨52, _⟩ => ⟨S16x2048x128, .f32⟩
  | .hbm, ⟨53, _⟩ => ⟨S2048, .i32⟩
  | .hbm, ⟨54, _⟩ => ⟨S_, .i32⟩
  | .hbm, ⟨55, _⟩ => ⟨S2048, .i32⟩
  | .hbm, ⟨56, _⟩ => ⟨S2048, .i32⟩
  | .hbm, ⟨57, _⟩ => ⟨S_, .i32⟩
  | .hbm, ⟨58, _⟩ => ⟨S2048, .i32⟩
  | .hbm, ⟨59, _⟩ => ⟨S2048, .i32⟩
  | .hbm, ⟨60, _⟩ => ⟨S2048, .f32⟩
  | .hbm, ⟨61, _⟩ => ⟨S1x2048x1, .f32⟩
  | .hbm, ⟨62, _⟩ => ⟨S16x2048x128, .f32⟩
  | .hbm, ⟨63, _⟩ => ⟨S16x2048x128, .f32⟩
  | .hbm, ⟨64, _⟩ => ⟨S16x2048x128, .f32⟩
  | .hbm, ⟨65, _⟩ => ⟨S16x2048x512, .f32⟩
  | _, _ => ⟨S16x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c_2 : Ref sig .tc := ⟨.hbm, 22, rfl⟩
abbrev main_v17 : Ref sig .tc := ⟨.hbm, 23, rfl⟩
abbrev main_v18 : Ref sig .tc := ⟨.hbm, 24, rfl⟩
abbrev main_c_3 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_4 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_c_5 : Ref sig .tc := ⟨.hbm, 38, rfl⟩
abbrev main_v30 : Ref sig .tc := ⟨.hbm, 39, rfl⟩
abbrev main_v31 : Ref sig .tc := ⟨.hbm, 40, rfl⟩
abbrev main_c_6 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_7 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_c_8 : Ref sig .tc := ⟨.hbm, 54, rfl⟩
abbrev main_v43 : Ref sig .tc := ⟨.hbm, 55, rfl⟩
abbrev main_v44 : Ref sig .tc := ⟨.hbm, 56, rfl⟩
abbrev main_c_9 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩

abbrev nD : Nat := 1
abbrev τ : Topo := Topo.v7x

variable {F : FTy → Type} [FloatOps F]
-- ==== PoolS.lean ====
abbrev S128x1x512 : Shape := ⟨3, ![128, 1, 512]⟩
abbrev S1x128x15x512 : Shape := ⟨4, ![1, 128, 15, 512]⟩
abbrev S128x512 : Shape := ⟨2, ![128, 512]⟩
abbrev S128x15x512 : Shape := ⟨3, ![128, 15, 512]⟩
abbrev S128x128 : Shape := ⟨2, ![128, 128]⟩

abbrev nBuf : Space → Nat
  | .hbm => 5
  | .vmem => 3
  | .smem => 0
  | _ => 0

abbrev bufTy : (tb : Table) → Fin (tcTables nBuf tb) → BufTy
  | .hbm, ⟨0, _⟩ => ⟨S128x1x512, .f32⟩
  | .hbm, ⟨1, _⟩ => ⟨S1x128x15x512, .f32⟩
  | .hbm, ⟨2, _⟩ => ⟨S128x512, .f32⟩
  | .hbm, ⟨3, _⟩ => ⟨S128x15x512, .f32⟩
  | .hbm, ⟨4, _⟩ => ⟨S128x512, .f32⟩
  | .local _ .vmem, ⟨0, _⟩ => ⟨S128x512, .f32⟩
  | .local _ .vmem, ⟨1, _⟩ => ⟨S128x15x512, .f32⟩
  | .local _ .vmem, ⟨2, _⟩ => ⟨S128x512, .f32⟩
  | _, _ => ⟨S128x1x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x15x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== PoolSRefIdeal.lean ====
abbrev S128x1x512 : Shape := ⟨3, ![128, 1, 512]⟩
abbrev S1x128x15x512 : Shape := ⟨4, ![1, 128, 15, 512]⟩
abbrev S128x15x512 : Shape := ⟨3, ![128, 15, 512]⟩
abbrev S128x16x512 : Shape := ⟨3, ![128, 16, 512]⟩
abbrev S128x16x128 : Shape := ⟨3, ![128, 16, 128]⟩
abbrev S128x2x128 : Shape := ⟨3, ![128, 2, 128]⟩
abbrev S_ : Shape := ⟨0, ![]⟩
abbrev S128x128 : Shape := ⟨2, ![128, 128]⟩
abbrev S128x1x128 : Shape := ⟨3, ![128, 1, 128]⟩
abbrev S128x4x128 : Shape := ⟨3, ![128, 4, 128]⟩
abbrev S128x8x128 : Shape := ⟨3, ![128, 8, 128]⟩
abbrev S128x512 : Shape := ⟨2, ![128, 512]⟩

abbrev nBuf : Space → Nat
  | .hbm => 44
  | .vmem => 0
  | .smem => 0
  | _ => 0

abbrev bufTy : (tb : Table) → Fin (tcTables nBuf tb) → BufTy
  | .hbm, ⟨0, _⟩ => ⟨S128x1x512, .f32⟩
  | .hbm, ⟨1, _⟩ => ⟨S1x128x15x512, .f32⟩
  | .hbm, ⟨2, _⟩ => ⟨S128x15x512, .f32⟩
  | .hbm, ⟨3, _⟩ => ⟨S128x16x512, .f32⟩
  | .hbm, ⟨4, _⟩ => ⟨S128x16x128, .f32⟩
  | .hbm, ⟨5, _⟩ => ⟨S128x2x128, .f32⟩
  | .hbm, ⟨6, _⟩ => ⟨S_, .f32⟩
  | .hbm, ⟨7, _⟩ => ⟨S128x128, .f32⟩
  | .hbm, ⟨8, _⟩ => ⟨S_, .f32⟩
  | .hbm, ⟨9, _⟩ => ⟨S128x128, .f32⟩
  | .hbm, ⟨10, _⟩ => ⟨S128x128, .f32⟩
  | .hbm, ⟨11, _⟩ => ⟨S128x1x128, .f32⟩
  | .hbm, ⟨12, _⟩ => ⟨S128x128, .f32⟩
  | .hbm, ⟨13, _⟩ => ⟨S128x128, .f32⟩
  | .hbm, ⟨14, _⟩ => ⟨S128x16x128, .f32⟩
  | .hbm, ⟨15, _⟩ => ⟨S128x4x128, .f32⟩
  | .hbm, ⟨16, _⟩ => ⟨S_, .f32⟩
  | .hbm, ⟨17, _⟩ => ⟨S128x128, .f32⟩
  | .hbm, ⟨18, _⟩ => ⟨S_, .f32⟩
  | .hbm, ⟨19, _⟩ => ⟨S128x128, .f32⟩
  | .hbm, ⟨20, _⟩ => ⟨S128x128, .f32⟩
  | .hbm, ⟨21, _⟩ => ⟨S128x1x128, .f32⟩
  | .hbm, ⟨22, _⟩ => ⟨S128x128, .f32⟩
  | .hbm, ⟨23, _⟩ => ⟨S128x128, .f32⟩
  | .hbm, ⟨24, _⟩ => ⟨S128x16x128, .f32⟩
  | .hbm, ⟨25, _⟩ => ⟨S128x8x128, .f32⟩
  | .hbm, ⟨26, _⟩ => ⟨S_, .f32⟩
  | .hbm, ⟨27, _⟩ => ⟨S128x128, .f32⟩
  | .hbm, ⟨28, _⟩ => ⟨S_, .f32⟩
  | .hbm, ⟨29, _⟩ => ⟨S128x128, .f32⟩
  | .hbm, ⟨30, _⟩ => ⟨S128x128, .f32⟩
  | .hbm, ⟨31, _⟩ => ⟨S128x1x128, .f32⟩
  | .hbm, ⟨32, _⟩ => ⟨S128x128, .f32⟩
  | .hbm, ⟨33, _⟩ => ⟨S128x128, .f32⟩
  | .hbm, ⟨34, _⟩ => ⟨S128x16x128, .f32⟩
  | .hbm, ⟨35, _⟩ => ⟨S_, .f32⟩
  | .hbm, ⟨36, _⟩ => ⟨S128x128, .f32⟩
  | .hbm, ⟨37, _⟩ => ⟨S_, .f32⟩
  | .hbm, ⟨38, _⟩ => ⟨S128x128, .f32⟩
  | .hbm, ⟨39, _⟩ => ⟨S128x128, .f32⟩
  | .hbm, ⟨40, _⟩ => ⟨S128x1x128, .f32⟩
  | .hbm, ⟨41, _⟩ => ⟨S128x128, .f32⟩
  | .hbm, ⟨42, _⟩ => ⟨S128x128, .f32⟩
  | .hbm, ⟨43, _⟩ => ⟨S128x512, .f32⟩
  | _, _ => ⟨S128x1x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_5 : Ref sig .tc := ⟨.hbm, 35, rfl⟩
abbrev main_v27 : Ref sig .tc := ⟨.hbm, 36, rfl⟩
abbrev main_cst_6 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩

abbrev nD : Nat := 1
abbrev τ : Topo := Topo.v7x

variable {F : FTy → Type} [FloatOps F]
-- ==== Proof.AttnMath.lean ====
/- The arithmetic of one row of the attention over the extended reals: the norm of a row, the softmax with a sink, and
   when the two ways of writing it agree. -/
module

public import Idealize.ShloMosaic.PureOps.Ideal.Laws
public import Idealize.ShloMosaic.Lib.IdealHost

@[expose] public section

noncomputable section

open Idealize.ShloMosaic

namespace Cert.Attn

/-- The scale that brings a row of 64 numbers to unit mean square. -/
def rms (f : Fin 64 → EReal) : EReal :=
  Ideal.rsqrt (Ideal.div (∑ x, f x * f x) (Ideal.ofBits .f32 0x42800000#32) + Ideal.ofBits .f32 0x358637BD#32)

/-- The largest of 256 scores and the sink. -/
def top (s : Fin 256 → EReal) (σ : EReal) : EReal := max (Finset.univ.fold max ⊥ s) σ

/-- The softmax's denominator. -/
def mass (s : Fin 256 → EReal) (σ : EReal) : EReal := (∑ x, Ideal.exp (s x - top s σ)) + Ideal.exp (σ - top s σ)

/-- The weighted mean of 256 values, the sink taking its share of the weight. -/
def attend (s : Fin 256 → EReal) (σ : EReal) (v : Fin 256 → EReal) : EReal :=
  ∑ x, Ideal.div (Ideal.exp (s x - top s σ)) (mass s σ) * v x

/-- A number: neither infinity. -/
def IsNum (x : EReal) : Prop := ∃ r : ℝ, x = (r : EReal)

theorem IsNum.mul {x y : EReal} (hx : IsNum x) (hy : IsNum y) : IsNum (x * y) := by
  obtain ⟨a, rfl⟩ := hx; obtain ⟨b, rfl⟩ := hy; exact ⟨a * b, by push_cast; rfl⟩

theorem IsNum.sub {x y : EReal} (hx : IsNum x) (hy : IsNum y) : IsNum (x - y) := by
  obtain ⟨a, rfl⟩ := hx; obtain ⟨b, rfl⟩ := hy; exact ⟨a - b, by push_cast; rfl⟩

theorem coe_sum {n : Nat} (g : Fin n → ℝ) : ((∑ i, g i : ℝ) : EReal) = ∑ i, (g i : EReal) := by
  induction n with
  | zero => simp
  | succ n ih => rw [Fin.sum_univ_castSucc, Fin.sum_univ_castSucc, EReal.coe_add, ih]

theorem IsNum.sum {n : Nat} {f : Fin n → EReal} (h : ∀ i, IsNum (f i)) : IsNum (∑ i, f i) := by
  choose g hg using h
  refine ⟨∑ i, g i, ?_⟩
  rw [coe_sum]
  exact Finset.sum_congr rfl fun i _ => hg i

theorem IsNum.ne_top {x : EReal} (h : IsNum x) : x ≠ ⊤ := by obtain ⟨r, rfl⟩ := h; exact EReal.coe_ne_top r
theorem IsNum.ne_bot {x : EReal} (h : IsNum x) : x ≠ ⊥ := by obtain ⟨r, rfl⟩ := h; exact EReal.coe_ne_bot r

theorem isNum_of_ne {x : EReal} (h1 : x ≠ ⊥) (h2 : x ≠ ⊤) : IsNum x := ⟨x.toReal, (EReal.coe_toReal h2 h1).symm⟩

/-- A number below infinity in absolute value. -/
theorem isNum_of_abs_lt {x : EReal} (h : max x (-x) < ⊤) : IsNum x := by
  refine isNum_of_ne ?_ ?_
  · rintro rfl; simp at h
  · rintro rfl; simp at h

theorem ofBits_neg_inf : Ideal.ofBits .f32 0xFF800000#32 = ⊥ := by simp [Ideal.ofBits, Ideal.ieee]
theorem ofBits_inf : Ideal.ofBits .f32 0x7F800000#32 = ⊤ := by simp [Ideal.ofBits, Ideal.ieee]

theorem ofBits_64 : Ideal.ofBits .f32 0x42800000#32 = ((64 : ℝ) : EReal) := by
  simp [Ideal.ofBits, Ideal.ieee, -EReal.coe_mul]; norm_num

/-- The norm's summand is a positive number. -/
theorem eps_pos : ∃ e : ℝ, 0 < e ∧ Ideal.ofBits .f32 0x358637BD#32 = (e : EReal) := by
  refine ⟨_, ?_, by simp [Ideal.ofBits, Ideal.ieee, -EReal.coe_mul]; rfl⟩
  norm_num

/-- A square is not negative. -/
theorem sq_nonneg' (x : EReal) : 0 ≤ x * x := by
  induction x with
  | bot => simp
  | top => simp
  | coe r => rw [← EReal.coe_mul]; exact EReal.coe_nonneg.mpr (mul_self_nonneg r)

/-- A normalised entry is a number, whatever the row. -/
theorem isNum_norm (f : Fin 64 → EReal) (x : Fin 64) : IsNum (f x * rms f) := by
  obtain ⟨e, he, hE⟩ := eps_pos
  by_cases hs : (∑ x, f x * f x) = ⊤
  · have hr : rms f = 0 := by
      unfold rms
      rw [hs, hE, ofBits_64]
      have h1 : Ideal.div ⊤ ((64 : ℝ) : EReal) = ⊤ := by
        unfold Ideal.div
        rw [if_neg (by norm_cast), ← EReal.coe_inv]
        exact EReal.top_mul_coe_of_pos (by norm_num)
      rw [h1, EReal.top_add_coe, Ideal.rsqrt_top]
    rw [hr, mul_zero]; exact ⟨0, by simp⟩
  · have hf : ∀ x, IsNum (f x) := by
      intro x
      have hx : f x * f x ≠ ⊤ := by
        intro h
        refine hs (top_le_iff.mp ?_)
        rw [← h]
        exact Finset.single_le_sum (f := fun x => f x * f x) (fun i _ => sq_nonneg' (f i)) (Finset.mem_univ x)
      refine isNum_of_ne ?_ ?_
      · intro h; rw [h] at hx; simp at hx
      · intro h; rw [h] at hx; simp at hx
    choose g hg using hf
    have hq : (∑ x, f x * f x) = ((∑ x, g x * g x : ℝ) : EReal) := by
      rw [coe_sum]
      refine Finset.sum_congr rfl fun i _ => ?_
      rw [hg i, EReal.coe_mul]
    have h0 : 0 ≤ ∑ x, g x * g x := Finset.sum_nonneg fun i _ => mul_self_nonneg (g i)
    have hr : IsNum (rms f) := by
      unfold rms
      rw [hq, hE, ofBits_64]
      have h1 : Ideal.div ((∑ x, g x * g x : ℝ) : EReal) ((64 : ℝ) : EReal) = (((∑ x, g x * g x) * 64⁻¹ : ℝ) : EReal) := by
        unfold Ideal.div
        rw [if_neg (by norm_cast), ← EReal.coe_inv, EReal.coe_mul]
      rw [h1, ← EReal.coe_add, Ideal.rsqrt_coe]
      have hp : 0 < (∑ x, g x * g x) * 64⁻¹ + e := by positivity
      rw [if_neg (not_lt.mpr hp.le), if_neg hp.ne']
      exact ⟨_, rfl⟩
    exact IsNum.mul ⟨g x, hg x⟩ hr

/-- Two spellings of a normalised entry, entry by entry. -/
theorem norm_congr {f f' : Fin 64 → EReal} {g g' : EReal} (e : Fin 64) (hf : ∀ x, f x = f' x) (hg : g = g') :
    f e * Ideal.rsqrt (Ideal.div (∑ x, f x * f x) (Ideal.ofBits .f32 0x42800000#32) + Ideal.ofBits .f32 0x358637BD#32) * g
      = f' e * rms f' * g' := by
  obtain rfl : f = f' := funext hf
  rw [hg]; rfl

theorem exp_nonneg (x : EReal) : 0 ≤ Ideal.exp x := by
  induction x with
  | bot => simp
  | top => simp
  | coe r => exact EReal.coe_nonneg.mpr (Real.exp_pos r).le

theorem top_ne_top {s : Fin 256 → EReal} {σ : EReal} (hs : ∀ x, s x ≠ ⊤) (hσ : σ ≠ ⊤) : top s σ ≠ ⊤ := by
  unfold top
  rw [← lt_top_iff_ne_top, max_lt_iff]
  refine ⟨?_, lt_top_iff_ne_top.mpr hσ⟩
  rw [Finset.fold_max_lt]
  exact ⟨bot_lt_top, fun x _ => lt_top_iff_ne_top.mpr (hs x)⟩

/-- The denominator is not zero where no score is infinity and the sink is a number. -/
theorem mass_ne_zero {s : Fin 256 → EReal} {σ : EReal} (hs : ∀ x, s x ≠ ⊤) (hσ : IsNum σ) : mass s σ ≠ 0 := by
  have ht : IsNum (top s σ) :=
    isNum_of_ne (fun h => hσ.ne_bot (le_bot_iff.mp (h ▸ le_max_right _ _))) (top_ne_top hs hσ.ne_top)
  obtain ⟨r, hr⟩ := hσ.sub ht
  have hpos : 0 < Ideal.exp (σ - top s σ) := by rw [hr]; exact EReal.coe_pos.mpr (Real.exp_pos r)
  have h0 : (0 : EReal) ≤ ∑ x, Ideal.exp (s x - top s σ) := Finset.sum_nonneg fun i _ => exp_nonneg _
  unfold mass
  exact (lt_of_lt_of_le hpos (le_add_of_nonneg_left h0)).ne'

/-- A score of −∞ has no weight: the value there may be any. -/
theorem attend_congr {s : Fin 256 → EReal} {σ : EReal} {v w : Fin 256 → EReal} (h0 : mass s σ ≠ 0)
    (h : ∀ x, s x = ⊥ ∨ v x = w x) : attend s σ v = attend s σ w := by
  unfold attend
  refine Finset.sum_congr rfl fun x _ => ?_
  rcases h x with h | h
  · rw [h, EReal.bot_sub, Ideal.exp_bot, Ideal.zero_div h0, zero_mul, zero_mul]
  · rw [h]

/-- The 257 scores, the sink last. -/
def withSink (s : Fin 256 → EReal) (σ : EReal) (k : Fin 257) : EReal := if h : k.val < 256 then s ⟨k.val, h⟩ else σ

theorem withSink_castSucc (s : Fin 256 → EReal) (σ : EReal) (x : Fin 256) : withSink s σ x.castSucc = s x := by
  unfold withSink; rw [dif_pos (show x.castSucc.val < 256 from x.isLt)]; rfl
theorem withSink_last (s : Fin 256 → EReal) (σ : EReal) : withSink s σ (Fin.last 256) = σ := by
  unfold withSink; rw [dif_neg (by simp)]

/-- The largest of the 257. -/
theorem fold_withSink (s : Fin 256 → EReal) (σ : EReal) : max ⊥ (Finset.univ.fold max ⊥ (withSink s σ)) = top s σ := by
  rw [max_eq_right bot_le]
  unfold top
  apply le_antisymm
  · rw [Finset.fold_max_le]
    refine ⟨bot_le, fun k _ => ?_⟩
    refine Fin.lastCases ?_ (fun x => ?_) k
    · rw [withSink_last]; exact le_max_right _ _
    · rw [withSink_castSucc]
      exact le_max_of_le_left ((Finset.le_fold_max _).mpr (.inr ⟨x, Finset.mem_univ x, le_rfl⟩))
  · refine max_le ?_ ?_
    · rw [Finset.fold_max_le]
      refine ⟨bot_le, fun x _ => (Finset.le_fold_max _).mpr (.inr ⟨x.castSucc, Finset.mem_univ _, ?_⟩)⟩
      rw [withSink_castSucc]
    · refine (Finset.le_fold_max _).mpr (.inr ⟨Fin.last 256, Finset.mem_univ _, ?_⟩)
      rw [withSink_last]

/-- The sum over the 257. -/
theorem sum_withSink (s : Fin 256 → EReal) (σ M : EReal) :
    ∑ k, Ideal.exp (withSink s σ k - M) = (∑ x, Ideal.exp (s x - M)) + Ideal.exp (σ - M) := by
  rw [Fin.sum_univ_castSucc, withSink_last]
  congr 1

/-- The slopes of the eight heads: halves, quarters, … -/
def slope (h : Nat) : EReal := (((2 : ℝ)⁻¹ ^ (h + 1) : ℝ) : EReal)

/-- The slope as a power of two. -/
theorem slope_pow (h : Fin 8) :
    Ideal.pow (Ideal.ofBits .f32 0x40000000#32)
        (Ideal.div (Ideal.ofBits .f32 0xC1000000#32 * (1 + (((BitVec.ofNat 32 h.val).toInt : ℝ) : EReal)))
          (Ideal.ofBits .f32 0x41000000#32)) = slope h.val := by
  have e2 : Ideal.ofBits .f32 0x40000000#32 = ((2 : ℝ) : EReal) := by
    simp [Ideal.ofBits, Ideal.ieee, -EReal.coe_mul]; norm_num
  have e8 : Ideal.ofBits .f32 0x41000000#32 = ((8 : ℝ) : EReal) := by
    simp [Ideal.ofBits, Ideal.ieee, -EReal.coe_mul]; norm_num
  have en : Ideal.ofBits .f32 0xC1000000#32 = ((-8 : ℝ) : EReal) := by
    simp [Ideal.ofBits, Ideal.ieee, -EReal.coe_mul, -EReal.coe_neg]; norm_num
  have eh : (BitVec.ofNat 32 h.val).toInt = (h.val : ℤ) := by revert h; decide
  rw [e2, e8, en, eh]
  have e1 : (1 : EReal) + (((h.val : ℤ) : ℝ) : EReal) = ((1 + (h.val : ℝ) : ℝ) : EReal) := by push_cast; rfl
  rw [e1, ← EReal.coe_mul]
  have ed : Ideal.div ((-8 * (1 + (h.val : ℝ)) : ℝ) : EReal) ((8 : ℝ) : EReal) = ((-((h.val + 1 : ℕ) : ℝ) : ℝ) : EReal) := by
    unfold Ideal.div
    rw [if_neg (by norm_cast), ← EReal.coe_inv, ← EReal.coe_mul]
    congr 1; push_cast; ring
  rw [ed]
  show ((Real.rpow 2 (-((h.val + 1 : ℕ) : ℝ)) : ℝ) : EReal) = _
  unfold slope
  congr 1
  show (2 : ℝ) ^ (-((h.val + 1 : ℕ) : ℝ)) = _
  rw [Real.rpow_neg (by norm_num), Real.rpow_natCast, inv_pow]

/-- The slopes' float words. -/
theorem slope_words : Ideal.ofBits .f32 0x3F000000#32 = slope 0 ∧ Ideal.ofBits .f32 0x3E800000#32 = slope 1
    ∧ Ideal.ofBits .f32 0x3E000000#32 = slope 2 ∧ Ideal.ofBits .f32 0x3D800000#32 = slope 3
    ∧ Ideal.ofBits .f32 0x3D000000#32 = slope 4 ∧ Ideal.ofBits .f32 0x3C800000#32 = slope 5
    ∧ Ideal.ofBits .f32 0x3C000000#32 = slope 6 ∧ Ideal.ofBits .f32 0x3B800000#32 = slope 7 := by
  refine ⟨?_, ?_, ?_, ?_, ?_, ?_, ?_, ?_⟩ <;>
    (simp [Ideal.ofBits, Ideal.ieee, slope, -EReal.coe_mul, -EReal.coe_pow]; norm_num)

theorem isNum_slope (h : Nat) : IsNum (slope h) := ⟨_, rfl⟩

/-- The scale of the scores is a number. -/
theorem isNum_scale : IsNum (Ideal.ofBits .f32 0x3E000000#32) := slope_words.2.2.1 ▸ isNum_slope 2

/-- The 256 entries that block `j` of 128 rows looks at — the block before it and itself — of a column; before the first
    row there are zeros. -/
def band (K : Fin 2048 → EReal) (j : Fin 16) (x : Fin 256) : EReal :=
  if h : 128 ≤ j.val * 128 + x.val then K ⟨j.val * 128 + x.val - 128, by omega⟩ else 0

/-- How far before row `r` entry `x` lies. -/
def dist (r : Fin 128) (x : Fin 256) : BitVec 32 :=
  IntOp.subi (IntOp.addi (BitVec.ofNat 32 r.val) 128#32) (BitVec.ofNat 32 x.val)

/-- Row `r` of block `j` sees entry `x`: not after it, at most 128 before it, not before the first row. -/
def sees (j : Fin 16) (r : Fin 128) (x : Fin 256) : BitVec 1 :=
  IntOp.andi (IntOp.andi (IntOp.cmpi .sge (dist r x) 0#32) (IntOp.cmpi .sle (dist r x) 128#32))
    (IntOp.cmpi .sge (IntOp.addi (IntOp.muli (IntOp.subi (BitVec.ofNat 32 j.val) 1#32) 128#32) (BitVec.ofNat 32 x.val)) 0#32)

/-- The row that entry `x` of block `j`'s 256 is loaded from: the block before — the first block itself where there is
    none — and then the block. -/
def row (j : Fin 16) (x : Fin 256) : Fin 2048 :=
  if h : x.val < 128 then ⟨(j.val - 1) * 128 + x.val, by omega⟩ else ⟨j.val * 128 + (x.val - 128), by omega⟩

/-- Before the first row nothing is seen. -/
theorem unseen : ∀ j : Fin 16, ∀ x : Fin 256, j.val * 128 + x.val < 128 →
    IntOp.cmpi .sge (IntOp.addi (IntOp.muli (IntOp.subi (BitVec.ofNat 32 j.val) 1#32) 128#32) (BitVec.ofNat 32 x.val)) 0#32 = 0#1 := by
  decide +kernel

/-- What is seen is loaded from the band's row. -/
theorem sees_row (j : Fin 16) (r : Fin 128) (x : Fin 256) : sees j r x = 0#1 ∨ ∀ K, band K j x = K (row j x) := by
  by_cases h : j.val * 128 + x.val < 128
  · left
    unfold sees
    rw [unseen j x h]
    exact BitVec.and_zero
  · right
    intro K
    unfold band row
    rw [dif_pos (by omega)]
    by_cases hx : x.val < 128
    · rw [dif_pos hx]
      exact congrArg K (Fin.ext (by show j.val * 128 + x.val - 128 = (j.val - 1) * 128 + x.val; omega))
    · rw [dif_neg hx]
      exact congrArg K (Fin.ext (by show j.val * 128 + x.val - 128 = j.val * 128 + (x.val - 128); omega))

/-- The kernel's word for what lies before the first row. -/
theorem first_word : ∀ j : Fin 16, ∀ x : Fin 256,
    IntOp.ori (IntOp.cmpi .sge (BitVec.ofNat 32 x.val) 128#32) (IntOp.cmpi .sgt (BitVec.ofNat 32 j.val) 0#32)
      = IntOp.cmpi .sge (IntOp.addi (IntOp.muli (IntOp.subi (BitVec.ofNat 32 j.val) 1#32) 128#32) (BitVec.ofNat 32 x.val)) 0#32 := by
  decide +kernel

/-- The score of a row against an entry's dot product: scaled, less the slope times the distance, −∞ where unseen. -/
def score (m : BitVec 1) (a : EReal) (h : Nat) (d : BitVec 32) : EReal :=
  Scalar.select m (a * Ideal.ofBits .f32 0x3E000000#32 - slope h * FloatOps.sitofp (F := Ideal) .f32 d) ⊥

/-- A score of numbers is not infinity. -/
theorem score_ne_top {m : BitVec 1} {a : EReal} {h : Nat} {d : BitVec 32} (ha : IsNum a) : score m a h d ≠ ⊤ := by
  unfold score Scalar.select
  split
  · exact (IsNum.sub (ha.mul isNum_scale) ((isNum_slope h).mul ⟨_, rfl⟩)).ne_top
  · exact bot_ne_top

/-- What is unseen has the score −∞. -/
theorem score_unseen {m : BitVec 1} {a : EReal} {h : Nat} {d : BitVec 32} (hm : m = 0#1) : score m a h d = ⊥ := by
  subst hm; rfl

end Cert.Attn

end
-- ==== Proof.AttnRef.lean ====
/- The attention's reference at an index: the rows' norms, the scores, the softmax with its sink, the weighted mean. -/
module

public import proofs.«01_k».proof.Proof.Gen.ReferenceIdeal.Read
public import proofs.«01_k».proof.Proof.AttnMath
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Attn

open Cert.ReferenceIdeal Cert.ReferenceIdeal.Gen Cert.ReferenceIdeal.Read

/-- The queries. -/
abbrev QArr := (⟨S16x2048x512, .f32⟩ : BufTy).Contents (Elt Ideal)
/-- The keys or values. -/
abbrev KArr := (⟨S16x2048x128, .f32⟩ : BufTy).Contents (Elt Ideal)
/-- The gains. -/
abbrev GArr := (⟨S1x64, .f32⟩ : BufTy).Contents (Elt Ideal)
/-- The sinks. -/
abbrev SArr := (⟨S1x8, .f32⟩ : BufTy).Contents (Elt Ideal)

/-- An entry of a query row, normalised. -/
def qn (x0 : QArr) (x3 : GArr) (b : Fin 16) (s : Fin 2048) (h : Fin 8) (d : Fin 64) : EReal :=
  x0 (ix3 b s ⟨h.val * 64 + d.val, by omega⟩) * rms (fun e => x0 (ix3 b s ⟨h.val * 64 + e.val, by omega⟩)) * x3 (ix2 0 d)

/-- An entry of a key row, normalised. -/
def kn (x1 : KArr) (x4 : GArr) (b : Fin 16) (s : Fin 2048) (kv : Fin 2) (d : Fin 64) : EReal :=
  x1 (ix3 b s ⟨kv.val * 64 + d.val, by omega⟩) * rms (fun e => x1 (ix3 b s ⟨kv.val * 64 + e.val, by omega⟩)) * x4 (ix2 0 d)

/-- The scores of row `r` of block `j` for head `4 kv + g`. -/
def scores (x0 : QArr) (x1 : KArr) (x3 x4 : GArr) (b j : Fin 16) (kv : Fin 2) (g : Fin 4) (r : Fin 128) (x : Fin 256) : EReal :=
  score (sees j r x) (∑ d, band (fun s => kn x1 x4 b s kv d) j x * qn x0 x3 b ⟨j.val * 128 + r.val, by omega⟩ ⟨kv.val * 4 + g.val, by omega⟩ d)
    (kv.val * 4 + g.val) (dist r x)

theorem qn_val (x0 : QArr) (x3 : GArr) (b : Fin 16) (s : Fin 2048) (h : Fin 8) (d : Fin 64) :
    val_main_v14 (F := Ideal) x0 x3 (ix4 b s h d) = qn x0 x3 b s h d := by
  pointwise [val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]
  rfl

theorem kn_val (x1 : KArr) (x4 : GArr) (b : Fin 16) (s : Fin 2048) (kv : Fin 2) (d : Fin 64) :
    val_main_v29 (F := Ideal) x1 x4 (ix4 b s kv d) = kn x1 x4 b s kv d := by
  pointwise [val_main_v29, val_main_v28, val_main_v27, val_main_v26, val_main_v25, val_main_v24, val_main_v23, val_main_v22, val_main_v21,
    val_main_v20, val_main_v19, val_main_v18, val_main_v17, val_main_v16, val_main_v15, val_main_cst_2, val_main_cst_3, val_main_cst_4]
  rfl

/-- The band as two blocks of the padded column. -/
theorem band_ladder (K : Fin 2048 → EReal) (j : Fin 16) (x : Fin 256) {z : EReal} (hz : z = 0) :
    (if _ : x.val < 128 then
      if h : 128 ≤ j.val * 128 + x.val ∧ j.val * 128 + x.val - 128 < 2048 then K ⟨j.val * 128 + x.val - 128, h.2⟩ else z
    else if h : 128 ≤ (1 + j.val) * 128 + (x.val - 128) ∧ (1 + j.val) * 128 + (x.val - 128) - 128 < 2048 then
      K ⟨(1 + j.val) * 128 + (x.val - 128) - 128, h.2⟩ else z) = band K j x := by
  subst hz
  unfold band
  by_cases h : x.val < 128
  · rw [dif_pos h]
    by_cases h1 : 128 ≤ j.val * 128 + x.val
    · rw [dif_pos h1, dif_pos ⟨h1, by omega⟩]
    · rw [dif_neg h1, dif_neg (fun hh => h1 hh.1)]
  · rw [dif_neg h, dif_pos ⟨by omega, by omega⟩, dif_pos (show 128 ≤ j.val * 128 + x.val by omega)]
    exact congrArg K (Fin.ext (by show (1 + j.val) * 128 + (x.val - 128) - 128 = j.val * 128 + x.val - 128; omega))

theorem zero_word : FloatOps.sitofp (F := Ideal) .f32 0#32 = (0 : EReal) := by
  simp [FloatOps.sitofp]

theorem kband_val (x1 : KArr) (x4 : GArr) (b j : Fin 16) (x : Fin 256) (kv : Fin 2) (d : Fin 64) :
    val_main_v76 (F := Ideal) x1 x4 (ix5 b j x kv d) = band (fun s => kn x1 x4 b s kv d) j x := by
  pointwise [val_main_v76, val_main_v75, val_main_v74, val_main_v73, val_main_v72, val_main_call0_v0, val_main_c_14]
  simp only [kn_val]
  exact band_ladder (fun s => kn x1 x4 b s kv d) j x zero_word

/-- An entry of a value row. -/
def vn (x2 : KArr) (b : Fin 16) (s : Fin 2048) (kv : Fin 2) (d : Fin 64) : EReal :=
  x2 (ix3 b s ⟨kv.val * 64 + d.val, by omega⟩)

theorem vband_val (x2 : KArr) (b j : Fin 16) (x : Fin 256) (kv : Fin 2) (d : Fin 64) :
    val_main_v111 (F := Ideal) x2 (ix5 b j x kv d) = band (fun s => vn x2 b s kv d) j x := by
  pointwise [val_main_v111, val_main_v110, val_main_v109, val_main_v108, val_main_v107, val_main_call2_v0, val_main_c_20, val_main_v30]
  exact band_ladder (fun s => vn x2 b s kv d) j x zero_word

theorem dots_val (x0 : QArr) (x1 : KArr) (x3 x4 : GArr) (b j : Fin 16) (kv : Fin 2) (g : Fin 4) (r : Fin 128) (x : Fin 256) :
    val_main_v80 (F := Ideal) x0 x1 x3 x4 (ix6 b j kv g r x)
      = (∑ d, band (fun s => kn x1 x4 b s kv d) j x
          * qn x0 x3 b ⟨j.val * 128 + r.val, by omega⟩ ⟨kv.val * 4 + g.val, by omega⟩ d) * Ideal.ofBits .f32 0x3E000000#32 := by
  pointwise [val_main_v80, val_main_v79, val_main_v78, val_main_v77, val_main_cst_15, val_main_v31]
  simp only [kband_val, qn_val]

theorem sees_val (b j : Fin 16) (kv : Fin 2) (g : Fin 4) (r : Fin 128) (x : Fin 256) :
    val_main_call1_v1 (F := Ideal) (ix6 b j kv g r x) = sees j r x := by
  pointwise [val_main_call1_v1, val_main_call1_v0, val_main_v89, val_main_v61, val_main_v60, val_main_v59, val_main_v58,
    val_main_v57, val_main_v56, val_main_c_9, val_main_v55, val_main_v54, val_main_v53, val_main_c_8, val_main_v52, val_main_v51,
    val_main_c_7, val_main_v50, val_main_v49, val_main_v48, val_main_v47, val_main_v46, val_main_v45, val_main_c_6, val_main_v44,
    val_main_v43, val_main_c_5, val_main_v42, val_main_v41, val_main_v40, val_main_v39, val_main_v38, val_main_v37, val_main_v36,
    val_main_c, val_main_v35, val_main_v34, val_main_v33, val_main_v32]
  rfl

theorem bias_val (b j : Fin 16) (kv : Fin 2) (g : Fin 4) (r : Fin 128) (x : Fin 256) :
    val_main_v87 (F := Ideal) (ix6 b j kv g r x) = slope (kv.val * 4 + g.val) * FloatOps.sitofp (F := Ideal) .f32 (dist r x) := by
  pointwise [val_main_v87, val_main_v86, val_main_v85, val_main_v84, val_main_v83, val_main_v82, val_main_v81, val_main_v71,
    val_main_v70, val_main_v69, val_main_v68, val_main_v67, val_main_v66, val_main_v65, val_main_v64, val_main_v63, val_main_v62,
    val_main_cst_10, val_main_cst_11, val_main_cst_12, val_main_cst_13, val_main_v40, val_main_v39, val_main_v38, val_main_v37,
    val_main_v36, val_main_c, val_main_v35, val_main_v34, val_main_v33, val_main_v32]
  rw [← slope_pow ⟨kv.val * 4 + g.val, by omega⟩]
  rfl

theorem scores_val (x0 : QArr) (x1 : KArr) (x3 x4 : GArr) (b j : Fin 16) (kv : Fin 2) (g : Fin 4) (r : Fin 128) (x : Fin 256) :
    val_main_v90 (F := Ideal) x0 x1 x3 x4 (ix6 b j kv g r x) = scores x0 x1 x3 x4 b j kv g r x := by
  rw [val_main_v90_apply, val_main_v88_apply, sees_val, dots_val, bias_val, val_main_call1_v2_apply, val_main_call1_v0_apply,
    val_main_cst_16_apply]
  unfold scores score
  rw [← ofBits_neg_inf]
  rfl

theorem sunk_val (x0 : QArr) (x1 : KArr) (x3 x4 : GArr) (x5 : SArr) (b j : Fin 16) (kv : Fin 2) (g : Fin 4) (r : Fin 128)
    (k : Fin 257) :
    val_main_v94 (F := Ideal) x0 x1 x3 x4 x5 (ix6 b j kv g r k)
      = withSink (scores x0 x1 x3 x4 b j kv g r) (x5 (ix2 0 ⟨kv.val * 4 + g.val, by omega⟩)) k := by
  pointwise [val_main_v94, val_main_v93, val_main_v92, val_main_v91]
  simp only [scores_val]
  rfl

/-- The largest of the scores and the sink. -/
theorem top_val (x0 : QArr) (x1 : KArr) (x3 x4 : GArr) (x5 : SArr) (b j : Fin 16) (kv : Fin 2) (g : Fin 4) (r : Fin 128) :
    val_main_v97 (F := Ideal) x0 x1 x3 x4 x5 (ix5 b j kv g r)
      = top (scores x0 x1 x3 x4 b j kv g r) (x5 (ix2 0 ⟨kv.val * 4 + g.val, by omega⟩)) := by
  have hR : S16x16x2x4x128x257.Reduces [5] S16x16x2x4x128 := by decide
  have hl : ∀ k : Fin 257, hR.lift (ix5 b j kv g r) k = ix6 b j kv g r k := by
    intro k
    funext a
    fin_cases a <;> rfl
  rw [val_main_v97_apply, val_main_v96_apply, val_main_cst_18_apply, ← fold_withSink]
  have hf : val_main_v95 (F := Ideal) x0 x1 x3 x4 x5 (ix5 b j kv g r)
      = (Finset.univ : Finset (Fin 257)).fold max ⊥
          (withSink (scores x0 x1 x3 x4 b j kv g r) (x5 (ix2 0 ⟨kv.val * 4 + g.val, by omega⟩))) := by
    unfold val_main_v95
    rw [Host.reduce_eq_fold_single _ _ _ _ hR, val_main_cst_17_apply]
    have e : val_main_v94 (F := Ideal) x0 x1 x3 x4 x5 ∘ hR.lift (ix5 b j kv g r)
        = withSink (scores x0 x1 x3 x4 b j kv g r) (x5 (ix2 0 ⟨kv.val * 4 + g.val, by omega⟩)) := by
      funext k
      show val_main_v94 (F := Ideal) x0 x1 x3 x4 x5 (hR.lift (ix5 b j kv g r) k) = _
      exact (congrArg (val_main_v94 (F := Ideal) x0 x1 x3 x4 x5) (hl k)).trans (sunk_val x0 x1 x3 x4 x5 b j kv g r k)
    rw [e]
    show Finset.fold max (Ideal.ofBits .f32 0xFF800000#32) _ _ = _
    rw [ofBits_neg_inf]
    rfl
  rw [hf]
  show max (Ideal.ofBits .f32 0xFF800000#32) _ = _
  rw [ofBits_neg_inf]

theorem exps_val (x0 : QArr) (x1 : KArr) (x3 x4 : GArr) (x5 : SArr) (b j : Fin 16) (kv : Fin 2) (g : Fin 4) (r : Fin 128)
    (k : Fin 257) :
    val_main_v101 (F := Ideal) x0 x1 x3 x4 x5 (ix6 b j kv g r k)
      = Ideal.exp (withSink (scores x0 x1 x3 x4 b j kv g r) (x5 (ix2 0 ⟨kv.val * 4 + g.val, by omega⟩)) k
          - top (scores x0 x1 x3 x4 b j kv g r) (x5 (ix2 0 ⟨kv.val * 4 + g.val, by omega⟩))) := by
  rw [val_main_v101_apply, val_main_v100_apply, sunk_val, val_main_v99_apply, val_main_v98_apply]
  rw [show idx_main_v98 (idx_main_v99 (ix6 b j kv g r k)) = ix5 b j kv g r from by funext a; fin_cases a <;> rfl, top_val]
  rfl

theorem mass_val (x0 : QArr) (x1 : KArr) (x3 x4 : GArr) (x5 : SArr) (b j : Fin 16) (kv : Fin 2) (g : Fin 4) (r : Fin 128) :
    val_main_v102 (F := Ideal) x0 x1 x3 x4 x5 (ix5 b j kv g r)
      = mass (scores x0 x1 x3 x4 b j kv g r) (x5 (ix2 0 ⟨kv.val * 4 + g.val, by omega⟩)) := by
  rw [val_main_v102_apply, val_main_cst_19_apply]
  unfold mass
  rw [← sum_withSink]
  show Ideal.ofBits .f32 0x00000000#32 + _ = _
  rw [Ideal.ofBits_zero_f32, zero_add]
  refine Finset.sum_congr rfl fun k _ => ?_
  rw [show idx_main_v102 (ix5 b j kv g r) k = ix6 b j kv g r k from by funext a; fin_cases a <;> rfl, exps_val]

theorem weight_val (x0 : QArr) (x1 : KArr) (x3 x4 : GArr) (x5 : SArr) (b j : Fin 16) (kv : Fin 2) (g : Fin 4) (r : Fin 128)
    (x : Fin 256) :
    val_main_v106 (F := Ideal) x0 x1 x3 x4 x5 (ix6 b j kv g r x)
      = Ideal.div (Ideal.exp (scores x0 x1 x3 x4 b j kv g r x
            - top (scores x0 x1 x3 x4 b j kv g r) (x5 (ix2 0 ⟨kv.val * 4 + g.val, by omega⟩))))
          (mass (scores x0 x1 x3 x4 b j kv g r) (x5 (ix2 0 ⟨kv.val * 4 + g.val, by omega⟩))) := by
  rw [val_main_v106_apply,
    show idx_main_v106 (ix6 b j kv g r x) = ix6 b j kv g r x.castSucc from by funext a; fin_cases a <;> rfl,
    val_main_v105_apply, exps_val, withSink_castSucc, val_main_v104_apply, val_main_v103_apply,
    show idx_main_v103 (idx_main_v104 (ix6 b j kv g r x.castSucc)) = ix5 b j kv g r from by funext a; fin_cases a <;> rfl,
    mass_val]
  rfl

theorem mean_val (x0 : QArr) (x1 x2 : KArr) (x3 x4 : GArr) (x5 : SArr) (b j : Fin 16) (kv : Fin 2) (g : Fin 4) (r : Fin 128)
    (d : Fin 64) :
    val_main_v113 (F := Ideal) x0 x1 x2 x3 x4 x5 (ix6 b j r kv g d)
      = attend (scores x0 x1 x3 x4 b j kv g r) (x5 (ix2 0 ⟨kv.val * 4 + g.val, by omega⟩))
          (fun x => band (fun s => vn x2 b s kv d) j x) := by
  pointwise [val_main_v113, val_main_v112]
  unfold attend
  refine Finset.sum_congr rfl fun x _ => ?_
  rw [vband_val, weight_val]
  exact mul_comm _ _

/-- The reference's attention at an index. -/
theorem out_val (x0 : QArr) (x1 x2 : KArr) (x3 x4 : GArr) (x5 : SArr) (b j : Fin 16) (kv : Fin 2) (g : Fin 4) (r : Fin 128)
    (d : Fin 64) :
    val_main_v114 (F := Ideal) x0 x1 x2 x3 x4 x5
        (ix3 b ⟨j.val * 128 + r.val, by omega⟩ ⟨(kv.val * 4 + g.val) * 64 + d.val, by omega⟩)
      = attend (scores x0 x1 x3 x4 b j kv g r) (x5 (ix2 0 ⟨kv.val * 4 + g.val, by omega⟩))
          (fun x => band (fun s => vn x2 b s kv d) j x) := by
  rw [← mean_val]
  pointwise [val_main_v114]

/-- The reference's normalised keys at an index. -/
theorem keys_val (x1 : KArr) (x4 : GArr) (b : Fin 16) (s : Fin 2048) (kv : Fin 2) (d : Fin 64) :
    val_main_v115 (F := Ideal) x1 x4 (ix3 b s ⟨kv.val * 64 + d.val, by omega⟩) = kn x1 x4 b s kv d := by
  rw [← kn_val]
  pointwise [val_main_v115]

theorem isNum_qn (x0 : QArr) (x3 : GArr) (b : Fin 16) (s : Fin 2048) (h : Fin 8) (d : Fin 64) (g : IsNum (x3 (ix2 0 d))) :
    IsNum (qn x0 x3 b s h d) :=
  (isNum_norm (fun e => x0 (ix3 b s ⟨h.val * 64 + e.val, by omega⟩)) d).mul g

theorem isNum_kn (x1 : KArr) (x4 : GArr) (b : Fin 16) (s : Fin 2048) (kv : Fin 2) (d : Fin 64) (g : IsNum (x4 (ix2 0 d))) :
    IsNum (kn x1 x4 b s kv d) :=
  (isNum_norm (fun e => x1 (ix3 b s ⟨kv.val * 64 + e.val, by omega⟩)) d).mul g

/-- The attention of row `r` of block `j`, head `h`, lane `d`. -/
def attn (x0 : QArr) (x1 x2 : KArr) (x3 x4 : GArr) (x5 : SArr) (b j : Fin 16) (h : Fin 8) (r : Fin 128) (d : Fin 64) : EReal :=
  attend (scores x0 x1 x3 x4 b j ⟨h.val / 4, by omega⟩ ⟨h.val % 4, by omega⟩ r) (x5 (ix2 0 h))
    (fun x => band (fun s => vn x2 b s ⟨h.val / 4, by omega⟩ d) j x)

/-- The reference's attention at an index, by the index's coordinates. -/
theorem attn_val (x0 : QArr) (x1 x2 : KArr) (x3 x4 : GArr) (x5 : SArr) (b j : Fin 16) (h : Fin 8) (r : Fin 128) (d : Fin 64)
    (i : S16x2048x512.Idx) (h0 : (i 0).val = b.val) (h1 : (i 1).val = j.val * 128 + r.val) (h2 : (i 2).val = h.val * 64 + d.val) :
    val_main_v114 (F := Ideal) x0 x1 x2 x3 x4 x5 i = attn x0 x1 x2 x3 x4 x5 b j h r d := by
  have e : i = ix3 b ⟨j.val * 128 + r.val, by omega⟩ ⟨(h.val / 4 * 4 + h.val % 4) * 64 + d.val, by omega⟩ := by
    funext a
    fin_cases a
    · exact Fin.ext h0
    · exact Fin.ext h1
    · exact Fin.ext (by show (i 2).val = (h.val / 4 * 4 + h.val % 4) * 64 + d.val; omega)
  rw [e]
  refine (out_val x0 x1 x2 x3 x4 x5 b j ⟨h.val / 4, by omega⟩ ⟨h.val % 4, by omega⟩ r d).trans ?_
  unfold attn
  rw [show (⟨h.val / 4 * 4 + h.val % 4, by omega⟩ : Fin 8) = h from Fin.ext (by show h.val / 4 * 4 + h.val % 4 = h.val; omega)]

/-- A weighted mean over the loaded rows is the attention: what lies before the first row is loaded but not seen. -/
theorem attend_loaded (x0 : QArr) (x1 x2 : KArr) (x3 x4 : GArr) (x5 : SArr) (b j : Fin 16) (h : Fin 8) (r : Fin 128) (d : Fin 64)
    (g3 : ∀ e, IsNum (x3 (ix2 0 e))) (g4 : ∀ e, IsNum (x4 (ix2 0 e))) (g5 : IsNum (x5 (ix2 0 h))) :
    attend (fun x => score (sees j r x) (∑ e, qn x0 x3 b ⟨j.val * 128 + r.val, by omega⟩ h e
        * kn x1 x4 b (row j x) ⟨h.val / 4, by omega⟩ e) h.val (dist r x)) (x5 (ix2 0 h))
      (fun x => vn x2 b (row j x) ⟨h.val / 4, by omega⟩ d) = attn x0 x1 x2 x3 x4 x5 b j h r d := by
  unfold attn
  have hh : (⟨h.val / 4 * 4 + h.val % 4, by omega⟩ : Fin 8) = h := Fin.ext (by show h.val / 4 * 4 + h.val % 4 = h.val; omega)
  have hs : (fun x => score (sees j r x) (∑ e, qn x0 x3 b ⟨j.val * 128 + r.val, by omega⟩ h e
        * kn x1 x4 b (row j x) ⟨h.val / 4, by omega⟩ e) h.val (dist r x))
      = scores x0 x1 x3 x4 b j ⟨h.val / 4, by omega⟩ ⟨h.val % 4, by omega⟩ r := by
    funext x
    unfold scores
    show _ = score (sees j r x) (∑ d, band (fun s => kn x1 x4 b s ⟨h.val / 4, by omega⟩ d) j x
      * qn x0 x3 b ⟨j.val * 128 + r.val, by omega⟩ ⟨h.val / 4 * 4 + h.val % 4, by omega⟩ d) (h.val / 4 * 4 + h.val % 4) (dist r x)
    rw [hh, show h.val / 4 * 4 + h.val % 4 = h.val by omega]
    rcases sees_row j r x with hx | hx
    · rw [score_unseen hx, score_unseen hx]
    · congr 1
      refine Finset.sum_congr rfl fun e _ => ?_
      rw [hx, mul_comm]
  rw [hs]
  refine attend_congr (mass_ne_zero (fun x => ?_) g5) fun x => ?_
  · rw [← hs]
    exact score_ne_top (IsNum.sum fun e => (isNum_qn x0 x3 b _ h e (g3 e)).mul (isNum_kn x1 x4 b _ _ e (g4 e)))
  · rcases sees_row j r x with hx | hx
    · left; unfold scores; exact score_unseen hx
    · right; rw [hx]

end Cert.Attn

end
-- ==== Proof.Attn.lean ====
/- The attention over two blocks: what its body leaves at a point is the reference's, head by head. -/
module

public import proofs.«01_k».proof.Proof.Gen.KernelIdeal.Frame
public import proofs.«01_k».proof.Proof.AttnRef
public import proofs.«01_k».proof.Defs
public import Idealize.ShloMosaic.Lib.ReduceAll
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (m : (ℓ : Loc nD τ sig) → Buf (Elt Ideal) ℓ)

/-- One head's tile of results, from the mask, the distances, the gains, the keys, the values, the slope's word, the
    queries and the sink. -/
def headTile (M : IVec S128x256 1) (D : FVec Ideal S128x256 .f32) (qg : FVec Ideal S1x64 .f32) (kc vc : FVec Ideal S256x64 .bf16)
    (w : BitVec 32) (Q : FVec Ideal S1x128x64 .f32) (σ : Ideal .f32) : FVec Ideal S1x128x64 .f32 :=
  k0_pay11 M D vc (mulf (k0_pay12 qg kc Q) k0_pay13) (Scalar.ofBits .f32 w) σ

variable (M : IVec S128x256 1) (D : FVec Ideal S128x256 .f32) (qg : FVec Ideal S1x64 .f32) (kc vc : FVec Ideal S256x64 .bf16)
    (Q : FVec Ideal S1x128x64 .f32) (σ : Ideal .f32)

theorem head0 (kg : FVec Ideal S1x64 .f32) (cur : FVec Ideal S128x64 .f32) (prev : FVec Ideal S1x128x64 .f32) :
    k0_pay11 M D vc (k0_pay10 qg kg cur prev Q) (Scalar.ofBits .f32 0x3F000000#32) σ
      = headTile M D qg (k0_pay8 kg cur prev) vc 0x3F000000#32 Q σ := rfl
theorem head1 : k0_pay14 M D vc (k0_pay12 qg kc Q) k0_pay13 σ = headTile M D qg kc vc 0x3E800000#32 Q σ := rfl
theorem head2 : k0_pay16 M D vc (k0_pay15 qg kc Q) σ = headTile M D qg kc vc 0x3E000000#32 Q σ := rfl
theorem head3 : k0_pay18 M D kc vc (k0_pay17 qg Q) σ = headTile M D qg kc vc 0x3D800000#32 Q σ := rfl
theorem head4 : k0_pay26 M D qg kc vc (k0_pay25 Q) σ = headTile M D qg kc vc 0x3D000000#32 Q σ := rfl
theorem head5 : k0_pay29 M D qg kc vc (k0_pay27 Q) (k0_pay28 Q) σ = headTile M D qg kc vc 0x3C800000#32 Q σ := rfl
theorem head6 : k0_pay33 M D qg kc vc (k0_pay30 Q) (k0_pay31 Q) k0_pay32 σ = headTile M D qg kc vc 0x3C000000#32 Q σ := rfl
theorem head7 : k0_pay36 M D qg kc vc (k0_pay34 Q) (k0_pay35 Q) σ = headTile M D qg kc vc 0x3B800000#32 Q σ := rfl

theorem mask_bot : (Named.named κ "mask" 0xF149F2CA#32 : Ideal .f32) = (⊥ : EReal) := rfl

open Cert.Attn in
theorem headTile_val (w : BitVec 32) (h : Nat) (hw : Ideal.ofBits .f32 w = slope h)
    (hD : ∀ r x, D (ix2 r x) = FloatOps.sitofp (F := Ideal) .f32 (dist r x)) (r : Fin 128) (d : Fin 64) :
    headTile M D qg kc vc w Q σ (ix3 0 r d)
      = attend (fun x => score (M (ix2 r x)) (∑ e, Q (ix3 0 r e) * rms (fun e => Q (ix3 0 r e)) * qg (ix2 0 e) * kc (ix2 x e)) h (dist r x))
          σ (fun x => vc (ix2 x d)) := by
  pointwise [headTile, k0_pay11, k0_pay12, k0_pay13]
  simp only [hD, mask_bot, hw, ofBits_neg_inf]
  rfl

/-- The windows' blocks at grid point `t`. -/
theorem idx : ∀ t : Fin cfg0.N, win0_0.index t = ![0]
    ∧ win0_1.index t = ![t.val / 16, t.val % 16, 0]
    ∧ win0_2.index t = ![t.val / 16, t.val % 16, 0]
    ∧ win0_3.index t = ![t.val / 16, t.val % 16 - 1, 0]
    ∧ win0_4.index t = ![t.val / 16, t.val % 16, 0]
    ∧ win0_5.index t = ![t.val / 16, t.val % 16 - 1, 0]
    ∧ win0_6.index t = ![0, 0]
    ∧ win0_7.index t = ![0, 0]
    ∧ win0_8.index t = ![t.val / 16, t.val % 16, 0]
    ∧ win0_9.index t = ![t.val / 16, t.val % 16, 0] :=
  (by decide +kernel : ∀ t : Fin grid0.N, _)

/-- The point's position along the rows. -/
theorem pos : ∀ t : Fin cfg0.N, (grid0.coords t 1).val = t.val % 16 := (by decide +kernel : ∀ t : Fin grid0.N, _)

open Cert.Attn

/-- The kernel's arrays. -/
abbrev aQ (c : Dev nD) : QArr := m ((c : Thread nD τ).loc main_arg0)
abbrev aK (c : Dev nD) : KArr := m ((c : Thread nD τ).loc main_arg1)
abbrev aV (c : Dev nD) : KArr := m ((c : Thread nD τ).loc main_arg2)
abbrev aG (c : Dev nD) : GArr := m ((c : Thread nD τ).loc main_arg3)
abbrev aH (c : Dev nD) : GArr := m ((c : Thread nD τ).loc main_arg4)
abbrev aS (c : Dev nD) : SArr := m ((c : Thread nD τ).loc main_arg5)

theorem mask_val (t : Fin cfg0.N) (j : Fin 16) (hj : j.val = t.val % 16) (r : Fin 128) (x : Fin 256) :
    k0_pay2 (grid0.coords t) (ix2 r x) = sees j r x := by
  pointwise [k0_pay2, k0_pay1]
  rw [pos t, ← hj]
  exact congrArg (IntOp.andi _) (first_word j x)

theorem dist_val (r : Fin 128) (x : Fin 256) : k0_pay3 (F := Ideal) (ix2 r x) = FloatOps.sitofp (F := Ideal) .f32 (dist r x) := by
  pointwise [k0_pay3, k0_pay1]
  rfl

/-- A head's tile is the reference's attention, whatever its operands' spelling. -/
theorem piece (XQ : QArr) (XK XV : KArr) (XG XH : GArr) (XS : SArr) (b j : Fin 16) (h : Fin 8) (w : BitVec 32) (hw : Ideal.ofBits .f32 w = slope h.val)
    (g3 : ∀ e, IsNum (XG (ix2 0 e))) (g4 : ∀ e, IsNum (XH (ix2 0 e))) (g5 : ∀ h, IsNum (XS (ix2 0 h)))
    (x : S1x128x64.Idx) (i : S16x2048x512.Idx)
    (hM : ∀ r x, M (ix2 r x) = sees j r x) (hD : ∀ r x, D (ix2 r x) = FloatOps.sitofp (F := Ideal) .f32 (dist r x))
    (hq : ∀ e, qg (ix2 0 e) = XG (ix2 0 e))
    (hk : ∀ x e, kc (ix2 x e) = kn XK XH b (row j x) ⟨h.val / 4, by omega⟩ e)
    (hv : ∀ x e, vc (ix2 x e) = vn XV b (row j x) ⟨h.val / 4, by omega⟩ e)
    (hQ : ∀ (r : Fin 128) (e : Fin 64), Q (ix3 0 r e) = XQ (ix3 b ⟨j.val * 128 + r.val, by omega⟩ ⟨h.val * 64 + e.val, by omega⟩))
    (hσ : σ = XS (ix2 0 h)) (h0 : (i 0).val = b.val)
    (h1 : (i 1).val = j.val * 128 + (x 1).val) (h2 : (i 2).val = h.val * 64 + (x 2).val) :
    headTile M D qg kc vc w Q σ x
      = Cert.ReferenceIdeal.Read.val_main_v114 (F := Ideal) XQ XK XV XG XH XS i := by
  obtain ⟨r, hr⟩ : ∃ r : Fin 128, r.val = (x 1).val := ⟨⟨(x 1).val, (x 1).isLt⟩, rfl⟩
  obtain ⟨d, hd⟩ : ∃ d : Fin 64, d.val = (x 2).val := ⟨⟨(x 2).val, (x 2).isLt⟩, rfl⟩
  have ex : x = ix3 (0 : Fin 1) r d := by
    funext a
    fin_cases a
    · exact Fin.ext (by show (x 0).val = 0; have := (x 0).isLt; change (x 0).val < 1 at this; omega)
    · exact Fin.ext hr.symm
    · exact Fin.ext hd.symm
  rw [attn_val _ _ _ _ _ _ b j h r d i h0 (by rw [h1, hr]) (by rw [h2, hd]), ← attend_loaded _ _ _ _ _ _ b j h r d g3 g4 (g5 h), ex]
  refine (headTile_val _ _ _ _ _ _ _ w h.val hw hD r d).trans ?_
  simp only [hM, hq, hQ, hσ, hk, hv]
  rfl

/-- A loaded key, normalised over its own head and scaled, is the reference's. -/
theorem kn_of (XK : KArr) (XH : GArr) (b : Fin 16) (s : Fin 2048) (kv : Fin 2)
    (P : Vec Ideal S1x128x128 .f32) (G : Vec Ideal S1x64 .f32) (r : Fin 128) (l : Fin 64 → Fin 128) (e : Fin 64)
    (hl : ∀ e, (l e).val = kv.val * 64 + e.val)
    (hP : ∀ l, P (ix3 (0 : Fin 1) r l) = XK (ix3 b s l)) (hG : ∀ e, G (ix2 (0 : Fin 1) e) = XH (ix2 0 e)) :
    P (ix3 (0 : Fin 1) r (l e)) * Ideal.rsqrt (Ideal.div (∑ x : Fin 64, P (ix3 (0 : Fin 1) r (l x)) * P (ix3 (0 : Fin 1) r (l x)))
        (Ideal.ofBits .f32 0x42800000#32) + Ideal.ofBits .f32 0x358637BD#32) * G (ix2 (0 : Fin 1) e) = kn XK XH b s kv e := by
  have hl' : ∀ e, l e = ⟨kv.val * 64 + e.val, by omega⟩ := fun e => Fin.ext (hl e)
  simp only [hP, hG, hl']
  rfl

set_option maxHeartbeats 1000000 in
/-- What the body leaves in the attention's block, from what its operands' blocks hold. -/
theorem tile8 (XQ : QArr) (XK XV : KArr) (XG XH : GArr) (XS : SArr) (b j : Fin 16)
    (g3 : ∀ e, IsNum (XG (ix2 0 e))) (g4 : ∀ e, IsNum (XH (ix2 0 e))) (g5 : ∀ h, IsNum (XS (ix2 0 h)))
    (c : Dev nD) (t : Fin cfg0.N) (hj : j.val = t.val % 16)
    (arg2 : Memref sig .tc .smem S8 .f32) (harg2 : arg2.IsWhole) (arg3 : Memref sig .tc .vmem S1x128x512 .f32) (harg3 : arg3.IsWhole) (arg4 : Memref sig .tc .vmem S1x128x128 .f32) (harg4 : arg4.IsWhole) (arg5 : Memref sig .tc .vmem S1x128x128 .f32) (harg5 : arg5.IsWhole) (arg6 : Memref sig .tc .vmem S1x128x128 .f32) (harg6 : arg6.IsWhole) (arg7 : Memref sig .tc .vmem S1x128x128 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x128x512 .f32) (harg10 : arg10.IsWhole) (arg11 : Memref sig .tc .vmem S1x128x128 .f32) (harg11 : arg11.IsWhole)
    (x0 : Vec Ideal S8 .f32) (x1 : Vec Ideal S1x128x512 .f32) (x2 x3 x4 x5 : Vec Ideal S1x128x128 .f32) (x6 x7 : Vec Ideal S1x64 .f32)
    (hx0 : ∀ h : Fin 8, x0 (ix1 h) = XS (ix2 0 h))
    (hx1 : ∀ (r : Fin 128) (l : Fin 512), x1 (ix3 (0 : Fin 1) r l) = XQ (ix3 b ⟨j.val * 128 + r.val, by omega⟩ l))
    (hx2 : ∀ r l : Fin 128, x2 (ix3 (0 : Fin 1) r l) = XK (ix3 b ⟨j.val * 128 + r.val, by omega⟩ l))
    (hx3 : ∀ r l : Fin 128, x3 (ix3 (0 : Fin 1) r l) = XK (ix3 b ⟨(j.val - 1) * 128 + r.val, by omega⟩ l))
    (hx4 : ∀ r l : Fin 128, x4 (ix3 (0 : Fin 1) r l) = XV (ix3 b ⟨j.val * 128 + r.val, by omega⟩ l))
    (hx5 : ∀ r l : Fin 128, x5 (ix3 (0 : Fin 1) r l) = XV (ix3 b ⟨(j.val - 1) * 128 + r.val, by omega⟩ l))
    (hx6 : ∀ e : Fin 64, x6 (ix2 (0 : Fin 1) e) = XG (ix2 0 e))
    (hx7 : ∀ e : Fin 64, x7 (ix2 (0 : Fin 1) e) = XH (ix2 0 e))
    (y : S1x128x512.Idx) (i : S16x2048x512.Idx) (e0 : (i 0).val = b.val)
    (e1 : (i 1).val = j.val * 128 + (y 1).val) (e2 : (i 2).val = (y 2).val) :
    out0_A_8 (F := Ideal) c (grid0.coords t) arg2 harg2 arg3 harg3 arg4 harg4 arg5 harg5 arg6 harg6 arg7 harg7 arg8 harg8 arg9 harg9 arg10 harg10 arg11 harg11 x0 x1 x2 x3 x4 x5 x6 x7 y
      = Cert.ReferenceIdeal.Read.val_main_v114 (F := Ideal) XQ XK XV XG XH XS i := by
  have p4 := fun r l => (congrFun (harg4.read_unread (Val := Elt Ideal) x2) (ix3 (0 : Fin 1) r l)).trans (hx2 r l)
  have p5 := fun r l => (congrFun (harg5.read_unread (Val := Elt Ideal) x3) (ix3 (0 : Fin 1) r l)).trans (hx3 r l)
  have p6 := fun r l => (congrFun (harg6.read_unread (Val := Elt Ideal) x4) (ix3 (0 : Fin 1) r l)).trans (hx4 r l)
  have p7 := fun r l => (congrFun (harg7.read_unread (Val := Elt Ideal) x5) (ix3 (0 : Fin 1) r l)).trans (hx5 r l)
  have p9 := fun e => (congrFun (harg9.read_unread (Val := Elt Ideal) x7) (ix2 (0 : Fin 1) e)).trans (hx7 e)
  frame_out
  · canon_tiles x h
    case' piece0 =>
      refine (congrFun (head7 _ _ _ _ _ _ _ ) x).trans ?_
      apply piece (h := 7) (hw := slope_words.2.2.2.2.2.2.2) (g3 := g3) (g4 := g4) (g5 := g5) (h0 := e0)
    case' piece1 =>
      refine (congrFun (head6 _ _ _ _ _ _ _ ) x).trans ?_
      apply piece (h := 6) (hw := slope_words.2.2.2.2.2.2.1) (g3 := g3) (g4 := g4) (g5 := g5) (h0 := e0)
    case' piece2 =>
      refine (congrFun (head5 _ _ _ _ _ _ _ ) x).trans ?_
      apply piece (h := 5) (hw := slope_words.2.2.2.2.2.1) (g3 := g3) (g4 := g4) (g5 := g5) (h0 := e0)
    case' piece3 =>
      refine (congrFun (head4 _ _ _ _ _ _ _ ) x).trans ?_
      apply piece (h := 4) (hw := slope_words.2.2.2.2.1) (g3 := g3) (g4 := g4) (g5 := g5) (h0 := e0)
    case' piece4 =>
      refine (congrFun (head3 _ _ _ _ _ _ _ ) x).trans ?_
      apply piece (h := 3) (hw := slope_words.2.2.2.1) (g3 := g3) (g4 := g4) (g5 := g5) (h0 := e0)
    case' piece5 =>
      refine (congrFun (head2 _ _ _ _ _ _ _ ) x).trans ?_
      apply piece (h := 2) (hw := slope_words.2.2.1) (g3 := g3) (g4 := g4) (g5 := g5) (h0 := e0)
    case' piece6 =>
      refine (congrFun (head1 _ _ _ _ _ _ _ ) x).trans ?_
      apply piece (h := 1) (hw := slope_words.2.1) (g3 := g3) (g4 := g4) (g5 := g5) (h0 := e0)
    case' piece7 =>
      refine (congrFun (head0 _ _ _ _ _ _ _ _ _ ) x).trans ?_
      apply piece (h := 0) (hw := slope_words.1) (g3 := g3) (g4 := g4) (g5 := g5) (h0 := e0)
    all_goals try case hM => exact mask_val t j hj
    all_goals try case hD => exact dist_val
    all_goals try case hq =>
      intro e
      pointwise
      exact hx6 e
    all_goals try case hk =>
      intro z e
      open_payloads
      pointwise
      by_cases hx : z.val < 128
      · rw [dif_pos hx]
        first
          | refine (kn_of XK XH b _ 1 _ _ ⟨z.val, hx⟩ (fun e => ⟨64 + e.val, by omega⟩) e (fun e => by simp) (p5 _) p9).trans ?_
          | refine (kn_of XK XH b _ 0 _ _ ⟨z.val, hx⟩ (fun e => ⟨e.val, by omega⟩) e (fun e => by simp) (p5 _) p9).trans ?_
        unfold row
        rw [dif_pos hx]
      · rw [dif_neg hx]
        first
          | refine (kn_of XK XH b _ 1 _ _ ⟨z.val - 128, by omega⟩ (fun e => ⟨64 + e.val, by omega⟩) e (fun e => by simp) (p4 _) p9).trans ?_
          | refine (kn_of XK XH b _ 0 _ _ ⟨z.val - 128, by omega⟩ (fun e => ⟨e.val, by omega⟩) e (fun e => by simp) (p4 _) p9).trans ?_
        unfold row
        rw [dif_neg hx]
    all_goals try case hv =>
      intro z e
      pointwise
      unfold vn row
      by_cases hx : z.val < 128
      · rw [dif_pos hx, dif_pos hx]
        first
          | exact (p7 ⟨z.val, hx⟩ ⟨64 + e.val, by omega⟩).trans (congrArg (fun l => XV (ix3 b _ l)) (Fin.ext (by simp)))
          | exact (p7 ⟨z.val, hx⟩ ⟨e.val, by omega⟩).trans (congrArg (fun l => XV (ix3 b _ l)) (Fin.ext (by simp)))
      · rw [dif_neg hx, dif_neg hx]
        first
          | exact (p6 ⟨z.val - 128, by omega⟩ ⟨64 + e.val, by omega⟩).trans (congrArg (fun l => XV (ix3 b _ l)) (Fin.ext (by simp)))
          | exact (p6 ⟨z.val - 128, by omega⟩ ⟨e.val, by omega⟩).trans (congrArg (fun l => XV (ix3 b _ l)) (Fin.ext (by simp)))
    all_goals try case hQ =>
      intro r e
      pointwise
      refine (hx1 r _).trans (congrArg (fun l => XQ (ix3 b _ l)) (Fin.ext ?_))
      simp
    all_goals try case hσ =>
      pointwise
      exact hx0 _
    all_goals try case h1 => rw [e1, h1]
    all_goals try case h2 =>
      rw [e2, h2]
      simp

set_option maxHeartbeats 1000000 in
/-- What the body leaves in the normalised keys' block. -/
theorem tile9 (XK : KArr) (XH : GArr) (b j : Fin 16) (c : Dev nD) (i : grid0.Coords)
    (arg2 : Memref sig .tc .smem S8 .f32) (harg2 : arg2.IsWhole) (arg3 : Memref sig .tc .vmem S1x128x512 .f32) (harg3 : arg3.IsWhole) (arg4 : Memref sig .tc .vmem S1x128x128 .f32) (harg4 : arg4.IsWhole) (arg5 : Memref sig .tc .vmem S1x128x128 .f32) (harg5 : arg5.IsWhole) (arg6 : Memref sig .tc .vmem S1x128x128 .f32) (harg6 : arg6.IsWhole) (arg7 : Memref sig .tc .vmem S1x128x128 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x128x512 .f32) (harg10 : arg10.IsWhole) (arg11 : Memref sig .tc .vmem S1x128x128 .f32) (harg11 : arg11.IsWhole)
    (x0 : Vec Ideal S8 .f32) (x1 : Vec Ideal S1x128x512 .f32) (x2 x3 x4 x5 : Vec Ideal S1x128x128 .f32) (x6 x7 : Vec Ideal S1x64 .f32)
    (hx2 : ∀ r l : Fin 128, x2 (ix3 (0 : Fin 1) r l) = XK (ix3 b ⟨j.val * 128 + r.val, by omega⟩ l))
    (hx7 : ∀ e : Fin 64, x7 (ix2 (0 : Fin 1) e) = XH (ix2 0 e))
    (y : S1x128x128.Idx) (z : S16x2048x128.Idx) (e0 : (z 0).val = b.val)
    (e1 : (z 1).val = j.val * 128 + (y 1).val) (e2 : (z 2).val = (y 2).val) :
    out0_A_9 (F := Ideal) c i arg2 harg2 arg3 harg3 arg4 harg4 arg5 harg5 arg6 harg6 arg7 harg7 arg8 harg8 arg9 harg9 arg10 harg10 arg11 harg11 x0 x1 x2 x3 x4 x5 x6 x7 y
      = Cert.ReferenceIdeal.Read.val_main_v115 (F := Ideal) XK XH z := by
  frame_out
  · canon_tiles x h
    all_goals
      obtain ⟨r, hr⟩ : ∃ r : Fin 128, r.val = (x 1).val := ⟨⟨(x 1).val, (x 1).isLt⟩, rfl⟩
      obtain ⟨d, hd⟩ : ∃ d : Fin 64, d.val = (x 2).val := ⟨⟨(x 2).val, (x 2).isLt⟩, rfl⟩
      obtain rfl : x = ix3 (0 : Fin 1) r d := by
        funext a
        fin_cases a
        · exact Fin.ext (by show (x 0).val = 0; have := (x 0).isLt; change (x 0).val < 1 at this; omega)
        · exact Fin.ext hr.symm
        · exact Fin.ext hd.symm
    case piece0 =>
      have ez : z = ix3 b ⟨j.val * 128 + r.val, by omega⟩ ⟨(1 : Fin 2).val * 64 + d.val, by simp; omega⟩ := by
        funext a
        fin_cases a
        · exact Fin.ext e0
        · exact Fin.ext (e1.trans (congrArg _ h1))
        · exact Fin.ext (e2.trans h2)
      rw [ez, keys_val]
      open_payloads
      pointwise
      exact kn_of XK XH b _ 1 _ _ r (fun e => ⟨64 + e.val, by omega⟩) d (fun e => by simp) (hx2 _) hx7
    case piece1 =>
      have ez : z = ix3 b ⟨j.val * 128 + r.val, by omega⟩ ⟨(0 : Fin 2).val * 64 + d.val, by simp; omega⟩ := by
        funext a
        fin_cases a
        · exact Fin.ext e0
        · exact Fin.ext (e1.trans (congrArg _ h1))
        · exact Fin.ext (e2.trans (h2.trans (by simp)))
      rw [ez, keys_val]
      open_payloads
      pointwise
      exact kn_of XK XH b _ 0 _ _ r (fun e => ⟨e.val, by omega⟩) d (fun e => by simp) (hx2 _) hx7

section Blocks
variable (c : Dev nD) (t : Fin cfg0.N) (b j : Fin 16) (hb : b.val = t.val / 16) (hj : j.val = t.val % 16)
include hb hj

/-- The blocks' entries are the arrays'. -/
theorem kcur (r l : Fin 128) : iblk m c 2 t (ix3 (0 : Fin 1) r l) = aK m c (ix3 b ⟨j.val * 128 + r.val, by omega⟩ l) := by
  blk_point [iblk, V, idx t]
theorem kprev (r l : Fin 128) : iblk m c 3 t (ix3 (0 : Fin 1) r l) = aK m c (ix3 b ⟨(j.val - 1) * 128 + r.val, by omega⟩ l) := by
  blk_point [iblk, V, idx t]
theorem vcur (r l : Fin 128) : iblk m c 4 t (ix3 (0 : Fin 1) r l) = aV m c (ix3 b ⟨j.val * 128 + r.val, by omega⟩ l) := by
  blk_point [iblk, V, idx t]
theorem vprev (r l : Fin 128) : iblk m c 5 t (ix3 (0 : Fin 1) r l) = aV m c (ix3 b ⟨(j.val - 1) * 128 + r.val, by omega⟩ l) := by
  blk_point [iblk, V, idx t]
theorem queries (r : Fin 128) (l : Fin 512) : iblk m c 1 t (ix3 (0 : Fin 1) r l) = aQ m c (ix3 b ⟨j.val * 128 + r.val, by omega⟩ l) := by
  blk_point [iblk, V, idx t]
omit hb hj
theorem sinks (h : Fin 8) : iblk m c 0 t (ix1 h) = aS m c (ix2 0 h) := by
  blk_point [iblk, V, idx t]
theorem kgain (e : Fin 64) : iblk m c 7 t (ix2 (0 : Fin 1) e) = aH m c (ix2 0 e) := by
  blk_point [iblk, V, idx t]
theorem qgain (e : Fin 64) : iblk m c 6 t (ix2 (0 : Fin 1) e) = aG m c (ix2 0 e) := by
  blk_point [iblk, V, idx t]
end Blocks

/-- An array all of whose magnitudes compare below infinity holds numbers. -/
theorem isNum_of_all {s : Shape} {axes : List (Fin s.rank)} (x : FVec Ideal s .f32) (w : FVec Ideal s .f32)
    (hw : ∀ i, w i = (⊤ : EReal)) (init : IVec Cert.Pre_finite_gains.S_ 1) (h : s.ReducesTo axes Cert.Pre_finite_gains.S_)
    (hu : 0 < Cert.Pre_finite_gains.S_.numel) (z : Cert.Pre_finite_gains.S_.Idx)
    (e : Host.reduce IntOp.andi (cmpf .olt (Host.absf x) w) init h hu z = 1#1) (i : s.Idx) : IsNum (x i) := by
  haveI : Subsingleton Cert.Pre_finite_gains.S_.Idx := ⟨fun a b => funext fun k => k.elim0⟩
  have := Host.reduce_andi_all _ init h hu z e i
  replace this : Ideal.cmp .olt (max (x i : EReal) (-(x i : EReal))) (w i) = 1#1 := this
  rw [hw i] at this
  refine isNum_of_abs_lt ?_
  by_contra hn
  simp [Ideal.cmp, hn] at this

/-- The precondition says the gains and the sinks are numbers. -/
theorem finite [Cert.Pre_finite_gains.Facts] (x0 : QArr) (x1 x2 : KArr) (x3 x4 : GArr) (x5 : SArr)
    (h : Cert.Pre_finite_gains.fn (F := Ideal) x0 x1 x2 x3 x4 x5 = fun _ => 1#1) :
    (∀ i, IsNum (x3 i)) ∧ (∀ i, IsNum (x4 i)) ∧ ∀ i, IsNum (x5 i) := by
  have hz := congrFun h fun k => k.elim0
  unfold Cert.Pre_finite_gains.fn at hz
  obtain ⟨h34, h5⟩ := IntOp.andi_eq_one.mp hz
  obtain ⟨h3, h4⟩ := IntOp.andi_eq_one.mp h34
  exact ⟨isNum_of_all x3 _ (fun _ => ofBits_inf) _ _ _ _ h3, isNum_of_all x4 _ (fun _ => ofBits_inf) _ _ _ _ h4,
    isNum_of_all x5 _ (fun _ => ofBits_inf) _ _ _ _ h5⟩

/-- The array of the attention after the call, at finite gains and sinks. -/
theorem final_8' (c : Dev nD) (g3 : ∀ e, IsNum (aG m c (ix2 0 e))) (g4 : ∀ e, IsNum (aH m c (ix2 0 e)))
    (g5 : ∀ h, IsNum (aS m c (ix2 0 h))) : (dats m 0 c).arrAt 8 (cfgs 0).N
    = Cert.ReferenceIdeal.Read.val_main_v114 (F := Ideal) (aQ m c) (aK m c) (aV m c) (aG m c) (aH m c) (aS m c) := by
  refine (dats m 0 c).arrAt_eq_of_covers 8 _ (by decide +kernel) fun t hf y => ?_
  blk_simp; rw [after0_8]; unfold Gen.outsAt0
  dsimp only
  have ht : t.val < 256 := t.isLt
  refine tile8 (aQ m c) (aK m c) (aV m c) (aG m c) (aH m c) (aS m c) ⟨t.val / 16, by omega⟩ ⟨t.val % 16, by omega⟩ g3 g4 g5 c t rfl
    _ _ _ _ _ _ _ _ _ _ _ _ _ _ _ _ _ _ _ _ _ _ _ _ _ _ _ _ (sinks m c t) (queries m c t _ _ rfl rfl) (kcur m c t _ _ rfl rfl)
    (kprev m c t _ _ rfl rfl) (vcur m c t _ _ rfl rfl) (vprev m c t _ _ rfl rfl) (qgain m c t) (kgain m c t) _ _ ?_ ?_ ?_
  all_goals blk_simp [idx t] <;> try omega

/-- The same under the precondition. -/
theorem final_8 [Cert.Pre_finite_gains.Facts] (h : Pre_KernelIdeal_finite_gains m) (c : Dev nD) : (dats m 0 c).arrAt 8 (cfgs 0).N
    = Cert.ReferenceIdeal.Read.val_main_v114 (F := Ideal) (aQ m c) (aK m c) (aV m c) (aG m c) (aH m c) (aS m c) := by
  obtain ⟨g3, g4, g5⟩ := finite _ _ _ _ _ _ (h c)
  exact final_8' m c (fun e => g3 _) (fun e => g4 _) (fun h => g5 _)

/-- The array of the normalised keys after the call. -/
theorem final_9 (c : Dev nD) : (dats m 0 c).arrAt 9 (cfgs 0).N
    = Cert.ReferenceIdeal.Read.val_main_v115 (F := Ideal) (aK m c) (aH m c) := by
  refine (dats m 0 c).arrAt_eq_of_covers 9 _ (by decide +kernel) fun t hf y => ?_
  blk_simp; rw [after0_9]; unfold Gen.outsAt0
  dsimp only
  have ht : t.val < 256 := t.isLt
  refine tile9 (aK m c) (aH m c) ⟨t.val / 16, by omega⟩ ⟨t.val % 16, by omega⟩ c _
    _ _ _ _ _ _ _ _ _ _ _ _ _ _ _ _ _ _ _ _ _ _ _ _ _ _ _ _ (kcur m c t _ _ rfl rfl) (kgain m c t) _ _ ?_ ?_ ?_
  all_goals blk_simp [idx t] <;> try omega

end Cert.KernelIdeal.Value

end
-- ==== Proof.Proj.lean ====
/- The value of the input projection's call: each of its six result arrays is the reference's. -/
module

public import proofs.«01_k».proof.Proof.Gen.ProjIdeal.Frame
public import proofs.«01_k».proof.Proof.Gen.ProjRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ProjIdeal.Value

open Cert.ProjIdeal Cert.ProjIdeal.Gen

variable (m : (ℓ : Loc nD τ sig) → Buf (Elt Ideal) ℓ)

/-- The windows' blocks at grid point `t`. -/
theorem idx : ∀ t : Fin cfg0.N, win0_0.index t = ![t.val / 8, t.val % 8, 0]
    ∧ win0_1.index t = ![t.val / 8, 0, 0]
    ∧ win0_2.index t = ![t.val / 8, 0, 0]
    ∧ win0_3.index t = ![0, 0]
    ∧ win0_4.index t = ![0, 0]
    ∧ win0_5.index t = ![t.val / 8, t.val % 8, 0]
    ∧ win0_6.index t = ![t.val / 8, t.val % 8, 0]
    ∧ win0_7.index t = ![t.val / 8, t.val % 8, 0]
    ∧ win0_8.index t = ![t.val / 8, t.val % 8, 0]
    ∧ win0_9.index t = ![t.val / 8, t.val % 8, 0]
    ∧ win0_10.index t = ![t.val / 8, t.val % 8, 0] :=
  (by decide +kernel : ∀ t : Fin grid0.N, _)

/-- The modulated norm of a row of the block is the reference's. -/
theorem hidden (c : Dev nD) (t : Fin cfg0.N) (r : Fin 256) (k : Fin 1024)
    (b : Fin 16) (s : Fin 2048) (hb : b.val = t.val / 8) (hs : s.val = t.val % 8 * 256 + r.val) :
    k0_pay2 (F := Ideal) (iblk m c 0 t) (iblk m c 3 t) (iblk m c 1 t) (iblk m c 2 t) (ix2 r k)
      = Cert.ProjRefIdeal.Read.val_main_v19 (F := Ideal) (m ((c : Thread nD τ).loc main_arg0))
          (m ((c : Thread nD τ).loc main_arg1)) (m ((c : Thread nD τ).loc main_arg2))
          (m ((c : Thread nD τ).loc main_arg3)) (ix3 b s k) := by
  pointwise [k0_pay2, Cert.ProjRefIdeal.Read.val_main_v19, Cert.ProjRefIdeal.Read.val_main_v18, Cert.ProjRefIdeal.Read.val_main_v17,
    Cert.ProjRefIdeal.Read.val_main_v16, Cert.ProjRefIdeal.Read.val_main_v15, Cert.ProjRefIdeal.Read.val_main_v14,
    Cert.ProjRefIdeal.Read.val_main_cst_2, Cert.ProjRefIdeal.Read.val_main_v13, Cert.ProjRefIdeal.Read.val_main_v12,
    Cert.ProjRefIdeal.Read.val_main_v11, Cert.ProjRefIdeal.Read.val_main_v10, Cert.ProjRefIdeal.Read.val_main_v9,
    Cert.ProjRefIdeal.Read.val_main_v8, Cert.ProjRefIdeal.Read.val_main_v7, Cert.ProjRefIdeal.Read.val_main_v6,
    Cert.ProjRefIdeal.Read.val_main_cst_1, Cert.ProjRefIdeal.Read.val_main_v5, Cert.ProjRefIdeal.Read.val_main_v4,
    Cert.ProjRefIdeal.Read.val_main_cst_0, Cert.ProjRefIdeal.Read.val_main_v3, Cert.ProjRefIdeal.Read.val_main_v2,
    Cert.ProjRefIdeal.Read.val_main_cst, Cert.ProjRefIdeal.Read.val_main_v1, Cert.ProjRefIdeal.Read.val_main_v0]
  blk_point [iblk, V, idx t]

/-- The same, as the later tiles name the rows. -/
theorem hidden' (c : Dev nD) (t : Fin cfg0.N) (r : Fin 256) (k : Fin 1024)
    (b : Fin 16) (s : Fin 2048) (hb : b.val = t.val / 8) (hs : s.val = t.val % 8 * 256 + r.val) :
    k0_pay9 (F := Ideal) (iblk m c 0 t) (iblk m c 1 t) (iblk m c 2 t) (iblk m c 3 t) (iblk m c 4 t) (ix2 r k)
      = Cert.ProjRefIdeal.Read.val_main_v19 (F := Ideal) (m ((c : Thread nD τ).loc main_arg0))
          (m ((c : Thread nD τ).loc main_arg1)) (m ((c : Thread nD τ).loc main_arg2))
          (m ((c : Thread nD τ).loc main_arg3)) (ix3 b s k) := by
  rw [← hidden m c t r k b s hb hs]
  unfold k0_pay9
  frame_out

/-- The array of the q after the call. -/
theorem final_5 (c : Dev nD) : (dats m 0 c).arrAt 5 (cfgs 0).N
    = Cert.ProjRefIdeal.Read.val_main_v22 (F := Ideal) (m ((c : Thread nD τ).loc main_arg0))
          (m ((c : Thread nD τ).loc main_arg1)) (m ((c : Thread nD τ).loc main_arg2))
          (m ((c : Thread nD τ).loc main_arg3)) (m ((c : Thread nD τ).loc main_arg4)) := by
  refine (dats m 0 c).arrAt_eq_of_covers 5 _ (by decide +kernel) fun t hf y => ?_
  blk_simp; rw [after0_5]; frame_out
  pointwise [k0_pay3, Cert.ProjRefIdeal.Read.val_main_v22, Cert.ProjRefIdeal.Read.val_main_v21, Cert.ProjRefIdeal.Read.val_main_v20]
  refine Fin.sum_fin_congr fun k => Ideal.mul_congr (hidden m c t _ k _ _ ?_ ?_) ?_
  · blk_simp [idx t]
  · blk_simp [idx t]
  · blk_point [iblk, V, idx t]

/-- The array of the k after the call. -/
theorem final_6 (c : Dev nD) : (dats m 0 c).arrAt 6 (cfgs 0).N
    = Cert.ProjRefIdeal.Read.val_main_v23 (F := Ideal) (m ((c : Thread nD τ).loc main_arg0))
          (m ((c : Thread nD τ).loc main_arg1)) (m ((c : Thread nD τ).loc main_arg2))
          (m ((c : Thread nD τ).loc main_arg3)) (m ((c : Thread nD τ).loc main_arg4)) := by
  refine (dats m 0 c).arrAt_eq_of_covers 6 _ (by decide +kernel) fun t hf y => ?_
  blk_simp; rw [after0_6]; frame_out
  pointwise [k0_pay4, Cert.ProjRefIdeal.Read.val_main_v23, Cert.ProjRefIdeal.Read.val_main_v21, Cert.ProjRefIdeal.Read.val_main_v20]
  refine Fin.sum_fin_congr fun k => Ideal.mul_congr (hidden' m c t _ k _ _ ?_ ?_) ?_
  · blk_simp [idx t]
  · blk_simp [idx t]
  · blk_point [iblk, V, idx t]

/-- The array of the v after the call. -/
theorem final_7 (c : Dev nD) : (dats m 0 c).arrAt 7 (cfgs 0).N
    = Cert.ProjRefIdeal.Read.val_main_v24 (F := Ideal) (m ((c : Thread nD τ).loc main_arg0))
          (m ((c : Thread nD τ).loc main_arg1)) (m ((c : Thread nD τ).loc main_arg2))
          (m ((c : Thread nD τ).loc main_arg3)) (m ((c : Thread nD τ).loc main_arg4)) := by
  refine (dats m 0 c).arrAt_eq_of_covers 7 _ (by decide +kernel) fun t hf y => ?_
  blk_simp; rw [after0_7]; frame_out
  pointwise [k0_pay5, Cert.ProjRefIdeal.Read.val_main_v24, Cert.ProjRefIdeal.Read.val_main_v21, Cert.ProjRefIdeal.Read.val_main_v20]
  refine Fin.sum_fin_congr fun k => Ideal.mul_congr (hidden' m c t _ k _ _ ?_ ?_) ?_
  · blk_simp [idx t]
  · blk_simp [idx t]
  · blk_point [iblk, V, idx t]

/-- The array of the pooling input after the call. -/
theorem final_8 (c : Dev nD) : (dats m 0 c).arrAt 8 (cfgs 0).N
    = Cert.ProjRefIdeal.Read.val_main_v25 (F := Ideal) (m ((c : Thread nD τ).loc main_arg0))
          (m ((c : Thread nD τ).loc main_arg1)) (m ((c : Thread nD τ).loc main_arg2))
          (m ((c : Thread nD τ).loc main_arg3)) (m ((c : Thread nD τ).loc main_arg4)) := by
  refine (dats m 0 c).arrAt_eq_of_covers 8 _ (by decide +kernel) fun t hf y => ?_
  blk_simp; rw [after0_8]; frame_out
  pointwise [k0_pay6, Cert.ProjRefIdeal.Read.val_main_v25, Cert.ProjRefIdeal.Read.val_main_v21, Cert.ProjRefIdeal.Read.val_main_v20]
  refine Fin.sum_fin_congr fun k => Ideal.mul_congr (hidden' m c t _ k _ _ ?_ ?_) ?_
  · blk_simp [idx t]
  · blk_simp [idx t]
  · blk_point [iblk, V, idx t]

/-- The array of the first gate after the call. -/
theorem final_9 (c : Dev nD) : (dats m 0 c).arrAt 9 (cfgs 0).N
    = Cert.ProjRefIdeal.Read.val_main_v26 (F := Ideal) (m ((c : Thread nD τ).loc main_arg0))
          (m ((c : Thread nD τ).loc main_arg1)) (m ((c : Thread nD τ).loc main_arg2))
          (m ((c : Thread nD τ).loc main_arg3)) (m ((c : Thread nD τ).loc main_arg4)) := by
  refine (dats m 0 c).arrAt_eq_of_covers 9 _ (by decide +kernel) fun t hf y => ?_
  blk_simp; rw [after0_9]; frame_out
  pointwise [k0_pay7, Cert.ProjRefIdeal.Read.val_main_v26, Cert.ProjRefIdeal.Read.val_main_v21, Cert.ProjRefIdeal.Read.val_main_v20]
  refine Fin.sum_fin_congr fun k => Ideal.mul_congr (hidden' m c t _ k _ _ ?_ ?_) ?_
  · blk_simp [idx t]
  · blk_simp [idx t]
  · blk_point [iblk, V, idx t]

/-- The array of the second gate after the call. -/
theorem final_10 (c : Dev nD) : (dats m 0 c).arrAt 10 (cfgs 0).N
    = Cert.ProjRefIdeal.Read.val_main_v27 (F := Ideal) (m ((c : Thread nD τ).loc main_arg0))
          (m ((c : Thread nD τ).loc main_arg1)) (m ((c : Thread nD τ).loc main_arg2))
          (m ((c : Thread nD τ).loc main_arg3)) (m ((c : Thread nD τ).loc main_arg4)) := by
  refine (dats m 0 c).arrAt_eq_of_covers 10 _ (by decide +kernel) fun t hf y => ?_
  blk_simp; rw [after0_10]; frame_out
  pointwise [k0_pay1, k0_pay8, Cert.ProjRefIdeal.Read.val_main_v27, Cert.ProjRefIdeal.Read.val_main_v21, Cert.ProjRefIdeal.Read.val_main_v20]
  refine Fin.sum_fin_congr fun k => Ideal.mul_congr (hidden' m c t _ k _ _ ?_ ?_) ?_
  · blk_simp [idx t]
  · blk_simp [idx t]
  · blk_point [iblk, V, idx t]

end Cert.ProjIdeal.Value
-- ==== Proof.Mix.lean ====
/- The value of the mixing call: the residual stream and its modulated norm are the reference's. -/
module

public import proofs.«01_k».proof.Proof.Gen.MixIdeal.Frame
public import proofs.«01_k».proof.Proof.Gen.MixRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MixIdeal.Value

open Cert.MixIdeal Cert.MixIdeal.Gen

variable (m : (ℓ : Loc nD τ sig) → Buf (Elt Ideal) ℓ)

/-- The windows' blocks at grid point `t`. -/
theorem idx : ∀ t : Fin cfg0.N, win0_0.index t = ![t.val / 8, t.val % 8, 0]
    ∧ win0_1.index t = ![t.val / 8, t.val % 8, 0]
    ∧ win0_2.index t = ![t.val / 8, t.val % 8, 0]
    ∧ win0_3.index t = ![t.val / 8, t.val % 8, 0]
    ∧ win0_4.index t = ![t.val / 8, t.val % 8, 0]
    ∧ win0_5.index t = ![t.val / 8, 0, 0]
    ∧ win0_6.index t = ![t.val / 8, 0, 0]
    ∧ win0_7.index t = ![t.val / 8, 0, 0]
    ∧ win0_8.index t = ![0, 0]
    ∧ win0_9.index t = ![0, 0, 0]
    ∧ win0_10.index t = ![0, 0]
    ∧ win0_11.index t = ![0, 0]
    ∧ win0_12.index t = ![0, 0]
    ∧ win0_13.index t = ![0, 0]
    ∧ win0_14.index t = ![t.val / 8, t.val % 8, 0]
    ∧ win0_15.index t = ![t.val / 8, t.val % 8, 0] :=
  (by decide +kernel : ∀ t : Fin grid0.N, _)

set_option maxHeartbeats 1000000 in
/-- The group projections of a row, scaled per column, are the reference's. -/
theorem pooled (c : Dev nD) (t : Fin cfg0.N) (r : Fin 256) (j : Fin 512)
    (b : Fin 16) (s : Fin 2048) (hb : b.val = t.val / 8) (hs : s.val = t.val % 8 * 256 + r.val) :
    k0_pay8 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r j)
      = Cert.MixRefIdeal.Read.val_main_v9 (F := Ideal) (m ((c : Thread nD τ).loc main_arg2)) (m ((c : Thread nD τ).loc main_arg9)) (m ((c : Thread nD τ).loc main_arg10)) (ix3 b s j) := by
  unfold k0_pay8
  frame_out
  pointwise [k0_pay2, Cert.MixRefIdeal.Read.val_main_v9, Cert.MixRefIdeal.Read.val_main_v8, Cert.MixRefIdeal.Read.val_main_v7, Cert.MixRefIdeal.Read.val_main_v6, Cert.MixRefIdeal.Read.val_main_v5, Cert.MixRefIdeal.Read.val_main_v4, Cert.MixRefIdeal.Read.val_main_v3, Cert.MixRefIdeal.Read.val_main_v2, Cert.MixRefIdeal.Read.val_main_v1, Cert.MixRefIdeal.Read.val_main_v0]
  refine Ideal.mul_congr ?_ (by blk_point [iblk, V, idx t])
  by_cases h1 : j.val < 128
  · rw [dif_pos h1]
    refine Fin.sum_fin_congr fun x => ?_
    rw [mul_comm]
    blk_point [iblk, V, idx t]
  rw [dif_neg h1]
  by_cases h2 : j.val - 128 < 128
  · rw [dif_pos h2]
    refine Fin.sum_fin_congr fun x => ?_
    rw [mul_comm]
    blk_point [iblk, V, idx t]
  rw [dif_neg h2]
  by_cases h3 : j.val - 128 - 128 < 128
  · rw [dif_pos h3]
    refine Fin.sum_fin_congr fun x => ?_
    rw [mul_comm]
    blk_point [iblk, V, idx t]
  rw [dif_neg h3]
  refine Fin.sum_fin_congr fun x => ?_
  rw [mul_comm]
  blk_point [iblk, V, idx t]

set_option maxHeartbeats 1000000 in
/-- The residual stream of a row is the reference's. -/
theorem stream (c : Dev nD) (t : Fin cfg0.N) (r : Fin 256) (j : Fin 1024)
    (b : Fin 16) (s : Fin 2048) (hb : b.val = t.val / 8) (hs : s.val = t.val % 8 * 256 + r.val) :
    k0_pay4 (F := Ideal) (k0_pay8 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t))
      (k0_pay9 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t))
      (iblk m c 1 t) (iblk m c 11 t) (iblk m c 4 t) (iblk m c 12 t) (iblk m c 0 t) (iblk m c 5 t) (iblk m c 13 t) (ix2 r j)
      = Cert.MixRefIdeal.Read.val_main_v33 (F := Ideal) (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg9)) (m ((c : Thread nD τ).loc main_arg10))
          (m ((c : Thread nD τ).loc main_arg11)) (m ((c : Thread nD τ).loc main_arg12)) (m ((c : Thread nD τ).loc main_arg13)) (ix3 b s j) := by
  pointwise [k0_pay4, Cert.MixRefIdeal.Read.val_main_v33, Cert.MixRefIdeal.Read.val_main_v32, Cert.MixRefIdeal.Read.val_main_v31, Cert.MixRefIdeal.Read.val_main_v30, Cert.MixRefIdeal.Read.val_main_v29]
  refine Ideal.add_congr ?_ (Ideal.mul_congr ?_ ?_)
  · blk_point [iblk, V, idx t]
  · blk_point [iblk, V, idx t]
  refine Fin.sum_fin_congr fun k => Ideal.mul_congr ?_ ?_
  · pointwise [k0_pay9, k0_pay3, Cert.MixRefIdeal.Read.val_main_v28, Cert.MixRefIdeal.Read.val_main_v27, Cert.MixRefIdeal.Read.val_main_v26, Cert.MixRefIdeal.Read.val_main_v25, Cert.MixRefIdeal.Read.val_main_v24, Cert.MixRefIdeal.Read.val_main_v23, Cert.MixRefIdeal.Read.val_main_v22, Cert.MixRefIdeal.Read.val_main_v21, Cert.MixRefIdeal.Read.val_main_v20, Cert.MixRefIdeal.Read.val_main_v19, Cert.MixRefIdeal.Read.val_main_v18, Cert.MixRefIdeal.Read.val_main_v17, Cert.MixRefIdeal.Read.val_main_v16, Cert.MixRefIdeal.Read.val_main_v15, Cert.MixRefIdeal.Read.val_main_v14, Cert.MixRefIdeal.Read.val_main_v13, Cert.MixRefIdeal.Read.val_main_v12, Cert.MixRefIdeal.Read.val_main_v11, Cert.MixRefIdeal.Read.val_main_v10, Cert.MixRefIdeal.Read.val_main_cst, Cert.MixRefIdeal.Read.val_main_cst_0, Cert.MixRefIdeal.Read.val_main_cst_1, Cert.MixRefIdeal.Read.val_main_cst_2, Ideal.logistic]
    refine Ideal.add_congr (Ideal.mul_congr ?_ ?_) (Ideal.mul_congr ?_ ?_)
    · blk_point [iblk, V, idx t]
    · refine Fin.sum_fin_congr fun e => ?_
      blk_point [iblk, V, idx t]
    · blk_point [iblk, V, idx t]
    · refine Fin.sum_fin_congr fun e => Ideal.mul_congr (pooled m c t r e b s hb hs) ?_
      blk_point [iblk, V, idx t]
  · blk_point [iblk, V, idx t]

/-- The same at an index of the array. -/
theorem stream_at (c : Dev nD) (t : Fin cfg0.N) (r : Fin 256) (j : Fin 1024)
    (i : S16x2048x1024.Idx) (hb : (i 0).val = t.val / 8) (hs : (i 1).val = t.val % 8 * 256 + r.val)
    (hj : (i 2).val = j.val) :
    k0_pay4 (F := Ideal) (k0_pay8 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t))
      (k0_pay9 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t))
      (iblk m c 1 t) (iblk m c 11 t) (iblk m c 4 t) (iblk m c 12 t) (iblk m c 0 t) (iblk m c 5 t) (iblk m c 13 t) (ix2 r j)
      = Cert.MixRefIdeal.Read.val_main_v33 (F := Ideal) (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg9)) (m ((c : Thread nD τ).loc main_arg10))
          (m ((c : Thread nD τ).loc main_arg11)) (m ((c : Thread nD τ).loc main_arg12)) (m ((c : Thread nD τ).loc main_arg13)) i := by
  have e2 : i 2 = j := Fin.ext hj
  rw [stream m c t r j (i 0) (i 1) hb hs, ← e2, ix3_eta]

/-- The residual stream's array after the call. -/
theorem final_14 (c : Dev nD) : (dats m 0 c).arrAt 14 (cfgs 0).N
    = Cert.MixRefIdeal.Read.val_main_v33 (F := Ideal) (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg9)) (m ((c : Thread nD τ).loc main_arg10))
          (m ((c : Thread nD τ).loc main_arg11)) (m ((c : Thread nD τ).loc main_arg12)) (m ((c : Thread nD τ).loc main_arg13)) := by
  refine (dats m 0 c).arrAt_eq_of_covers 14 _ (by decide +kernel) fun t hf y => ?_
  blk_simp; rw [after0_14]; frame_out
  pointwise [k0_pay5]
  refine stream_at m c t _ _ _ ?_ ?_ ?_
  all_goals blk_simp [idx t]

/-- The modulated norm's array after the call. -/
theorem final_15 (c : Dev nD) : (dats m 0 c).arrAt 15 (cfgs 0).N
    = Cert.MixRefIdeal.Read.val_main_v53 (F := Ideal) (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11)) (m ((c : Thread nD τ).loc main_arg12)) (m ((c : Thread nD τ).loc main_arg13)) := by
  refine (dats m 0 c).arrAt_eq_of_covers 15 _ (by decide +kernel) fun t hf y => ?_
  blk_simp; rw [after0_15]; frame_out
  pointwise [k0_pay1, k0_pay6, k0_pay7, Cert.MixRefIdeal.Read.val_main_v53, Cert.MixRefIdeal.Read.val_main_v52, Cert.MixRefIdeal.Read.val_main_v51, Cert.MixRefIdeal.Read.val_main_v50, Cert.MixRefIdeal.Read.val_main_v49, Cert.MixRefIdeal.Read.val_main_v48, Cert.MixRefIdeal.Read.val_main_v47, Cert.MixRefIdeal.Read.val_main_v46, Cert.MixRefIdeal.Read.val_main_v45, Cert.MixRefIdeal.Read.val_main_v44, Cert.MixRefIdeal.Read.val_main_v43, Cert.MixRefIdeal.Read.val_main_v42, Cert.MixRefIdeal.Read.val_main_v41, Cert.MixRefIdeal.Read.val_main_v40, Cert.MixRefIdeal.Read.val_main_v39, Cert.MixRefIdeal.Read.val_main_v38, Cert.MixRefIdeal.Read.val_main_v37, Cert.MixRefIdeal.Read.val_main_v36, Cert.MixRefIdeal.Read.val_main_v35, Cert.MixRefIdeal.Read.val_main_v34, Cert.MixRefIdeal.Read.val_main_cst_3, Cert.MixRefIdeal.Read.val_main_cst_4, Cert.MixRefIdeal.Read.val_main_cst_5, Cert.MixRefIdeal.Read.val_main_cst_6]
  refine Ideal.add_congr (Ideal.mul_congr (Ideal.mul_congr (Ideal.mul_congr ?_
    (congrArg Ideal.rsqrt (Ideal.add_congr (congrArg (Ideal.div · _)
      (Fin.sum_fin_congr fun x => ?_)) rfl))) ?_) ?_) ?_
  · refine stream_at m c t _ _ _ ?_ ?_ ?_
    all_goals blk_simp [idx t]
  · refine Ideal.mul_congr ?_ ?_
    all_goals refine stream_at m c t _ _ _ ?_ ?_ ?_
    all_goals blk_simp [idx t]
  all_goals blk_point [iblk, V, idx t]

end Cert.MixIdeal.Value
-- ==== Proof.ProjS.lean ====
/- The value of the input projection of the sample batch: its rows, and the two windows those extend, are the reference's. -/
module

public import proofs.«01_k».proof.Proof.Gen.ProjSIdeal.Frame
public import proofs.«01_k».proof.Proof.Gen.ProjSRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ProjSIdeal.Value

open Cert.ProjSIdeal Cert.ProjSIdeal.Gen

variable (m : (ℓ : Loc nD τ sig) → Buf (Elt Ideal) ℓ)

/-- The windows' blocks at the call's one grid point. -/
theorem idx : ∀ t : Fin cfg0.N, win0_0.index t = ![0, 0, 0]
    ∧ win0_1.index t = ![0, 0, 0]
    ∧ win0_2.index t = ![0, 0, 0]
    ∧ win0_3.index t = ![0, 0]
    ∧ win0_4.index t = ![0, 0]
    ∧ win0_5.index t = ![0, 0, 0]
    ∧ win0_6.index t = ![0, 0, 0]
    ∧ win0_7.index t = ![0, 0, 0]
    ∧ win0_8.index t = ![0, 0, 0]
    ∧ win0_9.index t = ![0, 0, 0]
    ∧ win0_10.index t = ![0, 0, 0] :=
  (by decide +kernel : ∀ t : Fin grid0.N, _)

/-- What the call finds in a buffer: the operations before it, on the arguments. -/
theorem entry (c : Dev nD) (b : Ref sig .tc) :
    V m c b = StableHlo.after hostOps0 (fun b => m (c, b)) (Proc.devRef .tc b) := rfl

/-- The rows as the call takes them. -/
theorem in_x0 (c : Dev nD) (r : Fin 128) (k : Fin 1024) :
    V m c main_v0 (ix3 (0 : Fin 1) r k) = m ((c : Thread nD τ).loc main_arg0) (ix3 r (0 : Fin 1) k) := by
  rw [entry]
  entry_read
  pointwise

/-- The scales as the call takes them. -/
theorem in_x1 (c : Dev nD) (r : Fin 128) (k : Fin 1024) :
    V m c main_v1 (ix3 (0 : Fin 1) r k) = m ((c : Thread nD τ).loc main_arg1) (ix3 r (0 : Fin 1) k) := by
  rw [entry]
  entry_read
  pointwise

/-- The shifts as the call takes them. -/
theorem in_x2 (c : Dev nD) (r : Fin 128) (k : Fin 1024) :
    V m c main_v2 (ix3 (0 : Fin 1) r k) = m ((c : Thread nD τ).loc main_arg2) (ix3 r (0 : Fin 1) k) := by
  rw [entry]
  entry_read
  pointwise

/-- The gain as the call takes them. -/
theorem in_x3 (c : Dev nD) (k : Fin 1024) :
    V m c main_v6 (ix2 (0 : Fin 1) k) = m ((c : Thread nD τ).loc main_arg3) (ix2 (0 : Fin 1) k) := by
  rw [entry]
  entry_read
  pointwise

/-- The weight as the call takes them. -/
theorem in_x4 (c : Dev nD) (k : Fin 1024) (j : Fin 3328) :
    V m c main_v5 (ix2 k j) = m ((c : Thread nD τ).loc main_arg4) (ix3 (0 : Fin 1) k j) := by
  rw [entry]
  entry_read
  pointwise

/-- The block of window 0 is the argument's. -/
theorem blk_0 (c : Dev nD) (t : Fin cfg0.N) (r : Fin 128) (k : Fin 1024) :
    iblk m c 0 t (ix3 (0 : Fin 1) r k) = m ((c : Thread nD τ).loc main_arg0) (ix3 r (0 : Fin 1) k) :=
  (congrArg (V m c main_v0) (by blk_ext [idx t])).trans (in_x0 m c r k)

/-- The block of window 1 is the argument's. -/
theorem blk_1 (c : Dev nD) (t : Fin cfg0.N) (r : Fin 128) (k : Fin 1024) :
    iblk m c 1 t (ix3 (0 : Fin 1) r k) = m ((c : Thread nD τ).loc main_arg1) (ix3 r (0 : Fin 1) k) :=
  (congrArg (V m c main_v1) (by blk_ext [idx t])).trans (in_x1 m c r k)

/-- The block of window 2 is the argument's. -/
theorem blk_2 (c : Dev nD) (t : Fin cfg0.N) (r : Fin 128) (k : Fin 1024) :
    iblk m c 2 t (ix3 (0 : Fin 1) r k) = m ((c : Thread nD τ).loc main_arg2) (ix3 r (0 : Fin 1) k) :=
  (congrArg (V m c main_v2) (by blk_ext [idx t])).trans (in_x2 m c r k)

/-- The block of window 3 is the argument's. -/
theorem blk_3 (c : Dev nD) (t : Fin cfg0.N) (k : Fin 1024) :
    iblk m c 3 t (ix2 (0 : Fin 1) k) = m ((c : Thread nD τ).loc main_arg3) (ix2 (0 : Fin 1) k) :=
  (congrArg (V m c main_v6) (by blk_ext [idx t])).trans (in_x3 m c k)

/-- The block of window 4 is the argument's. -/
theorem blk_4 (c : Dev nD) (t : Fin cfg0.N) (k : Fin 1024) (j : Fin 3328) :
    iblk m c 4 t (ix2 k j) = m ((c : Thread nD τ).loc main_arg4) (ix3 (0 : Fin 1) k j) :=
  (congrArg (V m c main_v5) (by blk_ext [idx t])).trans (in_x4 m c k j)

/-- The modulated norm of a row is the reference's. -/
theorem hidden (c : Dev nD) (t : Fin cfg0.N) (r : Fin 128) (k : Fin 1024) :
    k0_pay1 (F := Ideal) (iblk m c 0 t) (iblk m c 3 t) (iblk m c 1 t) (iblk m c 2 t) (ix2 r k)
      = Cert.ProjSRefIdeal.Read.val_main_v17 (F := Ideal) (m ((c : Thread nD τ).loc main_arg0)) (m ((c : Thread nD τ).loc main_arg1)) (m ((c : Thread nD τ).loc main_arg2)) (m ((c : Thread nD τ).loc main_arg3)) (ix3 r (0 : Fin 1) k) := by
  pointwise [k0_pay1, Cert.ProjSRefIdeal.Read.val_main_v17, Cert.ProjSRefIdeal.Read.val_main_v16, Cert.ProjSRefIdeal.Read.val_main_v15, Cert.ProjSRefIdeal.Read.val_main_v14, Cert.ProjSRefIdeal.Read.val_main_cst_2, Cert.ProjSRefIdeal.Read.val_main_v13, Cert.ProjSRefIdeal.Read.val_main_v12, Cert.ProjSRefIdeal.Read.val_main_v11, Cert.ProjSRefIdeal.Read.val_main_v10, Cert.ProjSRefIdeal.Read.val_main_v9, Cert.ProjSRefIdeal.Read.val_main_v8, Cert.ProjSRefIdeal.Read.val_main_v7, Cert.ProjSRefIdeal.Read.val_main_v6, Cert.ProjSRefIdeal.Read.val_main_cst_1, Cert.ProjSRefIdeal.Read.val_main_v5, Cert.ProjSRefIdeal.Read.val_main_v4, Cert.ProjSRefIdeal.Read.val_main_cst_0, Cert.ProjSRefIdeal.Read.val_main_v3, Cert.ProjSRefIdeal.Read.val_main_v2, Cert.ProjSRefIdeal.Read.val_main_cst, Cert.ProjSRefIdeal.Read.val_main_v1, Cert.ProjSRefIdeal.Read.val_main_v0]
  simp only [blk_0 m c t, blk_1 m c t, blk_2 m c t, blk_3 m c t]

/-- The same, as the later tiles name the rows. -/
theorem hidden' (c : Dev nD) (t : Fin cfg0.N) (r : Fin 128) (k : Fin 1024) :
    k0_pay9 (F := Ideal) (iblk m c 0 t) (iblk m c 1 t) (iblk m c 2 t) (iblk m c 3 t) (iblk m c 4 t) (ix2 r k)
      = Cert.ProjSRefIdeal.Read.val_main_v17 (F := Ideal) (m ((c : Thread nD τ).loc main_arg0)) (m ((c : Thread nD τ).loc main_arg1)) (m ((c : Thread nD τ).loc main_arg2)) (m ((c : Thread nD τ).loc main_arg3)) (ix3 r (0 : Fin 1) k) := by
  rw [← hidden m c t r k]
  unfold k0_pay9
  frame_out

/-- The array of the q after the call. -/
theorem final_5 (c : Dev nD) : (dats m 0 c).arrAt 5 (cfgs 0).N = Cert.ProjSRefIdeal.Read.val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp; rw [after0_5]; frame_out
  pointwise [k0_pay2, Cert.ProjSRefIdeal.Read.val_main_v31, Cert.ProjSRefIdeal.Read.val_main_v20, Cert.ProjSRefIdeal.Read.val_main_v19, Cert.ProjSRefIdeal.Read.val_main_v18]
  refine Fin.sum_fin_congr fun k => Ideal.mul_congr ?_ ?_
  · refine (hidden m c t _ k).trans (congrArg _ ?_)
    blk_ext [idx t]
  · refine (blk_4 m c t _ _).trans (congrArg _ ?_)
    blk_ext [idx t]

/-- The array of the k after the call. -/
theorem final_6 (c : Dev nD) : (dats m 0 c).arrAt 6 (cfgs 0).N = Cert.ProjSRefIdeal.Read.val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp; rw [after0_6]; frame_out
  pointwise [k0_pay3, k0_pay4, Cert.ProjSRefIdeal.Read.val_main_v32, Cert.ProjSRefIdeal.Read.val_main_v21, Cert.ProjSRefIdeal.Read.val_main_v19, Cert.ProjSRefIdeal.Read.val_main_v18]
  refine Fin.sum_fin_congr fun k => Ideal.mul_congr ?_ ?_
  · refine (hidden' m c t _ k).trans (congrArg _ ?_)
    blk_ext [idx t]
  · refine (blk_4 m c t _ _).trans (congrArg _ ?_)
    blk_ext [idx t]

/-- The array of the first gate after the call. -/
theorem final_9 (c : Dev nD) : (dats m 0 c).arrAt 9 (cfgs 0).N = Cert.ProjSRefIdeal.Read.val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 9 _ (by decide +kernel) fun t hf y => ?_
  blk_simp; rw [after0_9]; frame_out
  pointwise [k0_pay7, Cert.ProjSRefIdeal.Read.val_main_v33, Cert.ProjSRefIdeal.Read.val_main_v24, Cert.ProjSRefIdeal.Read.val_main_v19, Cert.ProjSRefIdeal.Read.val_main_v18]
  refine Fin.sum_fin_congr fun k => Ideal.mul_congr ?_ ?_
  · refine (hidden' m c t _ k).trans (congrArg _ ?_)
    blk_ext [idx t]
  · refine (blk_4 m c t _ _).trans (congrArg _ ?_)
    blk_ext [idx t]

/-- The array of the second gate after the call. -/
theorem final_10 (c : Dev nD) : (dats m 0 c).arrAt 10 (cfgs 0).N = Cert.ProjSRefIdeal.Read.val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 10 _ (by decide +kernel) fun t hf y => ?_
  blk_simp; rw [after0_10]; frame_out
  pointwise [k0_pay8, Cert.ProjSRefIdeal.Read.val_main_v34, Cert.ProjSRefIdeal.Read.val_main_v25, Cert.ProjSRefIdeal.Read.val_main_v19, Cert.ProjSRefIdeal.Read.val_main_v18]
  refine Fin.sum_fin_congr fun k => Ideal.mul_congr ?_ ?_
  · refine (hidden' m c t _ k).trans (congrArg _ ?_)
    blk_ext [idx t]
  · refine (blk_4 m c t _ _).trans (congrArg _ ?_)
    blk_ext [idx t]

/-- The array of the v after the call: row `r` is token `r`'s. -/
theorem final_7 (c : Dev nD) : (dats m 0 c).arrAt 7 (cfgs 0).N
    = fun i : S1x128x128.Idx => Cert.ProjSRefIdeal.Read.val_main_v22 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix3 (i 1) (0 : Fin 1) (i 2)) := by
  refine (dats m 0 c).arrAt_eq_of_covers 7 _ (by decide +kernel) fun t hf y => ?_
  blk_simp; rw [after0_7]; frame_out
  pointwise [k0_pay5, Cert.ProjSRefIdeal.Read.val_main_v22, Cert.ProjSRefIdeal.Read.val_main_v19, Cert.ProjSRefIdeal.Read.val_main_v18]
  refine Fin.sum_fin_congr fun k => Ideal.mul_congr ?_ ?_
  · refine (hidden' m c t _ k).trans (congrArg _ ?_)
    blk_ext [idx t]
  · refine (blk_4 m c t _ _).trans (congrArg _ ?_)
    blk_ext [idx t]

/-- The array of the pooling input after the call: row `r` is token `r`'s. -/
theorem final_8 (c : Dev nD) : (dats m 0 c).arrAt 8 (cfgs 0).N
    = fun i : S1x128x512.Idx => Cert.ProjSRefIdeal.Read.val_main_v23 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix3 (i 1) (0 : Fin 1) (i 2)) := by
  refine (dats m 0 c).arrAt_eq_of_covers 8 _ (by decide +kernel) fun t hf y => ?_
  blk_simp; rw [after0_8]; frame_out
  pointwise [k0_pay6, Cert.ProjSRefIdeal.Read.val_main_v23, Cert.ProjSRefIdeal.Read.val_main_v19, Cert.ProjSRefIdeal.Read.val_main_v18]
  refine Fin.sum_fin_congr fun k => Ideal.mul_congr ?_ ?_
  · refine (hidden' m c t _ k).trans (congrArg _ ?_)
    blk_ext [idx t]
  · refine (blk_4 m c t _ _).trans (congrArg _ ?_)
    blk_ext [idx t]

/-- The arrays of the call are distinct. -/
theorem arr_inj : Function.Injective (Pipeline.arrRef spec0) := by decide

/-- What the operations behind the call leave in the value window. -/
theorem tail_16 (c : Dev nD) :
    Pipeline.afterTail₀ cfgs (dats m) 0 (V0 m) [hostOps1] c main_v16
      = Cert.ProjSRefIdeal.Read.val_main_v36 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have ea := Pipeline.withArrays_of_ne spec0 c (V0 m c) (fun w => (dats m 0 c).arrAt w (cfgs 0).N) main_arg5
    (by decide)
  have er := Pipeline.withArrays_arr spec0 arr_inj c (V0 m c) (fun w => (dats m 0 c).arrAt w (cfgs 0).N) 7
  unfold Pipeline.afterTail₀
  show StableHlo.after hostOps1 _ (Proc.devRef .tc main_v16) = _
  entry_read
  change Pipeline.withArrays (cfgs 0).spec c (V0 m c) (fun w => (dats m 0 c).arrAt w (cfgs 0).N) (Proc.tc.devRef main_v7_2) = _ at er
  change Pipeline.withArrays (cfgs 0).spec c (V0 m c) (fun w => (dats m 0 c).arrAt w (cfgs 0).N) (Proc.tc.devRef main_arg5) = _ at ea
  rw [er, ea, final_7, show V0 m c (Proc.tc.devRef main_arg5) = _ from V_main_arg5 m c]
  funext i
  pointwise [Cert.ProjSRefIdeal.Read.val_main_v36, Cert.ProjSRefIdeal.Read.val_main_v35, Cert.ProjSRefIdeal.Read.val_main_v28, Cert.ProjSRefIdeal.Read.val_main_v27, Cert.ProjSRefIdeal.Read.val_main_v26]

/-- What the operations behind the call leave in the pooling history. -/
theorem tail_17 (c : Dev nD) :
    Pipeline.afterTail₀ cfgs (dats m) 0 (V0 m) [hostOps1] c main_v17
      = Cert.ProjSRefIdeal.Read.val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) := by
  have ea := Pipeline.withArrays_of_ne spec0 c (V0 m c) (fun w => (dats m 0 c).arrAt w (cfgs 0).N) main_arg6
    (by decide)
  have er := Pipeline.withArrays_arr spec0 arr_inj c (V0 m c) (fun w => (dats m 0 c).arrAt w (cfgs 0).N) 8
  unfold Pipeline.afterTail₀
  show StableHlo.after hostOps1 _ (Proc.devRef .tc main_v17) = _
  entry_read
  change Pipeline.withArrays (cfgs 0).spec c (V0 m c) (fun w => (dats m 0 c).arrAt w (cfgs 0).N) (Proc.tc.devRef main_v7_3) = _ at er
  change Pipeline.withArrays (cfgs 0).spec c (V0 m c) (fun w => (dats m 0 c).arrAt w (cfgs 0).N) (Proc.tc.devRef main_arg6) = _ at ea
  rw [er, ea, final_8, show V0 m c (Proc.tc.devRef main_arg6) = _ from V_main_arg6 m c]
  funext i
  pointwise [Cert.ProjSRefIdeal.Read.val_main_v38, Cert.ProjSRefIdeal.Read.val_main_v37, Cert.ProjSRefIdeal.Read.val_main_v30, Cert.ProjSRefIdeal.Read.val_main_v29]
  have hi : (i 2).val < 15 := (i 2).isLt
  by_cases h : 1 + (i 2).val < 15
  · rw [dif_pos h, dif_pos h]
  · rw [dif_neg h, dif_neg h]
    refine congrArg _ (congrArg (fun j => ix3 (i 1) j (i 3)) (Fin.ext ?_))
    show 0 = 1 + (i 2).val - 15
    omega

end Cert.ProjSIdeal.Value
-- ==== Proof.AttnSRef.lean ====
/- The sample batch's attention in its reference at an index: one token over the cached keys, its own and a sink. -/
module

public import proofs.«01_k».proof.Proof.Gen.AttnSRefIdeal.Read
public import proofs.«01_k».proof.Proof.AttnMath
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.AttnS

open Cert.Attn (rms slope_pow ofBits_neg_inf)
open Cert.AttnSRefIdeal Cert.AttnSRefIdeal.Gen Cert.AttnSRefIdeal.Read

/-- A row of numbers with one more behind it. -/
def extend {n : Nat} (s : Fin n → EReal) (a : EReal) (k : Fin (n + 1)) : EReal := if h : k.val < n then s ⟨k.val, h⟩ else a

theorem extend_castSucc {n : Nat} (s : Fin n → EReal) (a : EReal) (x : Fin n) : extend s a x.castSucc = s x := by
  unfold extend; rw [dif_pos (show x.castSucc.val < n from x.isLt)]; rfl
theorem extend_last {n : Nat} (s : Fin n → EReal) (a : EReal) : extend s a (Fin.last n) = a := by
  unfold extend; rw [dif_neg (by simp)]

/-- The largest of the row and the number behind it. -/
theorem fold_extend {n : Nat} (s : Fin n → EReal) (a : EReal) :
    Finset.univ.fold max ⊥ (extend s a) = max (Finset.univ.fold max ⊥ s) a := by
  apply le_antisymm
  · rw [Finset.fold_max_le]
    refine ⟨bot_le, fun k _ => ?_⟩
    refine Fin.lastCases ?_ (fun x => ?_) k
    · rw [extend_last]; exact le_max_right _ _
    · rw [extend_castSucc]
      exact le_max_of_le_left ((Finset.le_fold_max _).mpr (.inr ⟨x, Finset.mem_univ x, le_rfl⟩))
  · refine max_le ?_ ?_
    · rw [Finset.fold_max_le]
      refine ⟨bot_le, fun x _ => (Finset.le_fold_max _).mpr (.inr ⟨x.castSucc, Finset.mem_univ _, ?_⟩)⟩
      rw [extend_castSucc]
    · refine (Finset.le_fold_max _).mpr (.inr ⟨Fin.last n, Finset.mem_univ _, ?_⟩)
      rw [extend_last]

/-- A sum over the row and the number behind it. -/
theorem sum_extend {n : Nat} (s : Fin n → EReal) (a : EReal) (f : EReal → EReal) :
    ∑ k, f (extend s a k) = (∑ x, f (s x)) + f a := by
  rw [Fin.sum_univ_castSucc, extend_last]
  congr 1
  exact Finset.sum_congr rfl fun x _ => by rw [extend_castSucc]

/-- The largest of the cached scores, the token's own and the sink. -/
def top (s : Fin 128 → EReal) (n σ : EReal) : EReal := max (max (Finset.univ.fold max ⊥ s) n) σ

/-- The softmax's denominator. -/
def mass (s : Fin 128 → EReal) (n σ : EReal) : EReal :=
  (∑ x, Ideal.exp (s x - top s n σ)) + Ideal.exp (n - top s n σ) + Ideal.exp (σ - top s n σ)

/-- The weighted mean of the cached values and the token's own, the sink taking its share of the weight. -/
def attend (s : Fin 128 → EReal) (n σ : EReal) (v : Fin 128 → EReal) (w : EReal) : EReal :=
  (∑ x, Ideal.div (Ideal.exp (s x - top s n σ)) (mass s n σ) * v x) + Ideal.div (Ideal.exp (n - top s n σ)) (mass s n σ) * w

/-- The queries. -/
abbrev QArr := (⟨S128x1x512, .f32⟩ : BufTy).Contents (Elt Ideal)
/-- The keys or values. -/
abbrev KArr := (⟨S128x1x128, .f32⟩ : BufTy).Contents (Elt Ideal)
/-- The cached keys or values. -/
abbrev CArr := (⟨S1x128x128x2x64, .f32⟩ : BufTy).Contents (Elt Ideal)
/-- The gains. -/
abbrev GArr := (⟨S1x64, .f32⟩ : BufTy).Contents (Elt Ideal)
/-- The sinks. -/
abbrev SArr := (⟨S1x8, .f32⟩ : BufTy).Contents (Elt Ideal)

/-- An entry of a query, normalised. -/
def qn (x0 : QArr) (x5 : GArr) (i : Fin 128) (h : Fin 8) (d : Fin 64) : EReal :=
  x0 (ix3 i 0 ⟨h.val * 64 + d.val, by omega⟩) * rms (fun e => x0 (ix3 i 0 ⟨h.val * 64 + e.val, by omega⟩)) * x5 (ix2 0 d)

/-- An entry of a key, normalised. -/
def kn (x1 : KArr) (x6 : GArr) (i : Fin 128) (kv : Fin 2) (d : Fin 64) : EReal :=
  x1 (ix3 i 0 ⟨kv.val * 64 + d.val, by omega⟩) * rms (fun e => x1 (ix3 i 0 ⟨kv.val * 64 + e.val, by omega⟩)) * x6 (ix2 0 d)

/-- An entry of a value. -/
def vn (x2 : KArr) (i : Fin 128) (kv : Fin 2) (d : Fin 64) : EReal := x2 (ix3 i 0 ⟨kv.val * 64 + d.val, by omega⟩)

/-- How far back cached entry `x` lies. -/
def dist (x : Fin 128) : BitVec 32 := IntOp.subi 128#32 (BitVec.ofNat 32 x.val)

/-- The score of head `h` against cached key `x`. -/
def scoreC (q : Fin 64 → EReal) (h : Nat) (k : Fin 128 → Fin 64 → EReal) (x : Fin 128) : EReal :=
  (∑ d, q d * k x d) * Ideal.ofBits .f32 0x3E000000#32 - Attn.slope h * FloatOps.sitofp (F := Ideal) .f32 (dist x)

/-- The score of a head against the token's own key. -/
def scoreN (q k : Fin 64 → EReal) : EReal := (∑ d, q d * k d) * Ideal.ofBits .f32 0x3E000000#32

theorem qn_val (x0 : QArr) (x5 : GArr) (i : Fin 128) (h : Fin 8) (d : Fin 64) :
    val_main_v14 (F := Ideal) x0 x5 (ix4 i 0 h d) = qn x0 x5 i h d := by
  pointwise [val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]
  rfl

theorem kn_val (x1 : KArr) (x6 : GArr) (i : Fin 128) (kv : Fin 2) (d : Fin 64) :
    val_main_v29 (F := Ideal) x1 x6 (ix4 i 0 kv d) = kn x1 x6 i kv d := by
  pointwise [val_main_v29, val_main_v28, val_main_v27, val_main_v26, val_main_v25, val_main_v24, val_main_v23, val_main_v22, val_main_v21,
    val_main_v20, val_main_v19, val_main_v18, val_main_v17, val_main_v16, val_main_v15, val_main_cst_2, val_main_cst_3, val_main_cst_4]
  rfl

theorem keys_val (x1 : KArr) (x3 : CArr) (x6 : GArr) (i : Fin 128) (k : Fin 129) (kv : Fin 2) (d : Fin 64) :
    val_main_v32 (F := Ideal) x1 x3 x6 (ix4 i k kv d) = extend (fun x => x3 (ix5 0 i x kv d)) (kn x1 x6 i kv d) k := by
  pointwise [val_main_v32, val_main_v31]
  unfold extend
  by_cases h : k.val < 128
  · rw [dif_pos h, dif_pos h]
  · rw [dif_neg h, dif_neg h, ← kn_val]
    exact congrArg (fun z => val_main_v29 (F := Ideal) x1 x6 (ix4 i z kv d)) (Fin.ext (by show k.val - 128 = 0; omega))

theorem vals_val (x2 : KArr) (x4 : CArr) (i : Fin 128) (k : Fin 129) (kv : Fin 2) (d : Fin 64) :
    val_main_v34 (F := Ideal) x2 x4 (ix4 i k kv d) = extend (fun x => x4 (ix5 0 i x kv d)) (vn x2 i kv d) k := by
  pointwise [val_main_v34, val_main_v33, val_main_v30]
  rfl

theorem dots_val (x0 : QArr) (x1 : KArr) (x3 : CArr) (x5 x6 : GArr) (i : Fin 128) (kv : Fin 2) (g : Fin 4) (k : Fin 129) :
    val_main_v62 (F := Ideal) x0 x1 x3 x5 x6 (ix5 i kv g 0 k)
      = (∑ d, extend (fun x => x3 (ix5 0 i x kv d)) (kn x1 x6 i kv d) k
          * qn x0 x5 i ⟨kv.val * 4 + g.val, by omega⟩ d) * Ideal.ofBits .f32 0x3E000000#32 := by
  pointwise [val_main_v62, val_main_v61, val_main_v60, val_main_v59, val_main_cst_11, val_main_v58]
  simp only [keys_val, qn_val]

/-- The distance as the reference counts it. -/
theorem dist_word : ∀ k : Fin 129, IntOp.subi (BitVec.ofNat 32 0) (IntOp.subi (BitVec.ofNat 32 k.val) 128#32)
    = IntOp.subi 128#32 (BitVec.ofNat 32 k.val) := by decide +kernel

/-- Every entry is in the window. -/
theorem seen_word : ∀ k : Fin 129, IntOp.andi (IntOp.cmpi .sge (IntOp.subi 128#32 (BitVec.ofNat 32 k.val)) 0#32)
    (IntOp.cmpi .sle (IntOp.subi 128#32 (BitVec.ofNat 32 k.val)) 128#32) = 1#1 := by decide +kernel

theorem dist_val (k : Fin 129) : val_main_v42 (F := Ideal) (ix2 0 k) = IntOp.subi 128#32 (BitVec.ofNat 32 k.val) := by
  pointwise [val_main_v42, val_main_v41, val_main_v40, val_main_v39, val_main_v38, val_main_v37, val_main_c, val_main_v36, val_main_v35]
  exact dist_word k

theorem seen_val (i : Fin 128) (kv : Fin 2) (g : Fin 4) (k : Fin 129) : val_main_call0_v1 (F := Ideal) (ix5 i kv g 0 k) = 1#1 := by
  pointwise [val_main_call0_v1, val_main_v71, val_main_v47, val_main_v46, val_main_v45, val_main_c_6, val_main_v44, val_main_v43, val_main_c_5]
  simp only [dist_val]
  exact seen_word k

theorem bias_val (i : Fin 128) (kv : Fin 2) (g : Fin 4) (k : Fin 129) :
    val_main_v69 (F := Ideal) (ix5 i kv g 0 k)
      = Attn.slope (kv.val * 4 + g.val) * FloatOps.sitofp (F := Ideal) .f32 (IntOp.subi 128#32 (BitVec.ofNat 32 k.val)) := by
  pointwise [val_main_v69, val_main_v68, val_main_v67, val_main_v66, val_main_v65, val_main_v64, val_main_v63, val_main_v57, val_main_v56,
    val_main_v55, val_main_v54, val_main_v53, val_main_v52, val_main_v51, val_main_v50, val_main_v49, val_main_v48,
    val_main_cst_7, val_main_cst_8, val_main_cst_9, val_main_cst_10]
  simp only [dist_val]
  rw [← slope_pow ⟨kv.val * 4 + g.val, by omega⟩]
  rfl

/-- The scores of head `4 kv + g`: the cached ones, then the token's own. -/
theorem scores_val (x0 : QArr) (x1 : KArr) (x3 : CArr) (x5 x6 : GArr) (i : Fin 128) (kv : Fin 2) (g : Fin 4) (k : Fin 129) :
    val_main_v72 (F := Ideal) x0 x1 x3 x5 x6 (ix5 i kv g 0 k)
      = extend (scoreC (qn x0 x5 i ⟨kv.val * 4 + g.val, by omega⟩) (kv.val * 4 + g.val) (fun x d => x3 (ix5 0 i x kv d)))
          (scoreN (qn x0 x5 i ⟨kv.val * 4 + g.val, by omega⟩) (kn x1 x6 i kv)) k := by
  rw [val_main_v72_apply, seen_val, val_main_v70_apply, dots_val, bias_val]
  show (_ : EReal) - _ = _
  refine Fin.lastCases ?_ (fun x => ?_) k
  · simp only [extend_last]
    rw [show IntOp.subi 128#32 (BitVec.ofNat 32 (Fin.last 128).val) = 0#32 from by decide,
      show FloatOps.sitofp (F := Ideal) .f32 0#32 = (0 : EReal) from by simp [FloatOps.sitofp], mul_zero, sub_zero]
    unfold scoreN
    congr 1
    exact Finset.sum_congr rfl fun d _ => mul_comm _ _
  · simp only [extend_castSucc]
    unfold scoreC
    congr 2
    exact Finset.sum_congr rfl fun d _ => mul_comm _ _

section
variable (x0 : QArr) (x1 x2 : KArr) (x3 x4 : CArr) (x5 x6 : GArr) (x7 : SArr) (i : Fin 128) (kv : Fin 2) (g : Fin 4)

/-- The cached scores. -/
abbrev sC : Fin 128 → EReal := scoreC (qn x0 x5 i ⟨kv.val * 4 + g.val, by omega⟩) (kv.val * 4 + g.val) (fun x d => x3 (ix5 0 i x kv d))
/-- The token's own score. -/
abbrev sN : EReal := scoreN (qn x0 x5 i ⟨kv.val * 4 + g.val, by omega⟩) (kn x1 x6 i kv)
/-- The sink. -/
abbrev sK : EReal := x7 (ix2 0 ⟨kv.val * 4 + g.val, by omega⟩)

theorem sunk_val (k : Fin 130) :
    val_main_v76 (F := Ideal) x0 x1 x3 x5 x6 x7 (ix5 i kv g 0 k)
      = extend (extend (sC x0 x3 x5 i kv g) (sN x0 x1 x5 x6 i kv g)) (sK x7 kv g) k := by
  pointwise [val_main_v76, val_main_v75, val_main_v74, val_main_v73]
  simp only [scores_val]
  rfl

theorem top_val : val_main_v79 (F := Ideal) x0 x1 x3 x5 x6 x7 (ix4 i kv g 0)
    = top (sC x0 x3 x5 i kv g) (sN x0 x1 x5 x6 i kv g) (sK x7 kv g) := by
  have hR : S128x2x4x1x130.Reduces [4] S128x2x4x1 := by decide
  have hl : ∀ k : Fin 130, hR.lift (ix4 i kv g 0) k = ix5 i kv g 0 k := by
    intro k
    funext a
    fin_cases a <;> rfl
  rw [val_main_v79_apply, val_main_v78_apply, val_main_cst_14_apply]
  have hf : val_main_v77 (F := Ideal) x0 x1 x3 x5 x6 x7 (ix4 i kv g 0)
      = (Finset.univ : Finset (Fin 130)).fold max ⊥
          (extend (extend (sC x0 x3 x5 i kv g) (sN x0 x1 x5 x6 i kv g)) (sK x7 kv g)) := by
    unfold val_main_v77
    rw [Host.reduce_eq_fold_single _ _ _ _ hR, val_main_cst_13_apply]
    have e : val_main_v76 (F := Ideal) x0 x1 x3 x5 x6 x7 ∘ hR.lift (ix4 i kv g 0)
        = extend (extend (sC x0 x3 x5 i kv g) (sN x0 x1 x5 x6 i kv g)) (sK x7 kv g) := by
      funext k
      show val_main_v76 (F := Ideal) x0 x1 x3 x5 x6 x7 (hR.lift (ix4 i kv g 0) k) = _
      exact (congrArg (val_main_v76 (F := Ideal) x0 x1 x3 x5 x6 x7) (hl k)).trans (sunk_val x0 x1 x3 x5 x6 x7 i kv g k)
    rw [e]
    show Finset.fold max (Ideal.ofBits .f32 0xFF800000#32) _ _ = _
    rw [ofBits_neg_inf]
    rfl
  rw [hf, fold_extend, fold_extend]
  show max (Ideal.ofBits .f32 0xFF800000#32) _ = _
  rw [ofBits_neg_inf, max_eq_right bot_le]
  rfl

theorem exps_val (k : Fin 130) : val_main_v83 (F := Ideal) x0 x1 x3 x5 x6 x7 (ix5 i kv g 0 k)
    = Ideal.exp (extend (extend (sC x0 x3 x5 i kv g) (sN x0 x1 x5 x6 i kv g)) (sK x7 kv g) k
        - top (sC x0 x3 x5 i kv g) (sN x0 x1 x5 x6 i kv g) (sK x7 kv g)) := by
  rw [val_main_v83_apply, val_main_v82_apply, sunk_val, val_main_v81_apply, val_main_v80_apply]
  rw [show idx_main_v80 (idx_main_v81 (ix5 i kv g 0 k)) = ix4 i kv g 0 from by funext a; fin_cases a <;> rfl, top_val]
  rfl

theorem mass_val : val_main_v84 (F := Ideal) x0 x1 x3 x5 x6 x7 (ix4 i kv g 0)
    = mass (sC x0 x3 x5 i kv g) (sN x0 x1 x5 x6 i kv g) (sK x7 kv g) := by
  rw [val_main_v84_apply, val_main_cst_15_apply]
  unfold mass
  rw [← sum_extend _ _ (fun z => Ideal.exp (z - _)), ← sum_extend _ _ (fun z => Ideal.exp (z - _))]
  show Ideal.ofBits .f32 0x00000000#32 + _ = _
  rw [Ideal.ofBits_zero_f32, zero_add]
  refine Finset.sum_congr rfl fun k _ => ?_
  rw [show idx_main_v84 (ix4 i kv g 0) k = ix5 i kv g 0 k from by funext a; fin_cases a <;> rfl, exps_val]

theorem weight_val (k : Fin 129) : val_main_v88 (F := Ideal) x0 x1 x3 x5 x6 x7 (ix5 i kv g 0 k)
    = Ideal.div (Ideal.exp (extend (sC x0 x3 x5 i kv g) (sN x0 x1 x5 x6 i kv g) k
          - top (sC x0 x3 x5 i kv g) (sN x0 x1 x5 x6 i kv g) (sK x7 kv g)))
        (mass (sC x0 x3 x5 i kv g) (sN x0 x1 x5 x6 i kv g) (sK x7 kv g)) := by
  rw [val_main_v88_apply,
    show idx_main_v88 (ix5 i kv g 0 k) = ix5 i kv g 0 k.castSucc from by funext a; fin_cases a <;> rfl,
    val_main_v87_apply, exps_val, extend_castSucc, val_main_v86_apply, val_main_v85_apply,
    show idx_main_v85 (idx_main_v86 (ix5 i kv g 0 k.castSucc)) = ix4 i kv g 0 from by funext a; fin_cases a <;> rfl,
    mass_val]
  rfl

/-- The reference's attention at an index. -/
theorem out_val (d : Fin 64) :
    val_main_v91 (F := Ideal) x0 x1 x2 x3 x4 x5 x6 x7 (ix3 i ⟨kv.val * 4 + g.val, by omega⟩ d)
      = attend (sC x0 x3 x5 i kv g) (sN x0 x1 x5 x6 i kv g) (sK x7 kv g) (fun x => x4 (ix5 0 i x kv d)) (vn x2 i kv d) := by
  have e : val_main_v91 (F := Ideal) x0 x1 x2 x3 x4 x5 x6 x7 (ix3 i ⟨kv.val * 4 + g.val, by omega⟩ d)
      = ∑ k, val_main_v34 (F := Ideal) x2 x4 (ix4 i k kv d) * val_main_v88 (F := Ideal) x0 x1 x3 x5 x6 x7 (ix5 i kv g 0 k) := by
    pointwise [val_main_v91, val_main_v90, val_main_v89]
  rw [e]
  simp only [vals_val, weight_val]
  rw [Fin.sum_univ_castSucc, extend_last, extend_last]
  unfold attend
  rw [mul_comm (vn x2 i kv d)]
  congr 1
  exact Finset.sum_congr rfl fun x _ => by rw [extend_castSucc, extend_castSucc, mul_comm]

end

end Cert.AttnS

end
-- ==== Proof.AttnS.lean ====
/- The value of the sample batch's attention: its rows, and the key window the normalised keys extend, are the
   reference's. -/
module

public import proofs.«01_k».proof.Proof.Gen.AttnSIdeal.Frame
public import proofs.«01_k».proof.Proof.AttnSRef
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AttnSIdeal.Value

open Cert.AttnSIdeal Cert.AttnSIdeal.Gen

open Cert.AttnS (QArr KArr CArr GArr SArr)

variable (m : (ℓ : Loc nD τ sig) → Buf (Elt Ideal) ℓ)

section
variable (SL SG : FVec Ideal S8x1 .f32) (Fst : IVec S8x1 1) (D : FVec Ideal S1x128 .f32) (Q : Vec Ideal S1x8x64 .f32)
    (K V : Vec Ideal S1x2x64 .f32) (CK CV : Vec Ideal S1x128x128 .f32) (qg kg : Vec Ideal S1x64 .f32)

/-- One token's attention, from what its operands hold: the slopes, the sinks, the heads of the first key, the distances,
    the query, the key and value, the cached ones and the gains. -/
def rowTile : FVec Ideal S1x8x64 .f32 :=
  k0_pay15 SG Fst (k0_pay10 CV) (k0_pay11 Fst (k0_pay9 V)) (k0_pay12 SL Fst D (k0_pay6 Q qg) CK)
    (k0_pay13 Fst (k0_pay6 Q qg) (k0_pay7 K kg)) (k0_pay14 SL SG Fst D (k0_pay6 Q qg) (k0_pay7 K kg) CK)

theorem row0 : k0_pay15 SG Fst (k0_pay10 CV) (k0_pay11 Fst (k0_pay9 V)) (k0_pay12 SL Fst D (k0_pay6 Q qg) CK)
    (k0_pay13 Fst (k0_pay6 Q qg) (k0_pay7 K kg)) (k0_pay14 SL SG Fst D (k0_pay6 Q qg) (k0_pay7 K kg) CK)
      = rowTile SL SG Fst D Q K V CK CV qg kg := rfl
theorem row1 : k0_pay39 Fst (k0_pay28 (k0_pay25 V) (k0_pay26 V) (k0_pay27 Fst))
    (k0_pay33 SL SG Fst D (k0_pay18 (k0_pay16 qg) (k0_pay17 Q)) (k0_pay22 CK) (k0_pay24 Fst K kg))
    (k0_pay34 SL SG Fst D (k0_pay18 (k0_pay16 qg) (k0_pay17 Q)) (k0_pay22 CK) (k0_pay24 Fst K kg))
    (k0_pay36 SL SG Fst D (k0_pay18 (k0_pay16 qg) (k0_pay17 Q)) (k0_pay22 CK) (k0_pay23 CV) (k0_pay24 Fst K kg))
    (k0_pay37 SL SG Fst D (k0_pay18 (k0_pay16 qg) (k0_pay17 Q)) (k0_pay22 CK) (k0_pay24 Fst K kg)) (k0_pay38 (k0_pay23 CV))
      = rowTile SL SG Fst D Q K V CK CV qg kg := rfl
theorem row2 : k0_pay50 SL SG Fst D (k0_pay40 Q qg) (k0_pay46 CV) (k0_pay47 Fst (k0_pay41 K) (k0_pay42 kg) (k0_pay43 K))
    (k0_pay48 Fst V) (k0_pay49 Fst (k0_pay40 Q qg) CK)
      = rowTile SL SG Fst D Q K V CK CV qg kg := rfl
theorem row3 : k0_pay64 SG Fst (k0_pay57 CV) (k0_pay58 Fst (k0_pay55 V))
    (k0_pay61 SL SG Fst D (k0_pay52 (k0_pay51 Q) qg) (k0_pay53 K kg) (k0_pay56 CK))
    (k0_pay62 SL SG Fst D (k0_pay52 (k0_pay51 Q) qg) (k0_pay53 K kg) (k0_pay56 CK))
    (k0_pay63 SL SG Fst D (k0_pay52 (k0_pay51 Q) qg) (k0_pay53 K kg) (k0_pay56 CK))
      = rowTile SL SG Fst D Q K V CK CV qg kg := rfl
theorem row4 : k0_pay80 (k0_pay71 Fst V)
    (k0_pay78 SL SG Fst D (k0_pay65 Q qg) (k0_pay68 CK) (k0_pay69 CV) (k0_pay70 Fst K kg))
    (k0_pay79 SL SG Fst D (k0_pay65 Q qg) (k0_pay68 CK) (k0_pay70 Fst K kg))
      = rowTile SL SG Fst D Q K V CK CV qg kg := rfl
theorem row5 : k0_pay88 SG Fst (k0_pay84 CV) (k0_pay85 Fst V) (k0_pay86 SL Fst D (k0_pay81 Q qg) CK)
    (k0_pay87 Fst (k0_pay81 Q qg) (k0_pay82 K kg))
      = rowTile SL SG Fst D Q K V CK CV qg kg := rfl
theorem row6 : k0_pay107 Fst (k0_pay97 CV) (k0_pay100 Fst (k0_pay95 V))
    (k0_pay104 SL SG Fst D (k0_pay92 (k0_pay89 Q) (k0_pay90 qg) (k0_pay91 Q)) (k0_pay96 CK) (k0_pay98 K kg) (k0_pay99 K kg))
    (k0_pay105 SL SG Fst D (k0_pay92 (k0_pay89 Q) (k0_pay90 qg) (k0_pay91 Q)) (k0_pay96 CK) (k0_pay98 K kg) (k0_pay99 K kg))
    (k0_pay106 SL SG Fst D (k0_pay92 (k0_pay89 Q) (k0_pay90 qg) (k0_pay91 Q)) (k0_pay96 CK) (k0_pay98 K kg) (k0_pay99 K kg))
      = rowTile SL SG Fst D Q K V CK CV qg kg := rfl
theorem row7 : k0_pay1 (k0_pay120 SL SG Fst D (k0_pay108 Q qg) (k0_pay115 CV)
      (k0_pay116 Fst (k0_pay109 K) (k0_pay110 kg) (k0_pay111 K)) (k0_pay117 Fst V) (k0_pay118 (k0_pay108 Q qg) CK) (k0_pay119 CK))
      = rowTile SL SG Fst D Q K V CK CV qg kg := rfl

/-- The lane of the cached rows that holds lane `d` of key head `kv`. -/
def lane (kv : Fin 2) (d : Fin 64) : Fin 128 := if kv.val = 0 then ⟨d.val, by omega⟩ else ⟨64 + d.val, by omega⟩

theorem lane_val (kv : Fin 2) (d : Fin 64) : (lane kv d).val = kv.val * 64 + d.val := by
  unfold lane
  split
  · rename_i h; rw [h]; simp
  · have : kv.val = 1 := by omega
    rw [this, Nat.one_mul]

open Cert.Attn (rms ofBits_neg_inf) in
open Cert.AttnS in
theorem rowTile_val (h : Fin 8) (kv : Fin 2) (d : Fin 64) (σ : EReal) (hF : Fst (ix2 h 0) = if kv.val = 0 then 1#1 else 0#1)
    (hL : SL (ix2 h 0) = Cert.Attn.slope h.val) (hG : SG (ix2 h 0) = σ)
    (hD : ∀ x, D (ix2 0 x) = FloatOps.sitofp (F := Ideal) .f32 (dist x)) :
    rowTile SL SG Fst D Q K V CK CV qg kg (ix3 0 h d)
      = attend (scoreC (fun e => Q (ix3 0 h e) * rms (fun e => Q (ix3 0 h e)) * qg (ix2 0 e)) h.val (fun x e => CK (ix3 0 x (lane kv e))))
          (scoreN (fun e => Q (ix3 0 h e) * rms (fun e => Q (ix3 0 h e)) * qg (ix2 0 e))
            (fun e => K (ix3 0 kv e) * rms (fun e => K (ix3 0 kv e)) * kg (ix2 0 e)))
          σ (fun x => CV (ix3 0 x (lane kv d))) (V (ix3 0 kv d)) := by
  pointwise [rowTile, k0_pay15, k0_pay10, k0_pay11, k0_pay9, k0_pay12, k0_pay6, k0_pay13, k0_pay7, k0_pay14]
  simp only [hD, hL, hG, hF, ofBits_neg_inf]
  obtain hk | hk : kv = 0 ∨ kv = 1 := by omega
  · subst hk; rfl
  · subst hk; rfl
end

theorem first_val : ∀ h : Fin 8, k0_pay4 (ix2 h 0) = if h.val / 4 = 0 then 1#1 else 0#1 := by
  have e : ∀ h : Fin 8, IntOp.cmpi .slt (BitVec.ofNat 32 h.val) 4#32 = if h.val / 4 = 0 then 1#1 else 0#1 := by decide
  intro h
  rw [← e h]
  pointwise [k0_pay4]

theorem slope_val (h : Fin 8) : k0_pay2 (F := Ideal) (ix2 h 0) = Cert.Attn.slope h.val := by
  obtain ⟨e0, e1, e2, e3, e4, e5, e6, e7⟩ := Cert.Attn.slope_words
  pointwise [k0_pay2]
  fin_cases h
  · exact e0
  · exact e1
  · exact e2
  · exact e3
  · exact e4
  · exact e5
  · exact e6
  · exact e7

theorem sink_val (S : Fin 8 → EReal) (s0 s1 s2 s3 s4 s5 s6 s7 : Elt Ideal .f32) (e0 : s0 = S 0) (e1 : s1 = S 1) (e2 : s2 = S 2)
    (e3 : s3 = S 3) (e4 : s4 = S 4) (e5 : s5 = S 5) (e6 : s6 = S 6) (e7 : s7 = S 7) (h : Fin 8) :
    k0_pay3 (F := Ideal) s0 s1 s2 s3 s4 s5 s6 s7 (ix2 h 0) = S h := by
  pointwise [k0_pay3]
  fin_cases h
  · exact e0
  · exact e1
  · exact e2
  · exact e3
  · exact e4
  · exact e5
  · exact e6
  · exact e7

theorem dist_val (x : Fin 128) : k0_pay5 (F := Ideal) (ix2 0 x) = FloatOps.sitofp (F := Ideal) .f32 (Cert.AttnS.dist x) := by
  pointwise [k0_pay5]
  rfl

open Cert.AttnS in
/-- A token's attention is the reference's, whatever its operands' spelling. -/
theorem piece (XQ : QArr) (XK XV : KArr) (XC XD : CArr) (XG XH : GArr) (XS : SArr) (i : Fin 128)
    (SG : FVec Ideal S8x1 .f32) (Q : Vec Ideal S1x8x64 .f32) (K V : Vec Ideal S1x2x64 .f32) (CK CV : Vec Ideal S1x128x128 .f32)
    (qg kg : Vec Ideal S1x64 .f32)
    (hS : ∀ h : Fin 8, SG (ix2 h 0) = XS (ix2 0 h))
    (hQ : ∀ (h : Fin 8) (d : Fin 64), Q (ix3 (0 : Fin 1) h d) = XQ (ix3 i 0 ⟨h.val * 64 + d.val, by omega⟩))
    (hK : ∀ (kv : Fin 2) (d : Fin 64), K (ix3 (0 : Fin 1) kv d) = XK (ix3 i 0 ⟨kv.val * 64 + d.val, by omega⟩))
    (hV : ∀ (kv : Fin 2) (d : Fin 64), V (ix3 (0 : Fin 1) kv d) = XV (ix3 i 0 ⟨kv.val * 64 + d.val, by omega⟩))
    (hC : ∀ (x : Fin 128) (kv : Fin 2) (d : Fin 64), CK (ix3 (0 : Fin 1) x (lane kv d)) = XC (ix5 0 i x kv d))
    (hD : ∀ (x : Fin 128) (kv : Fin 2) (d : Fin 64), CV (ix3 (0 : Fin 1) x (lane kv d)) = XD (ix5 0 i x kv d))
    (hG : ∀ d : Fin 64, qg (ix2 (0 : Fin 1) d) = XG (ix2 0 d)) (hH : ∀ d : Fin 64, kg (ix2 (0 : Fin 1) d) = XH (ix2 0 d))
    (x : S1x8x64.Idx) (J : S128x8x64.Idx) (h0 : (J 0).val = i.val) (h1 : (J 1).val = (x 1).val) (h2 : (J 2).val = (x 2).val) :
    rowTile (k0_pay2 (F := Ideal)) SG k0_pay4 (k0_pay5 (F := Ideal)) Q K V CK CV qg kg x
      = Cert.AttnSRefIdeal.Read.val_main_v91 (F := Ideal) XQ XK XV XC XD XG XH XS J := by
  obtain ⟨h, hh⟩ : ∃ h : Fin 8, h.val = (x 1).val := ⟨⟨(x 1).val, (x 1).isLt⟩, rfl⟩
  obtain ⟨d, hd⟩ : ∃ d : Fin 64, d.val = (x 2).val := ⟨⟨(x 2).val, (x 2).isLt⟩, rfl⟩
  have ex : x = ix3 (0 : Fin 1) h d := by
    funext a
    fin_cases a
    · exact Fin.ext (by show (x 0).val = 0; have := (x 0).isLt; change (x 0).val < 1 at this; omega)
    · exact Fin.ext hh.symm
    · exact Fin.ext hd.symm
  have eh : (⟨h.val / 4 * 4 + h.val % 4, by omega⟩ : Fin 8) = h := Fin.ext (by show h.val / 4 * 4 + h.val % 4 = h.val; omega)
  have eJ : J = ix3 i (⟨h.val / 4 * 4 + h.val % 4, by omega⟩ : Fin 8) d := by
    funext a
    fin_cases a
    · exact Fin.ext h0
    · exact Fin.ext (by show (J 1).val = h.val / 4 * 4 + h.val % 4; omega)
    · exact Fin.ext (by show (J 2).val = d.val; omega)
  rw [ex, eJ]
  refine (rowTile_val _ _ _ _ _ _ _ _ _ _ _ h ⟨h.val / 4, by omega⟩ d (XS (ix2 0 h)) (first_val h) (slope_val h) (hS h) dist_val).trans ?_
  refine Eq.trans ?_ (out_val XQ XK XV XC XD XG XH XS i ⟨h.val / 4, by omega⟩ ⟨h.val % 4, by omega⟩ d).symm
  simp only [hQ, hK, hV, hC, hD, hG, hH]
  unfold sC sN sK
  simp only [eh, show h.val / 4 * 4 + h.val % 4 = h.val by omega]
  rfl

open Cert.AttnS in
/-- What the body leaves in the attention's block, from what its operands' blocks hold: row `b` is token `I b`'s. -/
theorem tile8 (XQ : QArr) (XK XV : KArr) (XC XD : CArr) (XG XH : GArr) (XS : SArr) (I : Fin 8 → Fin 128) (c : Dev nD) (i : grid0.Coords)
    (arg1 : Memref sig .tc .smem S8 .f32) (harg1 : arg1.IsWhole) (arg2 : Memref sig .tc .vmem S8x8x64 .f32) (harg2 : arg2.IsWhole) (arg3 : Memref sig .tc .vmem S8x2x64 .f32) (harg3 : arg3.IsWhole) (arg4 : Memref sig .tc .vmem S8x2x64 .f32) (harg4 : arg4.IsWhole) (arg5 : Memref sig .tc .vmem S8x128x128 .f32) (harg5 : arg5.IsWhole) (arg6 : Memref sig .tc .vmem S8x128x128 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S8x8x64 .f32) (harg9 : arg9.IsWhole) (arg10 : Memref sig .tc .vmem S8x2x64 .f32) (harg10 : arg10.IsWhole)
    (x0 : Vec Ideal S8 .f32) (x1 : Vec Ideal S8x8x64 .f32) (x2 : Vec Ideal S8x2x64 .f32) (x3 : Vec Ideal S8x2x64 .f32) (x4 : Vec Ideal S8x128x128 .f32) (x5 : Vec Ideal S8x128x128 .f32) (x6 : Vec Ideal S1x64 .f32) (x7 : Vec Ideal S1x64 .f32)
    (hx0 : ∀ h : Fin 8, x0 (ix1 h) = XS (ix2 0 h))
    (hx1 : ∀ (b h : Fin 8) (d : Fin 64), x1 (ix3 b h d) = XQ (ix3 (I b) 0 ⟨h.val * 64 + d.val, by omega⟩))
    (hx2 : ∀ (b : Fin 8) (kv : Fin 2) (d : Fin 64), x2 (ix3 b kv d) = XK (ix3 (I b) 0 ⟨kv.val * 64 + d.val, by omega⟩))
    (hx3 : ∀ (b : Fin 8) (kv : Fin 2) (d : Fin 64), x3 (ix3 b kv d) = XV (ix3 (I b) 0 ⟨kv.val * 64 + d.val, by omega⟩))
    (hx4 : ∀ (b : Fin 8) (x : Fin 128) (kv : Fin 2) (d : Fin 64), x4 (ix3 b x (lane kv d)) = XC (ix5 0 (I b) x kv d))
    (hx5 : ∀ (b : Fin 8) (x : Fin 128) (kv : Fin 2) (d : Fin 64), x5 (ix3 b x (lane kv d)) = XD (ix5 0 (I b) x kv d))
    (hx6 : ∀ e : Fin 64, x6 (ix2 (0 : Fin 1) e) = XG (ix2 0 e))
    (hx7 : ∀ e : Fin 64, x7 (ix2 (0 : Fin 1) e) = XH (ix2 0 e))
    (y : S8x8x64.Idx) (J : S128x8x64.Idx) (e0 : ∀ b : Fin 8, (y 0).val = b.val → (J 0).val = (I b).val)
    (e1 : (J 1).val = (y 1).val) (e2 : (J 2).val = (y 2).val) :
    out0_A_8 (F := Ideal) c i arg1 harg1 arg2 harg2 arg3 harg3 arg4 harg4 arg5 harg5 arg6 harg6 arg7 harg7 arg8 harg8 arg9 harg9 arg10 harg10 x0 x1 x2 x3 x4 x5 x6 x7 y = Cert.AttnSRefIdeal.Read.val_main_v91 (F := Ideal) XQ XK XV XC XD XG XH XS J := by
  have hx := fun x : S1x8x64.Idx => (show (x 0).val < 1 from (x 0).isLt)
  frame_out
  · canon_tiles x h
    case' piece0 =>
      refine (congrFun (row7 _ _ _ _ _ _ _ _ _ _ _) x).trans ?_
      apply piece (i := I 7) (h0 := e0 7 (by have := hx x; simp at h0 ⊢; omega))
    case' piece1 =>
      refine (congrFun (row6 _ _ _ _ _ _ _ _ _ _ _) x).trans ?_
      apply piece (i := I 6) (h0 := e0 6 (by have := hx x; simp at h0 ⊢; omega))
    case' piece2 =>
      refine (congrFun (row5 _ _ _ _ _ _ _ _ _ _ _) x).trans ?_
      apply piece (i := I 5) (h0 := e0 5 (by have := hx x; simp at h0 ⊢; omega))
    case' piece3 =>
      refine (congrFun (row4 _ _ _ _ _ _ _ _ _ _ _) x).trans ?_
      apply piece (i := I 4) (h0 := e0 4 (by have := hx x; simp at h0 ⊢; omega))
    case' piece4 =>
      refine (congrFun (row3 _ _ _ _ _ _ _ _ _ _ _) x).trans ?_
      apply piece (i := I 3) (h0 := e0 3 (by have := hx x; simp at h0 ⊢; omega))
    case' piece5 =>
      refine (congrFun (row2 _ _ _ _ _ _ _ _ _ _ _) x).trans ?_
      apply piece (i := I 2) (h0 := e0 2 (by have := hx x; simp at h0 ⊢; omega))
    case' piece6 =>
      refine (congrFun (row1 _ _ _ _ _ _ _ _ _ _ _) x).trans ?_
      apply piece (i := I 1) (h0 := e0 1 (by have := hx x; simp at h0 ⊢; omega))
    case' piece7 =>
      refine (congrFun (row0 _ _ _ _ _ _ _ _ _ _ _) x).trans ?_
      apply piece (i := I 0) (h0 := e0 0 (by have := hx x; simp at h0 ⊢; omega))
    all_goals try case hS =>
      intro h
      refine sink_val (fun h => XS (ix2 0 h)) _ _ _ _ _ _ _ _ ?_ ?_ ?_ ?_ ?_ ?_ ?_ ?_ h
      all_goals
        pointwise
        exact hx0 _
    all_goals try case hQ =>
      intro h d
      pointwise
      exact hx1 _ h d
    all_goals try case hK =>
      intro kv d
      pointwise
      exact hx2 _ kv d
    all_goals try case hV =>
      intro kv d
      pointwise
      exact hx3 _ kv d
    all_goals try case hC =>
      intro x kv d
      pointwise
      exact hx4 _ x kv d
    all_goals try case hD =>
      intro x kv d
      pointwise
      exact hx5 _ x kv d
    all_goals try case hG => exact hx6
    all_goals try case hH => exact hx7
    all_goals try case h1 => rw [e1, h1]
    all_goals try case h2 => rw [e2, h2]

open Cert.AttnS in
/-- What the body leaves in the normalised keys' block. -/
theorem tile9 (XK : KArr) (XH : GArr) (I : Fin 8 → Fin 128) (c : Dev nD) (i : grid0.Coords)
    (arg1 : Memref sig .tc .smem S8 .f32) (harg1 : arg1.IsWhole) (arg2 : Memref sig .tc .vmem S8x8x64 .f32) (harg2 : arg2.IsWhole) (arg3 : Memref sig .tc .vmem S8x2x64 .f32) (harg3 : arg3.IsWhole) (arg4 : Memref sig .tc .vmem S8x2x64 .f32) (harg4 : arg4.IsWhole) (arg5 : Memref sig .tc .vmem S8x128x128 .f32) (harg5 : arg5.IsWhole) (arg6 : Memref sig .tc .vmem S8x128x128 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S8x8x64 .f32) (harg9 : arg9.IsWhole) (arg10 : Memref sig .tc .vmem S8x2x64 .f32) (harg10 : arg10.IsWhole)
    (x0 : Vec Ideal S8 .f32) (x1 : Vec Ideal S8x8x64 .f32) (x2 : Vec Ideal S8x2x64 .f32) (x3 : Vec Ideal S8x2x64 .f32) (x4 : Vec Ideal S8x128x128 .f32) (x5 : Vec Ideal S8x128x128 .f32) (x6 : Vec Ideal S1x64 .f32) (x7 : Vec Ideal S1x64 .f32)
    (hx2 : ∀ (b : Fin 8) (kv : Fin 2) (d : Fin 64), x2 (ix3 b kv d) = XK (ix3 (I b) 0 ⟨kv.val * 64 + d.val, by omega⟩))
    (hx7 : ∀ e : Fin 64, x7 (ix2 (0 : Fin 1) e) = XH (ix2 0 e)) (b : Fin 8) (kv : Fin 2) (d : Fin 64) :
    out0_A_9 (F := Ideal) c i arg1 harg1 arg2 harg2 arg3 harg3 arg4 harg4 arg5 harg5 arg6 harg6 arg7 harg7 arg8 harg8 arg9 harg9 arg10 harg10 x0 x1 x2 x3 x4 x5 x6 x7 (ix3 b kv d) = kn XK XH (I b) kv d := by
  frame_out
  · canon_tiles x h
    all_goals
      obtain ⟨r, hr⟩ : ∃ r : Fin 2, r.val = (x 1).val := ⟨⟨(x 1).val, (x 1).isLt⟩, rfl⟩
      obtain ⟨e, he⟩ : ∃ e : Fin 64, e.val = (x 2).val := ⟨⟨(x 2).val, (x 2).isLt⟩, rfl⟩
      obtain rfl : x = ix3 (0 : Fin 1) r e := by
        funext a
        fin_cases a
        · exact Fin.ext (by show (x 0).val = 0; have := (x 0).isLt; change (x 0).val < 1 at this; omega)
        · exact Fin.ext hr.symm
        · exact Fin.ext he.symm
      obtain rfl : kv = r := Fin.ext h1
      obtain rfl : d = e := Fin.ext h2
      open_payloads
      pointwise
      simp only [hx2, hx7]
      refine Eq.trans (b := kn XK XH (I _) kv d) rfl (congrArg (fun q => kn XK XH (I q) kv d) (Fin.ext ?_))
      exact h0.symm

/-- The windows' blocks at grid point `t`. -/
theorem idx : ∀ t : Fin cfg0.N, win0_0.index t = ![0]
    ∧ win0_1.index t = ![t.val, 0, 0] ∧ win0_2.index t = ![t.val, 0, 0] ∧ win0_3.index t = ![t.val, 0, 0]
    ∧ win0_4.index t = ![t.val, 0, 0] ∧ win0_5.index t = ![t.val, 0, 0] ∧ win0_6.index t = ![0, 0]
    ∧ win0_7.index t = ![0, 0] ∧ win0_8.index t = ![t.val, 0, 0] ∧ win0_9.index t = ![t.val, 0, 0] :=
  (by decide +kernel : ∀ t : Fin grid0.N, _)

/-- What the call finds in the references. -/
theorem entry (c : Dev nD) (b : Ref sig .tc) :
    V m c b = StableHlo.after hostOps0 (fun b => m (c, b)) (Proc.devRef .tc b) := rfl

theorem in_0 (c : Dev nD) (h : Fin 8) : V m c main_v9 (ix1 h) = m ((c : Thread nD τ).loc main_arg7) (ix2 0 h) := by
  rw [entry]; entry_read
  pointwise
theorem in_1 (c : Dev nD) (i : Fin 128) (h : Fin 8) (d : Fin 64) :
    V m c main_v2 (ix3 i h d) = m ((c : Thread nD τ).loc main_arg0) (ix3 i 0 ⟨h.val * 64 + d.val, by omega⟩) := by
  rw [entry]; entry_read
  pointwise
theorem in_2 (c : Dev nD) (i : Fin 128) (kv : Fin 2) (d : Fin 64) :
    V m c main_v3 (ix3 i kv d) = m ((c : Thread nD τ).loc main_arg1) (ix3 i 0 ⟨kv.val * 64 + d.val, by omega⟩) := by
  rw [entry]; entry_read
  pointwise
theorem in_3 (c : Dev nD) (i : Fin 128) (kv : Fin 2) (d : Fin 64) :
    V m c main_v4 (ix3 i kv d) = m ((c : Thread nD τ).loc main_arg2) (ix3 i 0 ⟨kv.val * 64 + d.val, by omega⟩) := by
  rw [entry]; entry_read
  pointwise
theorem in_4 (c : Dev nD) (i x : Fin 128) (kv : Fin 2) (d : Fin 64) :
    V m c main_v5 (ix3 i x (lane kv d)) = m ((c : Thread nD τ).loc main_arg3) (ix5 0 i x kv d) := by
  rw [entry]; entry_read
  pointwise
  have h := lane_val kv d
  refine congrArg (m ((c : Thread nD τ).loc main_arg3)) ?_
  funext a
  fin_cases a
  · rfl
  · rfl
  · rfl
  · exact Fin.ext (by show (lane kv d).val / 64 = kv.val; omega)
  · exact Fin.ext (by show (lane kv d).val % 64 = d.val; omega)
theorem in_5 (c : Dev nD) (i x : Fin 128) (kv : Fin 2) (d : Fin 64) :
    V m c main_v6 (ix3 i x (lane kv d)) = m ((c : Thread nD τ).loc main_arg4) (ix5 0 i x kv d) := by
  rw [entry]; entry_read
  pointwise
  have h := lane_val kv d
  refine congrArg (m ((c : Thread nD τ).loc main_arg4)) ?_
  funext a
  fin_cases a
  · rfl
  · rfl
  · rfl
  · exact Fin.ext (by show (lane kv d).val / 64 = kv.val; omega)
  · exact Fin.ext (by show (lane kv d).val % 64 = d.val; omega)
/-- The cached keys, as the operations behind the call find them. -/
theorem in_v0 (c : Dev nD) (i x : Fin 128) (kv : Fin 2) (d : Fin 64) : V m c main_v0 (ix4 i x kv d) = m ((c : Thread nD τ).loc main_arg3) (ix5 0 i x kv d) := by
  rw [entry]; entry_read
  pointwise
theorem in_6 (c : Dev nD) (e : Fin 64) : V m c main_v10 (ix2 (0 : Fin 1) e) = m ((c : Thread nD τ).loc main_arg5) (ix2 0 e) := by
  rw [entry]; entry_read
  pointwise
theorem in_7 (c : Dev nD) (e : Fin 64) : V m c main_v11 (ix2 (0 : Fin 1) e) = m ((c : Thread nD τ).loc main_arg6) (ix2 0 e) := by
  rw [entry]; entry_read
  pointwise

/-- The token of row `b` of block `t`. -/
def tok (t : Fin cfg0.N) (b : Fin 8) : Fin 128 := ⟨t.val * 8 + b.val, by have : t.val < 16 := t.isLt; omega⟩

section Blocks
variable (c : Dev nD) (t : Fin cfg0.N)
theorem blk_0 (h : Fin 8) : iblk m c 0 t (ix1 h) = m ((c : Thread nD τ).loc main_arg7) (ix2 0 h) :=
  (congrArg (V m c main_v9) (by blk_ext [idx t])).trans (in_0 m c h)
theorem blk_1 (b h : Fin 8) (d : Fin 64) : iblk m c 1 t (ix3 b h d) = m ((c : Thread nD τ).loc main_arg0) (ix3 (tok t b) 0 ⟨h.val * 64 + d.val, by omega⟩) :=
  (congrArg (V m c main_v2) (by unfold tok; blk_ext [idx t])).trans (in_1 m c (tok t b) h d)
theorem blk_2 (b : Fin 8) (kv : Fin 2) (d : Fin 64) : iblk m c 2 t (ix3 b kv d) = m ((c : Thread nD τ).loc main_arg1) (ix3 (tok t b) 0 ⟨kv.val * 64 + d.val, by omega⟩) :=
  (congrArg (V m c main_v3) (by unfold tok; blk_ext [idx t])).trans (in_2 m c (tok t b) kv d)
theorem blk_3 (b : Fin 8) (kv : Fin 2) (d : Fin 64) : iblk m c 3 t (ix3 b kv d) = m ((c : Thread nD τ).loc main_arg2) (ix3 (tok t b) 0 ⟨kv.val * 64 + d.val, by omega⟩) :=
  (congrArg (V m c main_v4) (by unfold tok; blk_ext [idx t])).trans (in_3 m c (tok t b) kv d)
theorem blk_4 (b : Fin 8) (x : Fin 128) (kv : Fin 2) (d : Fin 64) : iblk m c 4 t (ix3 b x (lane kv d)) = m ((c : Thread nD τ).loc main_arg3) (ix5 0 (tok t b) x kv d) :=
  (congrArg (V m c main_v5) (by unfold tok; blk_ext [idx t])).trans (in_4 m c (tok t b) x kv d)
theorem blk_5 (b : Fin 8) (x : Fin 128) (kv : Fin 2) (d : Fin 64) : iblk m c 5 t (ix3 b x (lane kv d)) = m ((c : Thread nD τ).loc main_arg4) (ix5 0 (tok t b) x kv d) :=
  (congrArg (V m c main_v6) (by unfold tok; blk_ext [idx t])).trans (in_5 m c (tok t b) x kv d)
theorem blk_6 (e : Fin 64) : iblk m c 6 t (ix2 (0 : Fin 1) e) = m ((c : Thread nD τ).loc main_arg5) (ix2 0 e) :=
  (congrArg (V m c main_v10) (by blk_ext [idx t])).trans (in_6 m c e)
theorem blk_7 (e : Fin 64) : iblk m c 7 t (ix2 (0 : Fin 1) e) = m ((c : Thread nD τ).loc main_arg6) (ix2 0 e) :=
  (congrArg (V m c main_v11) (by blk_ext [idx t])).trans (in_7 m c e)
end Blocks

/-- The array of the attention after the call. -/
theorem final_8 (c : Dev nD) : (dats m 0 c).arrAt 8 (cfgs 0).N
    = Cert.AttnSRefIdeal.Read.val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 8 _ (by decide +kernel) fun t hf y => ?_
  blk_simp; rw [after0_8]; unfold Gen.outsAt0
  dsimp only
  refine tile8 _ _ _ _ _ _ _ _ (tok t) c (grid0.coords t) _ _ _ _ _ _ _ _ _ _ _ _ _ _ _ _ _ _ _ _  _ _ _ _ _ _ _ _ (blk_0 m c t) (blk_1 m c t) (blk_2 m c t)
    (blk_3 m c t) (blk_4 m c t) (blk_5 m c t) (blk_6 m c t) (blk_7 m c t) _ _ (fun b hb => ?_) ?_ ?_
  · unfold tok
    blk_simp [idx t]
    exact congrArg (t.val * 8 + ·) hb
  all_goals blk_simp [idx t]

/-- The array of the normalised keys after the call. -/
theorem final_9 (c : Dev nD) (i : Fin 128) (kv : Fin 2) (d : Fin 64) : (dats m 0 c).arrAt 9 (cfgs 0).N (ix3 i kv d)
    = Cert.AttnS.kn (m ((c : Thread nD τ).loc main_arg1)) (m ((c : Thread nD τ).loc main_arg6)) i kv d := by
  have e : (dats m 0 c).arrAt 9 (cfgs 0).N = fun J : S128x2x64.Idx => Cert.AttnS.kn (m ((c : Thread nD τ).loc main_arg1)) (m ((c : Thread nD τ).loc main_arg6)) (J 0) (J 1) (J 2) := by
    refine (dats m 0 c).arrAt_eq_of_covers 9 _ (by decide +kernel) fun t hf y => ?_
    blk_simp; rw [after0_9]; unfold Gen.outsAt0
    dsimp only
    obtain ⟨b, r, l, rfl⟩ : ∃ (b : Fin 8) (r : Fin 2) (l : Fin 64), y = ix3 b r l := ⟨y 0, y 1, y 2, by funext a; fin_cases a <;> rfl⟩
    refine (tile9 (m ((c : Thread nD τ).loc main_arg1)) (m ((c : Thread nD τ).loc main_arg6)) (tok t) c (grid0.coords t) _ _ _ _ _ _ _ _ _ _ _ _ _ _ _ _ _ _ _ _  _ _ _ _ _ _ _ _ (blk_2 m c t) (blk_7 m c t) b r l).trans ?_
    refine congr (congr (congrArg (Cert.AttnS.kn (m ((c : Thread nD τ).loc main_arg1)) (m ((c : Thread nD τ).loc main_arg6))) ?_) ?_) ?_
    all_goals
      refine Fin.ext ?_
      try unfold tok
      blk_simp [idx t]
  rw [e]
  rfl

/-- The arrays of the call are distinct. -/
theorem arr_inj : Function.Injective (Pipeline.arrRef spec0) := by decide

/-- What the operations behind the call leave in the key window. -/
theorem tail_16 (c : Dev nD) :
    Pipeline.afterTail₀ cfgs (dats m) 0 (V0 m) [hostOps1] c main_v16
      = Cert.AttnSRefIdeal.Read.val_main_v93 (F := Ideal) (m ((c : Thread nD τ).loc main_arg1)) (m ((c : Thread nD τ).loc main_arg3)) (m ((c : Thread nD τ).loc main_arg6)) := by
  have ea := Pipeline.withArrays_of_ne spec0 c (V0 m c) (fun w => (dats m 0 c).arrAt w (cfgs 0).N) main_v0
    (by decide)
  have er := Pipeline.withArrays_arr spec0 arr_inj c (V0 m c) (fun w => (dats m 0 c).arrAt w (cfgs 0).N) 9
  unfold Pipeline.afterTail₀
  show StableHlo.after hostOps1 _ (Proc.devRef .tc main_v16) = _
  entry_read
  change Pipeline.withArrays (cfgs 0).spec c (V0 m c) (fun w => (dats m 0 c).arrAt w (cfgs 0).N) (Proc.tc.devRef main_v12_1) = _ at er
  change Pipeline.withArrays (cfgs 0).spec c (V0 m c) (fun w => (dats m 0 c).arrAt w (cfgs 0).N) (Proc.tc.devRef main_v0) = _ at ea
  rw [er, ea]
  funext i
  pointwise [Cert.AttnSRefIdeal.Read.val_main_v93, Cert.AttnSRefIdeal.Read.val_main_v92]
  have hi : (i 2).val < 128 := (i 2).isLt
  refine Eq.trans ?_ (Cert.AttnS.keys_val _ _ _ (i 1) ⟨1 + (i 2).val, by omega⟩ (i 3) (i 4)).symm
  unfold Cert.AttnS.extend
  by_cases h : 1 + (i 2).val < 128
  · rw [dif_pos h, dif_pos h]
    exact in_v0 m c (i 1) ⟨1 + (i 2).val, h⟩ (i 3) (i 4)
  · rw [dif_neg h, dif_neg h]
    exact final_9 m c (i 1) (i 3) (i 4)

end Cert.AttnSIdeal.Value

end
-- ==== Proof.Ada.lean ====
/- The value of the modulation's call: its array is both batches' modulation, the sample's rows behind the prompt's. -/
module

public import proofs.«01_k».proof.Proof.Gen.AdaIdeal.Frame
public import proofs.«01_k».proof.Proof.Gen.AdaRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdaIdeal.Value

open Cert.AdaIdeal Cert.AdaIdeal.Gen

variable (m : (ℓ : Loc nD τ sig) → Buf (Elt Ideal) ℓ)

/-- The windows' blocks at grid point `t`. -/
theorem idx : ∀ t : Fin cfg0.N, win0_0.index t = ![0, 0]
    ∧ win0_1.index t = ![0, t.val]
    ∧ win0_2.index t = ![0, t.val]
    ∧ win0_3.index t = ![0, t.val] :=
  (by decide +kernel : ∀ t : Fin grid0.N, _)

/-- A row of the conditioning as the call takes it: the prompt's rows first. -/
theorem in_0 (c : Dev nD) (r : Fin 144) (k : Fin 1024) :
    V m c main_v0 (ix2 r k) = if h : r.val < 16 then m ((c : Thread nD τ).loc main_arg0) (ix2 (⟨r.val, h⟩ : Fin 16) k)
      else m ((c : Thread nD τ).loc main_arg1) (ix2 (⟨r.val - 16, by omega⟩ : Fin 128) k) := by
  entry_read
  pointwise

/-- The weight as the call takes it. -/
theorem in_1 (c : Dev nD) (k : Fin 1024) (j : Fin 6144) :
    V m c main_v2 (ix2 k j) = m ((c : Thread nD τ).loc main_arg2) (ix3 (0 : Fin 1) k j) := by
  entry_read
  pointwise

/-- The bias as the call takes it. -/
theorem in_2 (c : Dev nD) (j : Fin 6144) :
    V m c main_v4 (ix2 (0 : Fin 1) j) = m ((c : Thread nD τ).loc main_arg3) (ix2 (0 : Fin 1) j) := by
  entry_read
  pointwise

/-- The conditioning's block is the array. -/
theorem blk_0 (c : Dev nD) (t : Fin cfg0.N) (r : Fin 144) (k : Fin 1024) :
    iblk m c 0 t (ix2 r k) = if h : r.val < 16 then m ((c : Thread nD τ).loc main_arg0) (ix2 (⟨r.val, h⟩ : Fin 16) k)
      else m ((c : Thread nD τ).loc main_arg1) (ix2 (⟨r.val - 16, by omega⟩ : Fin 128) k) :=
  (congrArg (V m c main_v0) (by blk_ext [idx t])).trans (in_0 m c r k)

/-- The weight's block holds the tile's columns. -/
theorem blk_1 (c : Dev nD) (t : Fin cfg0.N) (k : Fin 1024) (j : Fin 1536) (J : Fin 6144)
    (hJ : J.val = t.val * 1536 + j.val) :
    iblk m c 1 t (ix2 k j) = m ((c : Thread nD τ).loc main_arg2) (ix3 (0 : Fin 1) k J) :=
  (congrArg (V m c main_v2) (by blk_ext [idx t])).trans (in_1 m c k J)

/-- The bias's block holds the tile's columns. -/
theorem blk_2 (c : Dev nD) (t : Fin cfg0.N) (j : Fin 1536) (J : Fin 6144) (hJ : J.val = t.val * 1536 + j.val) :
    iblk m c 2 t (ix2 (0 : Fin 1) j) = m ((c : Thread nD τ).loc main_arg3) (ix2 (0 : Fin 1) J) :=
  (congrArg (V m c main_v4) (by blk_ext [idx t])).trans (in_2 m c J)

/-- One entry of the reference: a row of the prompt's product, or of the sample's behind it. -/
theorem ref (x0 : S16x1024.Idx → EReal) (x1 : S128x1024.Idx → EReal) (x2 : S1x1024x6144.Idx → EReal)
    (x3 : S1x6144.Idx → EReal) (z : Fin 144) (J : Fin 6144) :
    Cert.AdaRefIdeal.Read.val_main_v14 (F := Ideal) x0 x1 x2 x3 (ix2 z J)
      = (∑ k : Fin 1024, (if h : z.val < 16 then x0 (ix2 (⟨z.val, h⟩ : Fin 16) k)
            else x1 (ix2 (⟨z.val - 16, by omega⟩ : Fin 128) k))
          * Ideal.logistic (if h : z.val < 16 then x0 (ix2 (⟨z.val, h⟩ : Fin 16) k)
            else x1 (ix2 (⟨z.val - 16, by omega⟩ : Fin 128) k)) * x2 (ix3 (0 : Fin 1) k J))
        + x3 (ix2 (0 : Fin 1) J) := by
  by_cases h : z.val < 16
  · simp only [dif_pos h]
    pointwise [Cert.AdaRefIdeal.Read.val_main_v14]
    rw [dif_pos h]
    pointwise [Cert.AdaRefIdeal.Read.val_main_v6, Cert.AdaRefIdeal.Read.val_main_v5, Cert.AdaRefIdeal.Read.val_main_v4, Cert.AdaRefIdeal.Read.val_main_v3, Cert.AdaRefIdeal.Read.val_main_v2, Cert.AdaRefIdeal.Read.val_main_v1, Cert.AdaRefIdeal.Read.val_main_v0, Cert.AdaRefIdeal.Read.val_main_call0_v5, Cert.AdaRefIdeal.Read.val_main_call0_v4, Cert.AdaRefIdeal.Read.val_main_call0_cst_0, Cert.AdaRefIdeal.Read.val_main_call0_v3, Cert.AdaRefIdeal.Read.val_main_call0_v2, Cert.AdaRefIdeal.Read.val_main_call0_cst, Cert.AdaRefIdeal.Read.val_main_call0_v1, Cert.AdaRefIdeal.Read.val_main_call0_v0]
    rfl
  · simp only [dif_neg h]
    pointwise [Cert.AdaRefIdeal.Read.val_main_v14]
    rw [dif_neg h]
    pointwise [Cert.AdaRefIdeal.Read.val_main_v13, Cert.AdaRefIdeal.Read.val_main_v12, Cert.AdaRefIdeal.Read.val_main_v11, Cert.AdaRefIdeal.Read.val_main_v10, Cert.AdaRefIdeal.Read.val_main_v9, Cert.AdaRefIdeal.Read.val_main_v8, Cert.AdaRefIdeal.Read.val_main_v7, Cert.AdaRefIdeal.Read.val_main_call1_v5, Cert.AdaRefIdeal.Read.val_main_call1_v4, Cert.AdaRefIdeal.Read.val_main_call1_cst_0, Cert.AdaRefIdeal.Read.val_main_call1_v3, Cert.AdaRefIdeal.Read.val_main_call1_v2, Cert.AdaRefIdeal.Read.val_main_call1_cst, Cert.AdaRefIdeal.Read.val_main_call1_v1, Cert.AdaRefIdeal.Read.val_main_call1_v0]
    rfl

/-- The array of the modulation after the call. -/
theorem final_3 (c : Dev nD) : (dats m 0 c).arrAt 3 (cfgs 0).N
    = Cert.AdaRefIdeal.Read.val_main_v14 (F := Ideal) (m ((c : Thread nD τ).loc main_arg0))
          (m ((c : Thread nD τ).loc main_arg1)) (m ((c : Thread nD τ).loc main_arg2))
          (m ((c : Thread nD τ).loc main_arg3)) := by
  refine (dats m 0 c).arrAt_eq_of_covers 3 _ (by decide +kernel) fun t hf y => ?_
  blk_simp; rw [after0_3]; frame_out
  pointwise [k0_pay1]
  have hJ : t.val * 1536 + (y 1).val < 6144 := by
    have h0 : t.val < 4 := t.isLt
    have h1 : (y 1).val < 1536 := (y 1).isLt
    omega
  refine Eq.trans (congrArg₂ (· + ·) (Fin.sum_fin_congr fun k => ?_) (blk_2 m c t (y 1) ⟨_, hJ⟩ rfl))
    ((ref (m ((c : Thread nD τ).loc main_arg0)) (m ((c : Thread nD τ).loc main_arg1))
      (m ((c : Thread nD τ).loc main_arg2)) (m ((c : Thread nD τ).loc main_arg3)) (y 0) ⟨_, hJ⟩).symm.trans
      (congrArg _ ?_))
  · exact congrArg₂ (· * ·) (congrArg (fun v => v * Ideal.logistic v) (blk_0 m c t (y 0) k))
      (blk_1 m c t k (y 1) ⟨_, hJ⟩ rfl)
  · blk_ext [idx t]

end Cert.AdaIdeal.Value
-- ==== Proof.PoolMath.lean ====
/- Sums over trailing windows of at most 16 rows. -/
module

public import Idealize.ShloMosaic.Lib.Pointwise

@[expose] public section

noncomputable section

open Idealize.ShloMosaic

namespace Cert.Pool

/-- The window of 2 rows, summed from the newest back. -/
theorem chain_2 (f : Fin 16 → EReal) :
    f 15 + f 14 = ∑ x : Fin 2, f ⟨14 + x.val, by omega⟩ := by
  refine Eq.trans ?_ (Fin.sum_univ_eq_sum_range (fun n => if h : n < 2 then f ⟨14 + n, by omega⟩ else 0) 2 |>.symm.trans
    (Finset.sum_congr rfl fun x _ => dif_pos x.isLt))
  simp [Finset.sum_range_succ]
  abel

/-- The window of 4 rows, summed from the newest back. -/
theorem chain_4 (f : Fin 16 → EReal) :
    f 15 + f 14 + f 13 + f 12 = ∑ x : Fin 4, f ⟨12 + x.val, by omega⟩ := by
  refine Eq.trans ?_ (Fin.sum_univ_eq_sum_range (fun n => if h : n < 4 then f ⟨12 + n, by omega⟩ else 0) 4 |>.symm.trans
    (Finset.sum_congr rfl fun x _ => dif_pos x.isLt))
  simp [Finset.sum_range_succ]
  abel

/-- The window of 8 rows, summed from the newest back. -/
theorem chain_8 (f : Fin 16 → EReal) :
    f 15 + f 14 + f 13 + f 12 + f 11 + f 10 + f 9 + f 8 = ∑ x : Fin 8, f ⟨8 + x.val, by omega⟩ := by
  refine Eq.trans ?_ (Fin.sum_univ_eq_sum_range (fun n => if h : n < 8 then f ⟨8 + n, by omega⟩ else 0) 8 |>.symm.trans
    (Finset.sum_congr rfl fun x _ => dif_pos x.isLt))
  simp [Finset.sum_range_succ]
  abel

/-- The window of 16 rows, summed from the newest back. -/
theorem chain_16 (f : Fin 16 → EReal) :
    f 15 + f 14 + f 13 + f 12 + f 11 + f 10 + f 9 + f 8 + f 7 + f 6 + f 5 + f 4 + f 3 + f 2 + f 1 + f 0 = ∑ x : Fin 16, f ⟨0 + x.val, by omega⟩ := by
  refine Eq.trans ?_ (Fin.sum_univ_eq_sum_range (fun n => if h : n < 16 then f ⟨0 + n, by omega⟩ else 0) 16 |>.symm.trans
    (Finset.sum_congr rfl fun x _ => dif_pos x.isLt))
  simp [Finset.sum_range_succ]
  abel

end Cert.Pool

end
-- ==== Proof.Pool.lean ====
/- The value of the prompt's pooling. -/
module

public import proofs.«01_k».proof.Proof.Gen.PoolIdeal.Frame
public import proofs.«01_k».proof.Proof.Gen.PoolRefIdeal.Read
public import proofs.«01_k».proof.Proof.PoolMath
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.PoolIdeal.Value

open Cert.PoolIdeal Cert.PoolIdeal.Gen

/-- The 16 rows behind position `p`, itself the last: zero before the start. -/
def row (P : S16x2048x512.Idx → EReal) (b : Fin 16) (j : Fin 512) (p : Fin 2048) (r : Fin 16) : EReal :=
  if h : 15 ≤ p.val + r.val then P (ix3 b ⟨p.val + r.val - 15, by omega⟩ j) else 0

theorem foldl_sum {n : Nat} (f : Fin n → EReal) (z : EReal) : (List.finRange n).foldl (fun r k => r + f k) z = z + ∑ k, f k := by
  rw [Fin.sum_univ_def]
  generalize List.finRange n = l
  induction l generalizing z with
  | nil => simp
  | cons a l ih => rw [List.foldl_cons, ih, List.map_cons, List.sum_cons, add_assoc]

/-- The positions of a window of `w` rows and one entry of the other axes. -/
def posEquiv (w : Nat) : Fin w ≃ (⟨3, ![1, w, 1]⟩ : Shape).Idx where
  toFun n := ix3 0 n 0
  invFun i := i 1
  left_inv n := rfl
  right_inv i := by
    funext a
    fin_cases a
    · exact Subsingleton.elim (α := Fin 1) _ _
    · rfl
    · exact Subsingleton.elim (α := Fin 1) _ _

/-- A window sum of `w` rows over a sequence padded in front with zeros. -/
theorem window {w d : Nat} (hd : d + 1 = w)
    (h : Cert.PoolRefIdeal.S16x2048x128.ReduceWindows (![1, w, 1] : Fin 3 → Nat) ![1, 1, 1] ![0, d, 0] ![0, 0, 0] Cert.PoolRefIdeal.S16x2048x128)
    (x : FVec Ideal Cert.PoolRefIdeal.S16x2048x128 .f32) (z : FVec Ideal S_ .f32) (hu : 0 < S_.numel) (hz : ∀ i, z i = 0) (b : Fin 16) (p : Fin 2048) (e : Fin 128) :
    Host.reduceWindowAdd (F := Ideal) ![1, w, 1] ![1, 1, 1] ![0, d, 0] ![0, 0, 0] x z h hu (ix3 b p e)
      = ∑ n : Fin w, if hn : d ≤ p.val + n.val then x (ix3 b ⟨p.val + n.val - d, by omega⟩ e) else (0 : EReal) := by
  unfold Host.reduceWindowAdd
  rw [Ideal.hostReduceWindowAdd_def, hz]
  unfold Ideal.hostReduceWindowAdd Host.reduceWindow
  dsimp only
  rw [foldl_sum, zero_add]
  refine Fintype.sum_equiv ((⟨3, ![1, w, 1]⟩ : Shape).rowMajor.symm.trans (posEquiv w).symm) _ _ fun k => ?_
  rw [Equiv.trans_apply]
  obtain ⟨n, hn⟩ := (posEquiv w).surjective ((⟨3, ![1, w, 1]⟩ : Shape).rowMajor.symm k)
  have v0 : ((⟨3, ![1, w, 1]⟩ : Shape).rowMajor.symm k 0).val = 0 := congrArg (fun i : (⟨3, ![1, w, 1]⟩ : Shape).Idx => (i 0).val) hn.symm
  have v1 : ((⟨3, ![1, w, 1]⟩ : Shape).rowMajor.symm k 1).val = n.val := congrArg (fun i : (⟨3, ![1, w, 1]⟩ : Shape).Idx => (i 1).val) hn.symm
  have v2 : ((⟨3, ![1, w, 1]⟩ : Shape).rowMajor.symm k 2).val = 0 := congrArg (fun i : (⟨3, ![1, w, 1]⟩ : Shape).Idx => (i 2).val) hn.symm
  have vn : (posEquiv w).symm ((⟨3, ![1, w, 1]⟩ : Shape).rowMajor.symm k) = n := (Equiv.symm_apply_eq _).mpr hn.symm
  rw [vn]
  by_cases hn : d ≤ p.val + n.val
  · rw [dif_pos hn]
    refine (dif_pos ?_).trans (congrArg x ?_)
    · intro a
      fin_cases a
      · show 0 ≤ b.val * 1 + ((⟨3, ![1, w, 1]⟩ : Shape).rowMajor.symm k 0).val ∧ b.val * 1 + ((⟨3, ![1, w, 1]⟩ : Shape).rowMajor.symm k 0).val - 0 < 16
        omega
      · show d ≤ p.val * 1 + ((⟨3, ![1, w, 1]⟩ : Shape).rowMajor.symm k 1).val ∧ p.val * 1 + ((⟨3, ![1, w, 1]⟩ : Shape).rowMajor.symm k 1).val - d < 2048
        omega
      · show 0 ≤ e.val * 1 + ((⟨3, ![1, w, 1]⟩ : Shape).rowMajor.symm k 2).val ∧ e.val * 1 + ((⟨3, ![1, w, 1]⟩ : Shape).rowMajor.symm k 2).val - 0 < 128
        omega
    · funext a
      fin_cases a <;> refine Fin.ext ?_
      · show b.val * 1 + ((⟨3, ![1, w, 1]⟩ : Shape).rowMajor.symm k 0).val - 0 = b.val
        omega
      · show p.val * 1 + ((⟨3, ![1, w, 1]⟩ : Shape).rowMajor.symm k 1).val - d = p.val + n.val - d
        omega
      · show e.val * 1 + ((⟨3, ![1, w, 1]⟩ : Shape).rowMajor.symm k 2).val - 0 = e.val
        omega
  · rw [dif_neg hn]
    refine dif_neg fun h => hn ?_
    have h1 : d ≤ p.val * 1 + ((⟨3, ![1, w, 1]⟩ : Shape).rowMajor.symm k 1).val := (h 1).1
    omega

/-- The same read off the 16 rows. -/
theorem window_rows (P : S16x2048x512.Idx → EReal) (b : Fin 16) (j : Fin 512) (p : Fin 2048) {w d : Nat} (hd : d + 1 = w) (hw : w ≤ 16) :
    (∑ n : Fin w, if h : d ≤ p.val + n.val then P (ix3 b ⟨p.val + n.val - d, by omega⟩ j) else (0 : EReal))
      = ∑ n : Fin w, row P b j p ⟨16 - w + n.val, by omega⟩ := by
  refine Finset.sum_congr rfl fun n _ => ?_
  unfold row
  by_cases h : d ≤ p.val + n.val
  · rw [dif_pos h, dif_pos (by show 15 ≤ p.val + (16 - w + n.val); omega)]
    refine congrArg (fun q => P (ix3 b q j)) (Fin.ext ?_)
    show p.val + n.val - d = p.val + (16 - w + n.val) - 15
    omega
  · rw [dif_neg h, dif_neg (by show ¬15 ≤ p.val + (16 - w + n.val); omega)]

/-- The number of rows of a window of `w` at position `p`, as the programs count it. -/
def count (p : Fin 2048) (w : BitVec 32) : EReal :=
  FloatOps.sitofp (F := Ideal) .f32 (IntOp.minsi (IntOp.addi (BitVec.ofNat 32 p.val) 1#32) w)

open Cert.PoolRefIdeal.Read in
/-- The reference's columns of the window of 2 rows. -/
theorem ref_2 (P : S16x2048x512.Idx → EReal) (b : Fin 16) (p : Fin 2048) (e : Fin 128) :
    val_main_v52 (F := Ideal) P (ix3 b p ⟨e.val, by omega⟩)
      = Ideal.div (∑ x : Fin 2, row P b ⟨e.val, by omega⟩ p ⟨14 + x.val, by omega⟩) (count p 2#32) - P (ix3 b p ⟨e.val, by omega⟩) := by
  pointwise [val_main_v52]
  pointwise [val_main_v12, val_main_v11, val_main_v10, val_main_v9, val_main_v8, val_main_v7, val_main_v6, val_main_v5, val_main_v4, val_main_v3, val_main_v0, val_main_c, val_main_c_0]
  rw [show val_main_v2 (F := Ideal) P (ix3 b p e) = _ from window (by decide) _ _ _ _ (fun i => by pointwise [val_main_v1, val_main_cst]) b p e]
  pointwise [val_main_v0]
  rw [← window_rows P b ⟨e.val, by omega⟩ p (d := 1) (by decide) (by decide)]
  rfl

open Cert.PoolRefIdeal.Read in
/-- The reference's columns of the window of 4 rows. -/
theorem ref_4 (P : S16x2048x512.Idx → EReal) (b : Fin 16) (p : Fin 2048) (e : Fin 128) :
    val_main_v52 (F := Ideal) P (ix3 b p ⟨128 + e.val, by omega⟩)
      = Ideal.div (∑ x : Fin 4, row P b ⟨128 + e.val, by omega⟩ p ⟨12 + x.val, by omega⟩) (count p 4#32) - P (ix3 b p ⟨128 + e.val, by omega⟩) := by
  pointwise [val_main_v52]
  pointwise [val_main_v25, val_main_v24, val_main_v23, val_main_v22, val_main_v21, val_main_v20, val_main_v19, val_main_v18, val_main_v17, val_main_v16, val_main_v13, val_main_c_2, val_main_c_3]
  rw [show val_main_v15 (F := Ideal) P (ix3 b p e) = _ from window (by decide) _ _ _ _ (fun i => by pointwise [val_main_v14, val_main_cst_1]) b p e]
  pointwise [val_main_v13]
  rw [← window_rows P b ⟨128 + e.val, by omega⟩ p (d := 3) (by decide) (by decide)]
  rfl

open Cert.PoolRefIdeal.Read in
/-- The reference's columns of the window of 8 rows. -/
theorem ref_8 (P : S16x2048x512.Idx → EReal) (b : Fin 16) (p : Fin 2048) (e : Fin 128) :
    val_main_v52 (F := Ideal) P (ix3 b p ⟨256 + e.val, by omega⟩)
      = Ideal.div (∑ x : Fin 8, row P b ⟨256 + e.val, by omega⟩ p ⟨8 + x.val, by omega⟩) (count p 8#32) - P (ix3 b p ⟨256 + e.val, by omega⟩) := by
  pointwise [val_main_v52]
  rw [dif_neg (by omega), dif_neg (by omega), dif_pos (by omega)]
  simp only [show 256 + e.val - 128 - 128 = e.val by omega]
  pointwise [val_main_v38, val_main_v37, val_main_v36, val_main_v35, val_main_v34, val_main_v33, val_main_v32, val_main_v31, val_main_v30, val_main_v29, val_main_v26, val_main_c_5, val_main_c_6]
  rw [show val_main_v28 (F := Ideal) P (ix3 b p e) = _ from window (by decide) _ _ _ _ (fun i => by pointwise [val_main_v27, val_main_cst_4]) b p e]
  pointwise [val_main_v26]
  rw [← window_rows P b ⟨256 + e.val, by omega⟩ p (d := 7) (by decide) (by decide)]
  rfl

open Cert.PoolRefIdeal.Read in
/-- The reference's columns of the window of 16 rows. -/
theorem ref_16 (P : S16x2048x512.Idx → EReal) (b : Fin 16) (p : Fin 2048) (e : Fin 128) :
    val_main_v52 (F := Ideal) P (ix3 b p ⟨384 + e.val, by omega⟩)
      = Ideal.div (∑ x : Fin 16, row P b ⟨384 + e.val, by omega⟩ p ⟨0 + x.val, by omega⟩) (count p 16#32) - P (ix3 b p ⟨384 + e.val, by omega⟩) := by
  pointwise [val_main_v52]
  rw [dif_neg (by omega), dif_neg (by omega), dif_neg (by omega)]
  simp only [show 384 + e.val - 128 - 128 - 128 = e.val by omega]
  pointwise [val_main_v51, val_main_v50, val_main_v49, val_main_v48, val_main_v47, val_main_v46, val_main_v45, val_main_v44, val_main_v43, val_main_v42, val_main_v39, val_main_c_8, val_main_c_9]
  rw [show val_main_v41 (F := Ideal) P (ix3 b p e) = _ from window (by decide) _ _ _ _ (fun i => by pointwise [val_main_v40, val_main_cst_7]) b p e]
  pointwise [val_main_v39]
  exact congrArg (fun z => Ideal.div z (count p 16#32) - P (ix3 b p ⟨384 + e.val, by omega⟩))
    ((window_rows P b ⟨384 + e.val, by omega⟩ p (w := 16) (d := 15) (by decide) (by decide)).trans
      (Finset.sum_congr rfl fun n _ => congrArg _ (Fin.ext (Nat.zero_add _))))

variable (m : (ℓ : Loc nD τ sig) → Buf (Elt Ideal) ℓ)

/-- The rows of the scratch from row `k` on, in the whole column. -/
theorem scr (P : S16x2048x512.Idx → EReal) (b : Fin 16) (t : Fin 8) (v : View sig .tc .vmem S272x512 .f32)
    (x0 : Vec Ideal S1x256x512 .f32) (x1 : Vec Ideal S1x1x16x512 .f32)
    (hx0 : ∀ (i : Fin 256) (j : Fin 512), x0 (ix3 0 i j) = P (ix3 b ⟨t.val * 256 + i.val, by omega⟩ j))
    (hx1 : ∀ (i : Fin 16) (j : Fin 512), x1 (ix4 0 0 i j) = if h : 0 < t.val then P (ix3 b ⟨t.val * 256 + i.val - 16, by omega⟩ j) else 0)
    (k : Nat) (hk : k < 16) (hk0 : 0 < k) (inb : ∀ a, (![k, 0] : Fin 2 → Nat) a + (![256, 512] : Fin 2 → Nat) a ≤ S272x512.size a) (i : Fin 256) (j : Fin 512) :
    (v.readCov [(⟨Rect.unit ![16, 0] ![256, 512] inb_S272x512_S256x512_16_0, k0_pay4 x0⟩ : View.Piece (Elt Ideal) S272x512 .f32),
          ⟨Rect.unit ![0, 0] ![16, 512] inb_S272x512_S16x512_0_0, k0_pay3 x1⟩]
        (Rect.unit (s := S272x512) ![k, 0] ![256, 512] inb).toLoadRect) (ix2 i j) = row P b j ⟨t.val * 256 + i.val, by omega⟩ ⟨k - 1, by omega⟩ := by
  rw [View.readCov_eq_canon']
  have e : ((Rect.unit (s := S272x512) ![k, 0] ![256, 512] inb).toLoadRect.idx (ix2 i j)) = ix2 (⟨k + i.val, by omega⟩ : Fin 272) j := by
    funext a
    fin_cases a <;> refine Fin.ext ?_
    · show k + 1 * i.val = k + i.val
      omega
    · show 0 + 1 * j.val = j.val
      omega
  show View.canon _ _ = _
  rw [e]
  unfold row
  have hi := i.isLt
  have ht := t.isLt
  by_cases h : 16 ≤ k + i.val
  · have e2 : (ix2 (⟨k + i.val, by omega⟩ : Fin 272) j : S272x512.Idx)
        = (Rect.unit (s := S272x512) ![16, 0] ![256, 512] inb_S272x512_S256x512_16_0).emb (ix2 (⟨k + i.val - 16, by omega⟩ : Fin 256) j) := by
      funext a
      fin_cases a <;> refine Fin.ext ?_
      · show k + i.val = 16 + 1 * (k + i.val - 16)
        omega
      · show j.val = 0 + 1 * j.val
        omega
    rw [e2, View.canon_cons_emb, dif_pos (by show 15 ≤ t.val * 256 + i.val + (k - 1); omega)]
    pointwise [k0_pay4, k0_pay2]
    rw [hx0]
    refine congrArg (fun q => P (ix3 b q j)) (Fin.ext ?_)
    show t.val * 256 + (k + i.val - 16) = t.val * 256 + i.val + (k - 1) - 15
    omega
  · have e2 : (ix2 (⟨k + i.val, by omega⟩ : Fin 272) j : S272x512.Idx)
        = (Rect.unit (s := S272x512) ![0, 0] ![16, 512] inb_S272x512_S16x512_0_0).emb (ix2 (⟨k + i.val, by omega⟩ : Fin 16) j) := by
      funext a
      fin_cases a <;> refine Fin.ext ?_
      · show k + i.val = 0 + 1 * (k + i.val)
        omega
      · show j.val = 0 + 1 * j.val
        omega
    rw [View.canon_cons_of_not_mem, e2, View.canon_cons_emb]
    · pointwise [k0_pay3]
      rw [hx1]
      by_cases h0 : 0 < t.val
      · rw [dif_pos h0, dif_pos (by show 15 ≤ t.val * 256 + i.val + (k - 1); omega)]
        refine congrArg (fun q => P (ix3 b q j)) (Fin.ext ?_)
        show t.val * 256 + (k + i.val) - 16 = t.val * 256 + i.val + (k - 1) - 15
        omega
      · rw [dif_neg h0, dif_neg (by show ¬15 ≤ t.val * 256 + i.val + (k - 1); omega)]
    · intro hm
      rw [← Rect.map_emb_univ] at hm
      obtain ⟨z, -, hz⟩ := Finset.mem_map.mp hm
      have hz0 : 16 + 1 * (z 0).val = k + i.val := congrArg (fun q : S272x512.Idx => (q 0).val) hz
      omega

/-- The positions of a tile. -/
theorem pos (i : grid0.Coords) (r : Fin 256) : k0_pay5 i (ix2 r 0) = BitVec.ofNat 32 ((i 1).val * 256 + r.val) := by
  unfold k0_pay5
  pointwise
  rw [BitVec.ofNat_add, BitVec.ofNat_mul]
  rfl

/-- What the body stores of the window of 16 rows. -/
theorem share_16 (v1 : Vec Ideal S256x512 .f32) (v13 : IVec S256x1 32) (v68 v69 v71 v73 v75 v77 v79 v81 : Vec Ideal S256x512 .f32) (r : Fin 256) (e : Fin 128) :
    k0_pay1 (F := Ideal) v1 v13 v68 v69 v71 v73 v75 v77 v79 v81 (ix3 0 r e) = Ideal.div (v68 (ix2 r ⟨384 + e.val, by omega⟩) + v69 (ix2 r ⟨384 + e.val, by omega⟩) + v71 (ix2 r ⟨384 + e.val, by omega⟩) + v73 (ix2 r ⟨384 + e.val, by omega⟩) + v75 (ix2 r ⟨384 + e.val, by omega⟩) + v77 (ix2 r ⟨384 + e.val, by omega⟩) + v79 (ix2 r ⟨384 + e.val, by omega⟩) + v81 (ix2 r ⟨384 + e.val, by omega⟩)) (FloatOps.sitofp (F := Ideal) .f32 (IntOp.minsi (IntOp.addi (v13 (ix2 r 0)) 1#32) 16#32)) - v1 (ix2 r ⟨384 + e.val, by omega⟩) := by
  unfold k0_pay1
  pointwise [k0_pay9, k0_pay11]

/-- What the body stores of the window of 8 rows. -/
theorem share_8 (v1 : Vec Ideal S256x512 .f32) (v13 : IVec S256x1 32) (v30 v31 v46 v48 v50 v52 : Vec Ideal S256x512 .f32) (r : Fin 256) (e : Fin 128) :
    k0_pay12 (F := Ideal) v1 v13 v30 v31 v46 v48 v50 v52 (ix3 0 r e) = Ideal.div (v30 (ix2 r ⟨256 + e.val, by omega⟩) + v31 (ix2 r ⟨256 + e.val, by omega⟩) + v46 (ix2 r ⟨256 + e.val, by omega⟩) + v48 (ix2 r ⟨256 + e.val, by omega⟩) + v50 (ix2 r ⟨256 + e.val, by omega⟩) + v52 (ix2 r ⟨256 + e.val, by omega⟩)) (FloatOps.sitofp (F := Ideal) .f32 (IntOp.minsi (IntOp.addi (v13 (ix2 r 0)) 1#32) 8#32)) - v1 (ix2 r ⟨256 + e.val, by omega⟩) := by
  unfold k0_pay12
  pointwise [k0_pay9, k0_pay11]

/-- What the body stores of the window of 4 rows. -/
theorem share_4 (v1 : Vec Ideal S256x512 .f32) (v13 : IVec S256x1 32) (v30 v31 : Vec Ideal S256x512 .f32) (r : Fin 256) (e : Fin 128) :
    k0_pay10 (F := Ideal) v1 v13 v30 v31 (ix3 0 r e) = Ideal.div (v30 (ix2 r ⟨128 + e.val, by omega⟩) + v31 (ix2 r ⟨128 + e.val, by omega⟩)) (FloatOps.sitofp (F := Ideal) .f32 (IntOp.minsi (IntOp.addi (v13 (ix2 r 0)) 1#32) 4#32)) - v1 (ix2 r ⟨128 + e.val, by omega⟩) := by
  unfold k0_pay10
  pointwise [k0_pay9, k0_pay11]

/-- What the body stores of the window of 2 rows. -/
theorem share_2 (i : grid0.Coords) (x0 : Vec Ideal S1x256x512 .f32) (v14 : Vec Ideal S256x512 .f32) (r : Fin 256) (e : Fin 128) :
    k0_pay7 (F := Ideal) i x0 v14 (ix3 0 r e) = Ideal.div (x0 (ix3 0 r ⟨e.val, by omega⟩) + v14 (ix2 r ⟨e.val, by omega⟩)) (FloatOps.sitofp (F := Ideal) .f32 (IntOp.minsi (IntOp.addi (k0_pay5 i (ix2 r 0)) 1#32) 2#32)) - x0 (ix3 0 r ⟨e.val, by omega⟩) := by
  unfold k0_pay7
  pointwise [k0_pay6, k0_pay2]

/-- The rows of a tile. -/
theorem rows (x0 : Vec Ideal S1x256x512 .f32) (r : Fin 256) (j : Fin 512) : k0_pay2 (F := Ideal) x0 (ix2 r j) = x0 (ix3 0 r j) := by
  unfold k0_pay2
  pointwise

/-- The sum of three rows. -/
theorem sum_3 (x0 : Vec Ideal S1x256x512 .f32) (v14 v29 : Vec Ideal S256x512 .f32) (r : Fin 256) (j : Fin 512) :
    k0_pay8 (F := Ideal) x0 v14 v29 (ix2 r j) = x0 (ix3 0 r j) + v14 (ix2 r j) + v29 (ix2 r j) := by
  unfold k0_pay8
  pointwise [k0_pay6, k0_pay2]

/-- The sum of the six rows before the three newest, and those. -/
theorem sum_9 (v30 v31 v46 v48 v50 v52 v67 : Vec Ideal S256x512 .f32) (r : Fin 256) (j : Fin 512) :
    k0_pay13 (F := Ideal) v30 v31 v46 v48 v50 v52 v67 (ix2 r j)
      = v30 (ix2 r j) + v31 (ix2 r j) + v46 (ix2 r j) + v48 (ix2 r j) + v50 (ix2 r j) + v52 (ix2 r j) + v67 (ix2 r j) := by
  unfold k0_pay13
  pointwise [k0_pay11, k0_pay9]

/-- The newest row of a window is the row itself. -/
theorem row_15 (P : S16x2048x512.Idx → EReal) (b : Fin 16) (j : Fin 512) (p : Fin 2048) : row P b j p 15 = P (ix3 b p j) := by
  unfold row
  rw [dif_pos (show 15 ≤ p.val + (15 : Fin 16).val from Nat.le_add_left _ _)]
  rfl

/-- What the body leaves in the block. -/
theorem tile (P : S16x2048x512.Idx → EReal) (b : Fin 16) (t : Fin 8) (c : Dev nD) (i : grid0.Coords) (hi : (i 1).val = t.val) (arg2 : Memref sig .tc .vmem S1x256x512 .f32) (harg2 : arg2.IsWhole) (arg3 : Memref sig .tc .vmem S1x1x16x512 .f32) (harg3 : arg3.IsWhole) (arg4 : Memref sig .tc .vmem S1x256x512 .f32) (harg4 : arg4.IsWhole) (arg5 : Memref sig .tc .vmem S272x512 .f32) (harg5 : arg5.IsWhole)
    (x0 : Vec Ideal S1x256x512 .f32) (x1 : Vec Ideal S1x1x16x512 .f32)
    (hx0 : ∀ (i : Fin 256) (j : Fin 512), x0 (ix3 0 i j) = P (ix3 b ⟨t.val * 256 + i.val, by omega⟩ j))
    (hx1 : ∀ (i : Fin 16) (j : Fin 512), x1 (ix4 0 0 i j) = if h : 0 < t.val then P (ix3 b ⟨t.val * 256 + i.val - 16, by omega⟩ j) else 0)
    (r : Fin 256) (j : Fin 512) :
    out0_A_2 (F := Ideal) c i arg2 harg2 arg3 harg3 arg4 harg4 arg5 harg5 x0 x1 (ix3 0 r j)
      = Cert.PoolRefIdeal.Read.val_main_v52 (F := Ideal) P (ix3 b ⟨t.val * 256 + r.val, by omega⟩ j) := by
  have S := scr P b t arg5.view x0 x1 hx0 hx1
  frame_out
  · canon_tiles x h
    all_goals
      obtain ⟨r', hr⟩ : ∃ r : Fin 256, r.val = (x 1).val := ⟨⟨(x 1).val, (x 1).isLt⟩, rfl⟩
      obtain ⟨e, he⟩ : ∃ e : Fin 128, e.val = (x 2).val := ⟨⟨(x 2).val, (x 2).isLt⟩, rfl⟩
      obtain rfl : x = ix3 (0 : Fin 1) r' e := by
        funext a
        fin_cases a
        · exact Subsingleton.elim (α := Fin 1) _ _
        · exact Fin.ext hr.symm
        · exact Fin.ext he.symm
      obtain rfl : r = r' := Fin.ext h1
    · have hB : 384 + e.val < 512 := by omega
      obtain rfl : j = ⟨384 + e.val, hB⟩ := Fin.ext h2
      rw [ref_16, ← Cert.Pool.chain_16, row_15, share_16, sum_9, sum_3, rows, hx0, pos, hi]
      rw [S 15 (by decide) (by decide), S 14 (by decide) (by decide), S 13 (by decide) (by decide), S 12 (by decide) (by decide), S 11 (by decide) (by decide), S 10 (by decide) (by decide), S 9 (by decide) (by decide), S 8 (by decide) (by decide), S 7 (by decide) (by decide), S 6 (by decide) (by decide), S 5 (by decide) (by decide), S 4 (by decide) (by decide), S 3 (by decide) (by decide), S 2 (by decide) (by decide), S 1 (by decide) (by decide)]
      rfl
    · have hB : 256 + e.val < 512 := by omega
      obtain rfl : j = ⟨256 + e.val, hB⟩ := Fin.ext h2
      rw [ref_8, ← Cert.Pool.chain_8, row_15, share_8, sum_3, rows, hx0, pos, hi]
      rw [S 15 (by decide) (by decide), S 14 (by decide) (by decide), S 13 (by decide) (by decide), S 12 (by decide) (by decide), S 11 (by decide) (by decide), S 10 (by decide) (by decide), S 9 (by decide) (by decide)]
      rfl
    · have hB : 128 + e.val < 512 := by omega
      obtain rfl : j = ⟨128 + e.val, hB⟩ := Fin.ext h2
      rw [ref_4, ← Cert.Pool.chain_4, row_15, share_4, sum_3, rows, hx0, pos, hi]
      rw [S 15 (by decide) (by decide), S 14 (by decide) (by decide), S 13 (by decide) (by decide)]
      rfl
    · have hB : e.val < 512 := by omega
      obtain rfl : j = ⟨e.val, hB⟩ := Fin.ext h2
      rw [ref_2, ← Cert.Pool.chain_2, row_15, share_2, hx0, pos, hi]
      rw [S 15 (by decide) (by decide)]
      rfl

/-- The windows' blocks at grid point `t`. -/
theorem idx : ∀ t : Fin cfg0.N, win0_0.index t = ![t.val / 8, t.val % 8, 0]
    ∧ win0_1.index t = ![t.val / 8, t.val % 8, 0, 0] ∧ win0_2.index t = ![t.val / 8, t.val % 8, 0]
    ∧ (grid0.coords t 1).val = t.val % 8 :=
  (by decide +kernel : ∀ t : Fin grid0.N, _)

/-- What the call finds in the references. -/
theorem entry (c : Dev nD) (b : Ref sig .tc) :
    V m c b = StableHlo.after hostOps0 (fun b => m (c, b)) (Proc.devRef .tc b) := rfl

/-- The last rows of the tile before, read in the whole column. -/
theorem before (f : Fin 2048 → EReal) (t : Fin 8) (i : Fin 16) :
    (if h : t.val < 1 then (0 : EReal) else f ⟨(t.val - 1) * 256 + (240 + i.val), by omega⟩)
      = if h : 0 < t.val then f ⟨t.val * 256 + i.val - 16, by omega⟩ else 0 := by
  by_cases h : 0 < t.val
  · have h1 : ¬ t.val < 1 := by omega
    rw [dif_neg h1, dif_pos h]
    refine congrArg f (Fin.ext ?_)
    show (t.val - 1) * 256 + (240 + i.val) = t.val * 256 + i.val - 16
    omega
  · have h1 : t.val < 1 := by omega
    rw [dif_pos h1, dif_neg h]

/-- The rows before tile `t`. -/
theorem in_1 (c : Dev nD) (b : Fin 16) (t : Fin 8) (i : Fin 16) (j : Fin 512) :
    V m c main_v4 (ix4 b t i j) = if h : 0 < t.val then m ((c : Thread nD τ).loc main_arg0) (ix3 b ⟨t.val * 256 + i.val - 16, by omega⟩ j) else (0 : EReal) := by
  rw [entry]; entry_read
  pointwise
  exact before (fun q => m ((c : Thread nD τ).loc main_arg0) (ix3 b q j)) t i

/-- The batch of grid point `t`. -/
def bat (t : Fin cfg0.N) : Fin 16 := ⟨t.val / 8, by have : t.val < 128 := t.isLt; omega⟩

/-- The tile of grid point `t`. -/
def til (t : Fin cfg0.N) : Fin 8 := ⟨t.val % 8, by omega⟩

theorem blk_0 (c : Dev nD) (t : Fin cfg0.N) (i : Fin 256) (j : Fin 512) : iblk m c 0 t (ix3 0 i j)
    = m ((c : Thread nD τ).loc main_arg0) (ix3 (bat t) ⟨(til t).val * 256 + i.val, by have := (til t).isLt; omega⟩ j) :=
  (congrArg (V m c main_arg0) (by unfold bat til; blk_ext [idx t])).trans (congrFun (V_main_arg0 m c) _)
theorem blk_1 (c : Dev nD) (t : Fin cfg0.N) (i : Fin 16) (j : Fin 512) : iblk m c 1 t (ix4 0 0 i j)
    = if h : 0 < (til t).val then m ((c : Thread nD τ).loc main_arg0) (ix3 (bat t) ⟨(til t).val * 256 + i.val - 16, by have := (til t).isLt; omega⟩ j) else (0 : EReal) :=
  (congrArg (V m c main_v4) (by unfold bat til; blk_ext [idx t])).trans (in_1 m c (bat t) (til t) i j)

/-- The array of the pooling after the call. -/
theorem final_2 (c : Dev nD) : (dats m 0 c).arrAt 2 (cfgs 0).N
    = Cert.PoolRefIdeal.Read.val_main_v52 (F := Ideal) (m ((c : Thread nD τ).loc main_arg0)) := by
  refine (dats m 0 c).arrAt_eq_of_covers 2 _ (by decide +kernel) fun t hf y => ?_
  blk_simp; rw [after0_2]; unfold Gen.outsAt0
  dsimp only
  obtain ⟨r, j, rfl⟩ : ∃ (r : Fin 256) (j : Fin 512), y = ix3 (0 : Fin 1) r j := ⟨y 1, y 2, by funext a; fin_cases a <;> first | exact Subsingleton.elim (α := Fin 1) _ _ | rfl⟩
  refine (tile _ (bat t) (til t) c (grid0.coords t) (idx t).2.2.2 _ _ _ _ _ _ _ _ _ _ (blk_0 m c t) (blk_1 m c t) r j).trans ?_
  refine congrArg (Cert.PoolRefIdeal.Read.val_main_v52 (F := Ideal) (m ((c : Thread nD τ).loc main_arg0))) ?_
  unfold bat til
  blk_ext [idx t]

end Cert.PoolIdeal.Value

end
-- ==== Proof.PoolS.lean ====
/- The value of the sample batch's pooling: each group's mean over the last rows of its history and the new row, less the new row. -/
module

public import proofs.«01_k».proof.Proof.Gen.PoolSIdeal.Frame
public import proofs.«01_k».proof.Proof.Gen.PoolSRefIdeal.Read
public import proofs.«01_k».proof.Proof.PoolMath
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.PoolSIdeal.Value

open Cert.PoolSIdeal Cert.PoolSIdeal.Gen

/-- The rows a sequence's mean is taken over: its history, then the new row. -/
def row (P : S128x1x512.Idx → EReal) (T : S1x128x15x512.Idx → EReal) (b : Fin 128) (j : Fin 512) (r : Fin 16) : EReal :=
  if h : r.val < 15 then T (ix4 0 b ⟨r.val, h⟩ j) else P (ix3 b 0 j)

/-- The reference's rows. -/
theorem rows_val (P : S128x1x512.Idx → EReal) (T : S1x128x15x512.Idx → EReal) (b : Fin 128) (r : Fin 16) (j : Fin 512) :
    Cert.PoolSRefIdeal.Read.val_main_v1 (F := Ideal) P T (ix3 b r j) = row P T b j r := by
  unfold row
  by_cases h : r.val < 15
  · rw [dif_pos h]
    pointwise [Cert.PoolSRefIdeal.Read.val_main_v1, Cert.PoolSRefIdeal.Read.val_main_v0]
    rw [dif_pos h]
    try rfl
  · rw [dif_neg h]
    pointwise [Cert.PoolSRefIdeal.Read.val_main_v1, Cert.PoolSRefIdeal.Read.val_main_v0]
    rw [dif_neg h]
    exact congrArg (fun z => P (ix3 b z j)) (Subsingleton.elim _ _)

open Cert.PoolSRefIdeal.Read in
/-- The reference's columns of the window of 2 rows. -/
theorem ref_2 (P : S128x1x512.Idx → EReal) (T : S1x128x15x512.Idx → EReal) (b e : Fin 128) :
    val_main_v33 (F := Ideal) P T (ix2 b ⟨e.val, by omega⟩)
      = Ideal.div (∑ x : Fin 2, row P T b ⟨e.val, by omega⟩ ⟨14 + x.val, by omega⟩) (Ideal.ofBits .f32 1073741824#32)
        - row P T b ⟨e.val, by omega⟩ 15 := by
  pointwise [val_main_v33]
  pointwise [val_main_v9, val_main_v8, val_main_v7, val_main_v6, val_main_v5, val_main_v4, val_main_v3, val_main_v2, val_main_cst, val_main_cst_0]
  simp only [rows_val]

open Cert.PoolSRefIdeal.Read in
/-- The reference's columns of the window of 4 rows. -/
theorem ref_4 (P : S128x1x512.Idx → EReal) (T : S1x128x15x512.Idx → EReal) (b e : Fin 128) :
    val_main_v33 (F := Ideal) P T (ix2 b ⟨128 + e.val, by omega⟩)
      = Ideal.div (∑ x : Fin 4, row P T b ⟨128 + e.val, by omega⟩ ⟨12 + x.val, by omega⟩) (Ideal.ofBits .f32 1082130432#32)
        - row P T b ⟨128 + e.val, by omega⟩ 15 := by
  pointwise [val_main_v33]
  pointwise [val_main_v17, val_main_v16, val_main_v15, val_main_v14, val_main_v13, val_main_v12, val_main_v11, val_main_v10, val_main_cst_1, val_main_cst_2]
  simp only [rows_val]

open Cert.PoolSRefIdeal.Read in
/-- The reference's columns of the window of 8 rows. -/
theorem ref_8 (P : S128x1x512.Idx → EReal) (T : S1x128x15x512.Idx → EReal) (b e : Fin 128) :
    val_main_v33 (F := Ideal) P T (ix2 b ⟨256 + e.val, by omega⟩)
      = Ideal.div (∑ x : Fin 8, row P T b ⟨256 + e.val, by omega⟩ ⟨8 + x.val, by omega⟩) (Ideal.ofBits .f32 1090519040#32)
        - row P T b ⟨256 + e.val, by omega⟩ 15 := by
  pointwise [val_main_v33]
  pointwise [val_main_v25, val_main_v24, val_main_v23, val_main_v22, val_main_v21, val_main_v20, val_main_v19, val_main_v18, val_main_cst_3, val_main_cst_4]
  simp only [rows_val]
  rw [dif_neg (by omega), dif_neg (by omega), dif_pos (by omega)]
  simp only [show 256 + e.val - 128 - 128 = e.val by omega]

open Cert.PoolSRefIdeal.Read in
/-- The reference's columns of the window of 16 rows. -/
theorem ref_16 (P : S128x1x512.Idx → EReal) (T : S1x128x15x512.Idx → EReal) (b e : Fin 128) :
    val_main_v33 (F := Ideal) P T (ix2 b ⟨384 + e.val, by omega⟩)
      = Ideal.div (∑ x : Fin 16, row P T b ⟨384 + e.val, by omega⟩ ⟨0 + x.val, by omega⟩) (Ideal.ofBits .f32 1098907648#32)
        - row P T b ⟨384 + e.val, by omega⟩ 15 := by
  pointwise [val_main_v33]
  pointwise [val_main_v32, val_main_v31, val_main_v30, val_main_v29, val_main_v28, val_main_v27, val_main_v26, val_main_cst_5, val_main_cst_6]
  simp only [rows_val]
  rw [dif_neg (by omega), dif_neg (by omega), dif_neg (by omega)]
  simp only [show 384 + e.val - 128 - 128 - 128 = e.val by omega]

variable (m : (ℓ : Loc nD τ sig) → Buf (Elt Ideal) ℓ)

/-- The call's one point takes the whole arrays. -/
theorem idx : ∀ t : Fin cfg0.N, win0_0.index t = ![0, 0] ∧ win0_1.index t = ![0, 0, 0] ∧ win0_2.index t = ![0, 0] :=
  (by decide +kernel : ∀ t : Fin grid0.N, _)

/-- The new rows as the call takes them. -/
theorem in_0 (c : Dev nD) (b : Fin 128) (j : Fin 512) :
    V m c main_v0 (ix2 b j) = m ((c : Thread nD τ).loc main_arg0) (ix3 b 0 j) := by
  entry_read
  pointwise

/-- The histories as the call takes them. -/
theorem in_1 (c : Dev nD) (b : Fin 128) (r : Fin 15) (j : Fin 512) :
    V m c main_v1 (ix3 b r j) = m ((c : Thread nD τ).loc main_arg1) (ix4 0 b r j) := by
  entry_read
  pointwise

/-- The new rows' block is their array. -/
theorem blk_0 (c : Dev nD) (t : Fin cfg0.N) (b : Fin 128) (j : Fin 512) :
    iblk m c 0 t (ix2 b j) = row (m ((c : Thread nD τ).loc main_arg0)) (m ((c : Thread nD τ).loc main_arg1)) b j 15 :=
  (congrArg (V m c main_v0) (by blk_ext [idx t])).trans (in_0 m c b j)

/-- The histories' block is their array. -/
theorem blk_1 (c : Dev nD) (t : Fin cfg0.N) (b : Fin 128) (r : Fin 15) (j : Fin 512) :
    iblk m c 1 t (ix3 b r j) = row (m ((c : Thread nD τ).loc main_arg0)) (m ((c : Thread nD τ).loc main_arg1)) b j ⟨r.val, by omega⟩ := by
  refine ((congrArg (V m c main_v1) (by blk_ext [idx t])).trans (in_1 m c b r j)).trans ?_
  unfold row
  rw [dif_pos r.isLt]

/-- The array of the pooling after the call. -/
theorem final_2 (c : Dev nD) : (dats m 0 c).arrAt 2 (cfgs 0).N
    = Cert.PoolSRefIdeal.Read.val_main_v33 (F := Ideal) (m ((c : Thread nD τ).loc main_arg0)) (m ((c : Thread nD τ).loc main_arg1)) := by
  refine (dats m 0 c).arrAt_eq_of_covers 2 _ (by decide +kernel) fun t hf y => ?_
  blk_simp; rw [after0_2]; frame_out
  · canon_tiles x h
    all_goals
      obtain ⟨b, e, rfl⟩ : ∃ b e : Fin 128, x = ix2 b e := ⟨x 0, x 1, by funext a; fin_cases a <;> rfl⟩
      open_payloads
      pointwise
      simp only [blk_0 m c t, blk_1 m c t]
    · refine Eq.trans ?_ ((ref_16 _ _ b e).symm.trans (congrArg _ (by blk_ext [idx t] <;> first | exact h0.symm | exact h1.symm)))
      rw [← Cert.Pool.chain_16]
      rfl
    · refine Eq.trans ?_ ((ref_8 _ _ b e).symm.trans (congrArg _ (by blk_ext [idx t] <;> first | exact h0.symm | exact h1.symm)))
      rw [← Cert.Pool.chain_8]
      rfl
    · refine Eq.trans ?_ ((ref_4 _ _ b e).symm.trans (congrArg _ (by blk_ext [idx t] <;> first | exact h0.symm | exact h1.symm)))
      rw [← Cert.Pool.chain_4]
      rfl
    · refine Eq.trans ?_ ((ref_2 _ _ b e).symm.trans (congrArg _ (by blk_ext [idx t] <;> first | exact h0.symm | exact h1.symm)))
      rw [← Cert.Pool.chain_2]
      rfl

end Cert.PoolSIdeal.Value

end
-- ==== Proof.lean ====
/- The certificate: every conjunct of the claim, from the runs of the programs and the value modules. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.ProjRefIdeal
public import proofs.«01_k».proof.Proof.Gen.ProjRefIdeal.Run
public import proofs.«01_k».proof.Proof.Gen.Mix
public import proofs.«01_k».proof.Proof.Gen.Mix.Frame
public import proofs.«01_k».proof.Proof.Gen.MixIdeal
public import proofs.«01_k».proof.Proof.Gen.MixIdeal.Frame
public import proofs.«01_k».proof.Proof.Gen.MixRefIdeal
public import proofs.«01_k».proof.Proof.Gen.MixRefIdeal.Run
public import proofs.«01_k».proof.Proof.Gen.ProjS
public import proofs.«01_k».proof.Proof.Gen.ProjS.Frame
public import proofs.«01_k».proof.Proof.Gen.ProjSIdeal
public import proofs.«01_k».proof.Proof.Gen.ProjSIdeal.Frame
public import proofs.«01_k».proof.Proof.Gen.ProjSRefIdeal
public import proofs.«01_k».proof.Proof.Gen.ProjSRefIdeal.Run
public import proofs.«01_k».proof.Proof.Gen.AttnS
public import proofs.«01_k».proof.Proof.Gen.AttnS.Frame
public import proofs.«01_k».proof.Proof.Gen.AttnSIdeal
public import proofs.«01_k».proof.Proof.Gen.AttnSIdeal.Frame
public import proofs.«01_k».proof.Proof.Gen.AttnSRefIdeal
public import proofs.«01_k».proof.Proof.Gen.AttnSRefIdeal.Run
public import proofs.«01_k».proof.Proof.Gen.Ada
public import proofs.«01_k».proof.Proof.Gen.Ada.Frame
public import proofs.«01_k».proof.Proof.Gen.AdaIdeal
public import proofs.«01_k».proof.Proof.Gen.AdaIdeal.Frame
public import proofs.«01_k».proof.Proof.Gen.AdaRefIdeal
public import proofs.«01_k».proof.Proof.Gen.AdaRefIdeal.Run
public import proofs.«01_k».proof.Proof.Gen.Pool
public import proofs.«01_k».proof.Proof.Gen.Pool.Frame
public import proofs.«01_k».proof.Proof.Gen.PoolIdeal
public import proofs.«01_k».proof.Proof.Gen.PoolIdeal.Frame
public import proofs.«01_k».proof.Proof.Gen.PoolRefIdeal
public import proofs.«01_k».proof.Proof.Gen.PoolRefIdeal.Run
public import proofs.«01_k».proof.Proof.Gen.PoolS
public import proofs.«01_k».proof.Proof.Gen.PoolS.Frame
public import proofs.«01_k».proof.Proof.Gen.PoolSIdeal
public import proofs.«01_k».proof.Proof.Gen.PoolSIdeal.Frame
public import proofs.«01_k».proof.Proof.Gen.PoolSRefIdeal
public import proofs.«01_k».proof.Proof.Gen.PoolSRefIdeal.Run
public import proofs.«01_k».proof.Proof.Attn
public import proofs.«01_k».proof.Proof.Proj
public import proofs.«01_k».proof.Proof.Mix
public import proofs.«01_k».proof.Proof.ProjS
public import proofs.«01_k».proof.Proof.AttnS
public import proofs.«01_k».proof.Proof.Ada
public import proofs.«01_k».proof.Proof.Pool
public import proofs.«01_k».proof.Proof.PoolS
public import proofs.«01_k».proof.Proof.Gen.Pre_finite_gains
public import Idealize.ShloMosaic.Adequacy
public import Idealize.ShloMosaic.Init
public import Idealize.ShloMosaic.Lib.Claim
public import Idealize.ShloMosaic.Lib.Quiescent

@[expose] public section

set_option maxRecDepth 16384

noncomputable section

namespace Cert.Proof

open Idealize.ShloMosaic Idealize.SL.Sem

/-- The attention runs and leaves its arguments. -/
theorem frame_Kernel : Cert.quiescent_Kernel := by
  intro m g _
  exact Cert.Kernel.Gen.frame m g

/-- So does its idealization. -/
theorem frame_KernelIdeal : Cert.quiescent_KernelIdeal := by
  intro m g _
  exact Cert.KernelIdeal.Gen.frame m g

/-- The same under the precondition. -/
theorem frame_KernelIdeal_pre_finite_gains : Cert.quiescent_KernelIdeal_pre_finite_gains := by
  intro m g _
  exact Cert.KernelIdeal.Gen.frame m g

/-- The reference runs and leaves its arguments. -/
theorem frame_ReferenceIdeal : Cert.quiescent_ReferenceIdeal := by
  intro m g _
  run_from Cert.ReferenceIdeal.Value.run m g
  · tauto
  · refine sem_eq_zero_of_no_sems ?_ _
    rfl

/-- The same under the precondition. -/
theorem frame_ReferenceIdeal_pre_finite_gains : Cert.quiescent_ReferenceIdeal_pre_finite_gains := by
  intro m g _
  run_from Cert.ReferenceIdeal.Value.run m g
  · tauto
  · refine sem_eq_zero_of_no_sems ?_ _
    rfl

/-- The input projection runs and leaves its arguments. -/
theorem frame_Proj : Cert.quiescent_Proj := by
  intro m g _
  exact Cert.Proj.Gen.frame m g

/-- So does its idealization. -/
theorem frame_ProjIdeal : Cert.quiescent_ProjIdeal := by
  intro m g _
  exact Cert.ProjIdeal.Gen.frame m g

/-- So does its reference. -/
theorem frame_ProjRefIdeal : Cert.quiescent_ProjRefIdeal := by
  intro m g _
  run_from Cert.ProjRefIdeal.Value.run m g
  · tauto
  · refine sem_eq_zero_of_no_sems ?_ _
    rfl

/-- The mixing call runs and leaves its arguments. -/
theorem frame_Mix : Cert.quiescent_Mix := by
  intro m g _
  exact Cert.Mix.Gen.frame m g

/-- So does its idealization. -/
theorem frame_MixIdeal : Cert.quiescent_MixIdeal := by
  intro m g _
  exact Cert.MixIdeal.Gen.frame m g

/-- So does its reference. -/
theorem frame_MixRefIdeal : Cert.quiescent_MixRefIdeal := by
  intro m g _
  run_from Cert.MixRefIdeal.Value.run m g
  · tauto
  · refine sem_eq_zero_of_no_sems ?_ _
    rfl

/-- The sample batch's input projection runs and leaves its arguments. -/
theorem frame_ProjS : Cert.quiescent_ProjS := by
  intro m g _
  exact Cert.ProjS.Gen.frame m g

/-- So does its idealization. -/
theorem frame_ProjSIdeal : Cert.quiescent_ProjSIdeal := by
  intro m g _
  exact Cert.ProjSIdeal.Gen.frame m g

/-- So does its reference. -/
theorem frame_ProjSRefIdeal : Cert.quiescent_ProjSRefIdeal := by
  intro m g _
  run_from Cert.ProjSRefIdeal.Value.run m g
  · tauto
  · refine sem_eq_zero_of_no_sems ?_ _
    rfl

/-- The sample batch's attention runs and leaves its arguments. -/
theorem frame_AttnS : Cert.quiescent_AttnS := by
  intro m g _
  exact Cert.AttnS.Gen.frame m g

/-- So does its idealization. -/
theorem frame_AttnSIdeal : Cert.quiescent_AttnSIdeal := by
  intro m g _
  exact Cert.AttnSIdeal.Gen.frame m g

/-- So does its reference. -/
theorem frame_AttnSRefIdeal : Cert.quiescent_AttnSRefIdeal := by
  intro m g _
  run_from Cert.AttnSRefIdeal.Value.run m g
  · tauto
  · refine sem_eq_zero_of_no_sems ?_ _
    rfl

/-- The modulation runs and leaves its arguments. -/
theorem frame_Ada : Cert.quiescent_Ada := by
  intro m g _
  exact Cert.Ada.Gen.frame m g

/-- So does its idealization. -/
theorem frame_AdaIdeal : Cert.quiescent_AdaIdeal := by
  intro m g _
  exact Cert.AdaIdeal.Gen.frame m g

/-- So does its reference. -/
theorem frame_AdaRefIdeal : Cert.quiescent_AdaRefIdeal := by
  intro m g _
  run_from Cert.AdaRefIdeal.Value.run m g
  · tauto
  · refine sem_eq_zero_of_no_sems ?_ _
    rfl

/-- The pooling runs and leaves its arguments. -/
theorem frame_Pool : Cert.quiescent_Pool := by
  intro m g _
  exact Cert.Pool.Gen.frame m g

/-- So does its idealization. -/
theorem frame_PoolIdeal : Cert.quiescent_PoolIdeal := by
  intro m g _
  exact Cert.PoolIdeal.Gen.frame m g

/-- So does its reference. -/
theorem frame_PoolRefIdeal : Cert.quiescent_PoolRefIdeal := by
  intro m g _
  run_from Cert.PoolRefIdeal.Value.run m g
  · tauto
  · refine sem_eq_zero_of_no_sems ?_ _
    rfl

/-- The sample batch's pooling runs and leaves its arguments. -/
theorem frame_PoolS : Cert.quiescent_PoolS := by
  intro m g _
  exact Cert.PoolS.Gen.frame m g

/-- So does its idealization. -/
theorem frame_PoolSIdeal : Cert.quiescent_PoolSIdeal := by
  intro m g _
  exact Cert.PoolSIdeal.Gen.frame m g

/-- So does its reference. -/
theorem frame_PoolSRefIdeal : Cert.quiescent_PoolSRefIdeal := by
  intro m g _
  run_from Cert.PoolSRefIdeal.Value.run m g
  · tauto
  · refine sem_eq_zero_of_no_sems ?_ _
    rfl

/-- The named mask is what the ledger says. -/
theorem preserves_Kernel : Cert.preserves_Kernel_KernelIdeal := by
  exact IdealRules.named_const.statement Cert.KernelIdeal.κ "mask" .f32 0xF149F2CA#32 ⊥ rfl

set_option maxHeartbeats 1600000 in
/-- The attention's two results are the reference's. -/
theorem algebraic_Kernel : Cert.algebraic_KernelIdeal_ReferenceIdeal_pre_finite_gains := by
  pair_intro
  · run_from Cert.KernelIdeal.Gen.run_main m g
  · run_from Cert.ReferenceIdeal.Value.run m' g'
    · rw [Cert.ReferenceIdeal.Read.val_main_v114_eq]
      simp only [hagree c]
      exact (Cert.KernelIdeal.Value.final_8 m hpre c).symm
    · exact (Cert.KernelIdeal.Value.final_9 m c).symm

/-- The idealization rewrites nothing. -/
theorem preserves_Proj : Cert.preserves_Proj_ProjIdeal := by
  trivial

set_option maxHeartbeats 1600000 in
/-- The results of the input projection are the reference's. -/
theorem algebraic_Proj : Cert.algebraic_ProjIdeal_ProjRefIdeal := by
  pair_intro
  · run_from Cert.ProjIdeal.Gen.run_main m g
  · run_from Cert.ProjRefIdeal.Value.run m' g'
    · exact (Cert.ProjIdeal.Value.final_5 m c).symm
    · exact (Cert.ProjIdeal.Value.final_6 m c).symm
    · exact (Cert.ProjIdeal.Value.final_7 m c).symm
    · exact (Cert.ProjIdeal.Value.final_8 m c).symm
    · exact (Cert.ProjIdeal.Value.final_9 m c).symm
    · exact (Cert.ProjIdeal.Value.final_10 m c).symm

/-- The idealization rewrites nothing. -/
theorem preserves_Mix : Cert.preserves_Mix_MixIdeal := by
  trivial

set_option maxHeartbeats 1600000 in
/-- The results of the mixing call are the reference's. -/
theorem algebraic_Mix : Cert.algebraic_MixIdeal_MixRefIdeal := by
  pair_intro
  · run_from Cert.MixIdeal.Gen.run_main m g
  · run_from Cert.MixRefIdeal.Value.run m' g'
    · exact (Cert.MixIdeal.Value.final_14 m c).symm
    · rw [Cert.MixRefIdeal.Read.val_main_v53_eq]
      simp only [hagree c]
      exact (Cert.MixIdeal.Value.final_15 m c).symm

/-- The idealization rewrites nothing. -/
theorem preserves_ProjS : Cert.preserves_ProjS_ProjSIdeal := by
  trivial

set_option maxHeartbeats 1600000 in
/-- The results of the sample batch's input projection are the reference's. -/
theorem algebraic_ProjS : Cert.algebraic_ProjSIdeal_ProjSRefIdeal := by
  pair_intro
  · run_from Cert.ProjSIdeal.Gen.run_main m g
    all_goals first
      | exact Cert.ProjSIdeal.Gen.W_main_arg0 m _ c
      | exact Cert.ProjSIdeal.Gen.W_main_arg1 m _ c
      | exact Cert.ProjSIdeal.Gen.W_main_arg2 m _ c
      | exact Cert.ProjSIdeal.Gen.W_main_arg3 m _ c
      | exact Cert.ProjSIdeal.Gen.W_main_arg4 m _ c
      | exact Cert.ProjSIdeal.Gen.W_main_arg5 m _ c
      | exact Cert.ProjSIdeal.Gen.W_main_arg6 m _ c
  · run_from Cert.ProjSRefIdeal.Value.run m' g'
    · exact (Cert.ProjSIdeal.Value.final_5 m c).symm
    · exact (Cert.ProjSIdeal.Value.final_6 m c).symm
    · exact (Cert.ProjSIdeal.Value.final_9 m c).symm
    · exact (Cert.ProjSIdeal.Value.final_10 m c).symm
    · rw [(hagree c).2.2.2.2.1, (hagree c).2.2.2.2.2.1]
      exact (Cert.ProjSIdeal.Value.tail_16 m c).symm
    · rw [(hagree c).2.2.2.2.1, (hagree c).2.2.2.2.2.2]
      exact (Cert.ProjSIdeal.Value.tail_17 m c).symm

/-- The idealization rewrites nothing. -/
theorem preserves_AttnS : Cert.preserves_AttnS_AttnSIdeal := by
  trivial

set_option maxHeartbeats 1600000 in
/-- The results of the sample batch's attention are the reference's. -/
theorem algebraic_AttnS : Cert.algebraic_AttnSIdeal_AttnSRefIdeal := by
  pair_intro
  · run_from Cert.AttnSIdeal.Gen.run_main m g
    all_goals first
      | exact Cert.AttnSIdeal.Gen.W_main_arg0 m _ c
      | exact Cert.AttnSIdeal.Gen.W_main_arg1 m _ c
      | exact Cert.AttnSIdeal.Gen.W_main_arg2 m _ c
      | exact Cert.AttnSIdeal.Gen.W_main_arg3 m _ c
      | exact Cert.AttnSIdeal.Gen.W_main_arg4 m _ c
      | exact Cert.AttnSIdeal.Gen.W_main_arg5 m _ c
      | exact Cert.AttnSIdeal.Gen.W_main_arg6 m _ c
      | exact Cert.AttnSIdeal.Gen.W_main_arg7 m _ c
  · run_from Cert.AttnSRefIdeal.Value.run m' g'
    · rw [Cert.AttnSRefIdeal.Read.val_main_v91_eq]
      simp only [hagree c]
      exact (Cert.AttnSIdeal.Value.final_8 m c).symm
    · rw [Cert.AttnSRefIdeal.Read.val_main_v93_eq]
      simp only [hagree c]
      exact (Cert.AttnSIdeal.Value.tail_16 m c).symm

/-- The idealization rewrites nothing. -/
theorem preserves_Ada : Cert.preserves_Ada_AdaIdeal := by
  trivial

set_option maxHeartbeats 1600000 in
/-- The results of the modulation are the reference's. -/
theorem algebraic_Ada : Cert.algebraic_AdaIdeal_AdaRefIdeal := by
  pair_intro
  · run_from Cert.AdaIdeal.Gen.run_main m g
  · run_from Cert.AdaRefIdeal.Value.run m' g'
    · rw [(hagree c).2.2.2]
      exact (Cert.AdaIdeal.Value.final_3 m c).symm

/-- The idealization rewrites nothing. -/
theorem preserves_Pool : Cert.preserves_Pool_PoolIdeal := by
  trivial

set_option maxHeartbeats 1600000 in
/-- The results of the pooling are the reference's. -/
theorem algebraic_Pool : Cert.algebraic_PoolIdeal_PoolRefIdeal := by
  pair_intro
  · run_from Cert.PoolIdeal.Gen.run_main m g
  · run_from Cert.PoolRefIdeal.Value.run m' g'
    · rw [Cert.PoolRefIdeal.Read.val_main_v52_eq]
      simp only [hagree c]
      exact (Cert.PoolIdeal.Value.final_2 m c).symm

/-- The idealization rewrites nothing. -/
theorem preserves_PoolS : Cert.preserves_PoolS_PoolSIdeal := by
  trivial

set_option maxHeartbeats 1600000 in
/-- The results of the sample batch's pooling are the reference's. -/
theorem algebraic_PoolS : Cert.algebraic_PoolSIdeal_PoolSRefIdeal := by
  pair_intro
  · run_from Cert.PoolSIdeal.Gen.run_main m g
  · run_from Cert.PoolSRefIdeal.Value.run m' g'
    · rw [Cert.PoolSRefIdeal.Read.val_main_v33_eq]
      simp only [hagree c]
      exact (Cert.PoolSIdeal.Value.final_2 m c).symm

/-- The whole claim. -/
theorem claim : Cert.Claim :=
  ⟨Cert.Kernel.Gen.facts, Cert.KernelIdeal.Gen.facts, Cert.ReferenceIdeal.Gen.facts, Cert.Proj.Gen.facts, Cert.ProjIdeal.Gen.facts, Cert.ProjRefIdeal.Gen.facts, Cert.Mix.Gen.facts, Cert.MixIdeal.Gen.facts, Cert.MixRefIdeal.Gen.facts, Cert.ProjS.Gen.facts, Cert.ProjSIdeal.Gen.facts, Cert.ProjSRefIdeal.Gen.facts, Cert.AttnS.Gen.facts, Cert.AttnSIdeal.Gen.facts, Cert.AttnSRefIdeal.Gen.facts, Cert.Ada.Gen.facts, Cert.AdaIdeal.Gen.facts, Cert.AdaRefIdeal.Gen.facts, Cert.Pool.Gen.facts, Cert.PoolIdeal.Gen.facts, Cert.PoolRefIdeal.Gen.facts, Cert.PoolS.Gen.facts, Cert.PoolSIdeal.Gen.facts, Cert.PoolSRefIdeal.Gen.facts, Cert.Pre_finite_gains.Gen.facts,
    frame_Kernel, frame_KernelIdeal, frame_KernelIdeal_pre_finite_gains, frame_ReferenceIdeal, frame_ReferenceIdeal_pre_finite_gains, frame_Proj, frame_ProjIdeal, frame_ProjRefIdeal, frame_Mix, frame_MixIdeal, frame_MixRefIdeal, frame_ProjS, frame_ProjSIdeal, frame_ProjSRefIdeal, frame_AttnS, frame_AttnSIdeal, frame_AttnSRefIdeal, frame_Ada, frame_AdaIdeal, frame_AdaRefIdeal, frame_Pool, frame_PoolIdeal, frame_PoolRefIdeal, frame_PoolS, frame_PoolSIdeal, frame_PoolSRefIdeal, preserves_Kernel, algebraic_Kernel, preserves_Proj, algebraic_Proj, preserves_Mix, algebraic_Mix, preserves_ProjS, algebraic_ProjS, preserves_AttnS, algebraic_AttnS, preserves_Ada, algebraic_Ada, preserves_Pool, algebraic_Pool, preserves_PoolS, algebraic_PoolS⟩

end Cert.Proof

end
